-- ==== Defs.lean ====
def Pre_Kernel [hPre_groups_exist : Cert.Pre_groups_exist.Facts] (m : (ℓ : Loc Cert.Kernel.nD Cert.Kernel.τ Cert.Kernel.sig) → Buf (Elt Bits) ℓ) : Prop :=
  ∀ c : Dev Cert.Kernel.nD,
    (Cert.Pre_groups_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_groups_exist : Cert.Pre_groups_exist.Facts] (m : (ℓ : Loc Cert.KernelIdeal.nD Cert.KernelIdeal.τ Cert.KernelIdeal.sig) → Buf (Elt Ideal) ℓ) : Prop :=
  ∀ c : Dev Cert.KernelIdeal.nD,
    (Cert.Pre_groups_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_exist [hPre_groups_exist : Cert.Pre_groups_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_groups_exist : Cert.Pre_groups_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_groups_exist : Cert.Pre_groups_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_groups_exist [hReferenceIdeal : Cert.ReferenceIdeal.Facts] [hPre_groups_exist : Cert.Pre_groups_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S2080x2x128 Cert.KernelIdeal.S2080x1x128
  ∧ IdealRules.bf16_pair.BufferStatement Cert.KernelIdeal.S10304x2x128 Cert.KernelIdeal.S10304x1x128
  ∧ IdealRules.bf16_pair.PackStatement Cert.KernelIdeal.S8x128
  ∧ IdealRules.bf16_pair.Statement Cert.KernelIdeal.S8x2x128 Cert.KernelIdeal.S8x1x128
  ∧ IdealRules.bf16_pair.Statement Cert.KernelIdeal.S16x128 Cert.KernelIdeal.S8x128
  ∧ IdealRules.bf16_pair.Statement Cert.KernelIdeal.S640x2x128 Cert.KernelIdeal.S640x1x128
  ∧ IdealRules.bf16_pair.Statement Cert.KernelIdeal.S1280x128 Cert.KernelIdeal.S640x128

def algebraic_KernelIdeal_ReferenceIdeal [hKernelIdeal : Cert.KernelIdeal.Facts] [hReferenceIdeal : Cert.ReferenceIdeal.Facts] [hPre_groups_exist : Cert.Pre_groups_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_groups_exist : Cert.Pre_groups_exist.Facts),
    quiescent_Kernel (hKernel := hKernel) (hPre_groups_exist := hPre_groups_exist)
    ∧ quiescent_KernelIdeal (hKernelIdeal := hKernelIdeal) (hPre_groups_exist := hPre_groups_exist)
    ∧ quiescent_ReferenceIdeal (hReferenceIdeal := hReferenceIdeal)
    ∧ quiescent_ReferenceIdeal_pre_groups_exist (hReferenceIdeal := hReferenceIdeal) (hPre_groups_exist := hPre_groups_exist)
    ∧ preserves_Kernel_KernelIdeal
    ∧ algebraic_KernelIdeal_ReferenceIdeal (hKernelIdeal := hKernelIdeal) (hReferenceIdeal := hReferenceIdeal) (hPre_groups_exist := hPre_groups_exist)
-- ==== Pre_groups_exist.lean ====
abbrev S192x1x5120 : Shape := ⟨3, ![192, 1, 5120]⟩
abbrev S512x27648 : Shape := ⟨2, ![512, 27648]⟩
abbrev S40x27648 : Shape := ⟨2, ![40, 27648]⟩
abbrev S40x2765 : Shape := ⟨2, ![40, 2765]⟩
abbrev S5120 : Shape := ⟨1, ![5120]⟩
abbrev S_ : Shape := ⟨0, ![]⟩

class Facts : Prop where
  bcast_S_S5120 : S_.BroadcastsInDim S5120 (![] : Fin 0 → Fin S5120.rank)
  reducesTo_S5120_S_d0 : S5120.ReducesTo [0] S_
  h_S_ : 0 < S_.numel

variable [Facts]

def fn {F : FTy → Type} [FloatOps F] (main_arg0 : FVec F S192x1x5120 .bf16) (main_arg1 : IVec S512x27648 32) (main_arg2 : FVec F S40x27648 .bf16) (main_arg3 : IVec S40x2765 32) (main_arg4 : IVec S5120 32) : IVec S_ 1 :=
  let main_c : IVec S_ 32 := constantI S_ 32 0#32
  let main_v0 : IVec S5120 32 := broadcastInDim S5120 ![] bcast_S_S5120 main_c
  let main_v1 : IVec S5120 1 := cmpi .sge main_arg4 main_v0
  let main_c_0 : IVec S_ 32 := constantI S_ 32 40#32
  let main_v2 : IVec S5120 32 := broadcastInDim S5120 ![] bcast_S_S5120 main_c_0
  let main_v3 : IVec S5120 1 := cmpi .slt main_arg4 main_v2
  let main_v4 : IVec S5120 1 := andi main_v1 main_v3
  let main_c_1 : IVec S_ 1 := constantI S_ 1 1#1
  let main_v5 : IVec S_ 1 := (fun x v => Host.reduce IntOp.andi x v reducesTo_S5120_S_d0 h_S_) main_v4 main_c_1
  main_v5
-- ==== Kernel.lean ====
abbrev S192x1x5120 : Shape := ⟨3, ![192, 1, 5120]⟩
abbrev S512x27648 : Shape := ⟨2, ![512, 27648]⟩
abbrev S40x27648 : Shape := ⟨2, ![40, 27648]⟩
abbrev S40x2765 : Shape := ⟨2, ![40, 2765]⟩
abbrev S5120 : Shape := ⟨1, ![5120]⟩
abbrev S192x4x128x2x5 : Shape := ⟨5, ![192, 4, 128, 2, 5]⟩
abbrev S4x192x5x128x2 : Shape := ⟨5, ![4, 192, 5, 128, 2]⟩
abbrev S4x192x1280 : Shape := ⟨3, ![4, 192, 1280]⟩
abbrev S10 : Shape := ⟨1, ![10]⟩
abbrev S_ : Shape := ⟨0, ![]⟩
abbrev S40x1x2765 : Shape := ⟨3, ![40, 1, 2765]⟩
abbrev S1x10x1 : Shape := ⟨3, ![1, 10, 1]⟩
abbrev S40x10x2765 : Shape := ⟨3, ![40, 10, 2765]⟩
abbrev S40x27650 : Shape := ⟨2, ![40, 27650]⟩
abbrev S192x27648 : Shape := ⟨2, ![192, 27648]⟩
abbrev S128x2048 : Shape := ⟨2, ![128, 2048]⟩
abbrev S40x2048 : Shape := ⟨2, ![40, 2048]⟩
abbrev S192x2048 : Shape := ⟨2, ![192, 2048]⟩
abbrev S2080x128 : Shape := ⟨2, ![2080, 128]⟩
abbrev S2560x128 : Shape := ⟨2, ![2560, 128]⟩
abbrev S10304x128 : Shape := ⟨2, ![10304, 128]⟩
abbrev S16x128 : Shape := ⟨2, ![16, 128]⟩
abbrev S8x128 : Shape := ⟨2, ![8, 128]⟩
abbrev S1 : Shape := ⟨1, ![1]⟩
abbrev S640x128 : Shape := ⟨2, ![640, 128]⟩
abbrev S1280x128 : Shape := ⟨2, ![1280, 128]⟩
abbrev S1280x256 : Shape := ⟨2, ![1280, 256]⟩
abbrev S1x192x1280 : Shape := ⟨3, ![1, 192, 1280]⟩
abbrev S192x1280 : Shape := ⟨2, ![192, 1280]⟩
abbrev S192x256 : Shape := ⟨2, ![192, 256]⟩

abbrev nBuf : Space → Nat
  | .hbm => 30
  | .vmem => 14
  | .smem => 1
  | _ => 0

abbrev bufTy : (tb : Table) → Fin (tcTables nBuf tb) → BufTy
  | .hbm, ⟨0, _⟩ => ⟨S192x1x5120, .bf16⟩
  | .hbm, ⟨1, _⟩ => ⟨S512x27648, .i32⟩
  | .hbm, ⟨2, _⟩ => ⟨S40x27648, .bf16⟩
  | .hbm, ⟨3, _⟩ => ⟨S40x2765, .i32⟩
  | .hbm, ⟨4, _⟩ => ⟨S5120, .i32⟩
  | .hbm, ⟨5, _⟩ => ⟨S192x4x128x2x5, .bf16⟩
  | .hbm, ⟨6, _⟩ => ⟨S4x192x5x128x2, .bf16⟩
  | .hbm, ⟨7, _⟩ => ⟨S4x192x1280, .bf16⟩
  | .hbm, ⟨8, _⟩ => ⟨S192x4x128x2x5, .bf16⟩
  | .hbm, ⟨9, _⟩ => ⟨S4x192x5x128x2, .bf16⟩
  | .hbm, ⟨10, _⟩ => ⟨S4x192x1280, .bf16⟩
  | .hbm, ⟨11, _⟩ => ⟨S10, .i32⟩
  | .hbm, ⟨12, _⟩ => ⟨S_, .i32⟩
  | .hbm, ⟨13, _⟩ => ⟨S10, .i32⟩
  | .hbm, ⟨14, _⟩ => ⟨S10, .i32⟩
  | .hbm, ⟨15, _⟩ => ⟨S40x1x2765, .i32⟩
  | .hbm, ⟨16, _⟩ => ⟨S1x10x1, .i32⟩
  | .hbm, ⟨17, _⟩ => ⟨S40x10x2765, .i32⟩
  | .hbm, ⟨18, _⟩ => ⟨S40x10x2765, .i32⟩
  | .hbm, ⟨19, _⟩ => ⟨S40x10x2765, .i32⟩
  | .hbm, ⟨20, _⟩ => ⟨S_, .i32⟩
  | .hbm, ⟨21, _⟩ => ⟨S40x10x2765, .i32⟩
  | .hbm, ⟨22, _⟩ => ⟨S40x10x2765, .i32⟩
  | .hbm, ⟨23, _⟩ => ⟨S40x27650, .i32⟩
  | .hbm, ⟨24, _⟩ => ⟨S40x27648, .i32⟩
  | .hbm, ⟨25, _⟩ => ⟨S40x27648, .f32⟩
  | .hbm, ⟨26, _⟩ => ⟨S_, .i32⟩
  | .hbm, ⟨27, _⟩ => ⟨S5120, .i32⟩
  | .hbm, ⟨28, _⟩ => ⟨S40x27648, .f32⟩
  | .hbm, ⟨29, _⟩ => ⟨S192x27648, .bf16⟩
  | .local _ .vmem, ⟨0, _⟩ => ⟨S128x2048, .i32⟩
  | .local _ .vmem, ⟨1, _⟩ => ⟨S128x2048, .i32⟩
  | .local _ .vmem, ⟨2, _⟩ => ⟨S40x2048, .f32⟩
  | .local _ .vmem, ⟨3, _⟩ => ⟨S40x2048, .f32⟩
  | .local _ .vmem, ⟨4, _⟩ => ⟨S40x2048, .f32⟩
  | .local _ .vmem, ⟨5, _⟩ => ⟨S40x2048, .f32⟩
  | .local _ .vmem, ⟨6, _⟩ => ⟨S4x192x1280, .bf16⟩
  | .local _ .vmem, ⟨7, _⟩ => ⟨S4x192x1280, .bf16⟩
  | .local _ .vmem, ⟨8, _⟩ => ⟨S192x2048, .bf16⟩
  | .local _ .vmem, ⟨9, _⟩ => ⟨S192x2048, .bf16⟩
  | .local _ .vmem, ⟨10, _⟩ => ⟨S2080x128, .i32⟩
  | .local _ .vmem, ⟨11, _⟩ => ⟨S2560x128, .i32⟩
  | .local _ .vmem, ⟨12, _⟩ => ⟨S10304x128, .i32⟩
  | .local _ .vmem, ⟨13, _⟩ => ⟨S192x2048, .f32⟩
  | .local _ .smem, ⟨0, _⟩ => ⟨S5120, .i32⟩
  | _, _ => ⟨S192x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v21 : Ref sig .tc := ⟨.hbm, 28, rfl⟩
abbrev main_v22 : Ref sig .tc := ⟨.hbm, 29, rfl⟩
abbrev main_v20 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨2, ![14, 4], ![false, false]⟩

abbrev pre0 : Pipeline.Prefetch sig := ⟨1, ![main_v20.idx], fun | 0 => main_v20.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_0 : BitVec 32 := 0#32
  let v7 : BitVec 1 := Scalar.cmpi .ne v6 c0_i32_0
  v7

@[reducible] def k0_t1_loop : Scf.Loop 32 :=
  let c0_i32_78 : BitVec 32 := 0#32
  let c5_i32 : BitVec 32 := 5#32
  let v133 : BitVec 32 := Scalar.addi c0_i32_78 c5_i32
  let c1_i32_79 : BitVec 32 := 1#32
  ⟨c0_i32_78, v133, c1_i32_79⟩
def k0_off1 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v135 : Index := Scalar.indexCast v134
  let c0_81 : Index := 0#32
  ![v135.toNat, 0]
def k0_off2 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v138 : Index := Scalar.indexCast v134
  let c1024 : Index := 1024#32
  ![v138.toNat, 1024]
def k0_off3 (k0_t1 : Fin k0_t1_loop.trips) (c0_i32_82 : BitVec 32) (c0_i32_83 : BitVec 32) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let c52_i32 : BitVec 32 := 52#32
  let v143 : BitVec 32 := Scalar.muli v134 c52_i32
  let v144 : BitVec 32 := Scalar.addi v143 c0_i32_82
  let v145 : BitVec 32 := Scalar.addi v144 c0_i32_83
  let v146 : Index := Scalar.indexCast v145
  let c0_84 : Index := 0#32
  ![v146.toNat, 0]
def k0_off4 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v197 : Index := Scalar.indexCast v134
  let c128 : Index := 128#32
  ![v197.toNat, 128]
def k0_off5 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v200 : Index := Scalar.indexCast v134
  let c1152 : Index := 1152#32
  ![v200.toNat, 1152]
def k0_off6 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v259 : Index := Scalar.indexCast v134
  let c256 : Index := 256#32
  ![v259.toNat, 256]
def k0_off7 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v262 : Index := Scalar.indexCast v134
  let c1280 : Index := 1280#32
  ![v262.toNat, 1280]
def k0_off8 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v321 : Index := Scalar.indexCast v134
  let c384 : Index := 384#32
  ![v321.toNat, 384]
def k0_off9 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v324 : Index := Scalar.indexCast v134
  let c1408 : Index := 1408#32
  ![v324.toNat, 1408]
def k0_off10 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v383 : Index := Scalar.indexCast v134
  let c512 : Index := 512#32
  ![v383.toNat, 512]
def k0_off11 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v386 : Index := Scalar.indexCast v134
  let c1536 : Index := 1536#32
  ![v386.toNat, 1536]
def k0_off12 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v445 : Index := Scalar.indexCast v134
  let c640 : Index := 640#32
  ![v445.toNat, 640]
def k0_off13 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v448 : Index := Scalar.indexCast v134
  let c1664 : Index := 1664#32
  ![v448.toNat, 1664]
def k0_off14 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v507 : Index := Scalar.indexCast v134
  let c768 : Index := 768#32
  ![v507.toNat, 768]
def k0_off15 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v510 : Index := Scalar.indexCast v134
  let c1792 : Index := 1792#32
  ![v510.toNat, 1792]
def k0_off16 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v569 : Index := Scalar.indexCast v134
  let c896 : Index := 896#32
  ![v569.toNat, 896]
def k0_off17 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v572 : Index := Scalar.indexCast v134
  let c1920 : Index := 1920#32
  ![v572.toNat, 1920]
@[reducible] def k0_t2_loop : Scf.Loop 32 :=
  let c0_i32_1 : BitVec 32 := 0#32
  let c16_i32 : BitVec 32 := 16#32
  let v8 : BitVec 32 := Scalar.addi c0_i32_1 c16_i32
  let c1_i32 : BitVec 32 := 1#32
  ⟨c0_i32_1, v8, c1_i32⟩
def k0_off18 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v134 : Index := Scalar.indexCast v133
  let c0_78 : Index := 0#32
  ![v134.toNat, 0]
def k0_off19 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v136 : Index := Scalar.indexCast v133
  let c1024 : Index := 1024#32
  ![v136.toNat, 1024]
def k0_off20 (k0_t2 : Fin k0_t2_loop.trips) (c0_i32_81 : BitVec 32) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let c20_i32 : BitVec 32 := 20#32
  let v151 : BitVec 32 := Scalar.muli v133 c20_i32
  let v152 : BitVec 32 := Scalar.addi v151 c0_i32_81
  let v153 : Index := Scalar.indexCast v152
  let c0_82 : Index := 0#32
  ![v153.toNat, 0]
def k0_off21 (k0_t2 : Fin k0_t2_loop.trips) (c0_i32_85 : BitVec 32) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let c20_i32_83 : BitVec 32 := 20#32
  let v158 : BitVec 32 := Scalar.muli v133 c20_i32_83
  let c8_i32_84 : BitVec 32 := 8#32
  let v159 : BitVec 32 := Scalar.addi v158 c8_i32_84
  let v160 : BitVec 32 := Scalar.addi v159 c0_i32_85
  let v161 : Index := Scalar.indexCast v160
  let c0_86 : Index := 0#32
  ![v161.toNat, 0]
def k0_off22 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v165 : Index := Scalar.indexCast v133
  let c128 : Index := 128#32
  ![v165.toNat, 128]
def k0_off23 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v167 : Index := Scalar.indexCast v133
  let c1152 : Index := 1152#32
  ![v167.toNat, 1152]
def k0_off24 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v196 : Index := Scalar.indexCast v133
  let c256 : Index := 256#32
  ![v196.toNat, 256]
def k0_off25 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v198 : Index := Scalar.indexCast v133
  let c1280 : Index := 1280#32
  ![v198.toNat, 1280]
def k0_off26 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v227 : Index := Scalar.indexCast v133
  let c384 : Index := 384#32
  ![v227.toNat, 384]
def k0_off27 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v229 : Index := Scalar.indexCast v133
  let c1408 : Index := 1408#32
  ![v229.toNat, 1408]
def k0_off28 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v258 : Index := Scalar.indexCast v133
  let c512 : Index := 512#32
  ![v258.toNat, 512]
def k0_off29 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v260 : Index := Scalar.indexCast v133
  let c1536 : Index := 1536#32
  ![v260.toNat, 1536]
def k0_off30 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v289 : Index := Scalar.indexCast v133
  let c640 : Index := 640#32
  ![v289.toNat, 640]
def k0_off31 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v291 : Index := Scalar.indexCast v133
  let c1664 : Index := 1664#32
  ![v291.toNat, 1664]
def k0_off32 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v320 : Index := Scalar.indexCast v133
  let c768 : Index := 768#32
  ![v320.toNat, 768]
def k0_off33 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v322 : Index := Scalar.indexCast v133
  let c1792 : Index := 1792#32
  ![v322.toNat, 1792]
def k0_off34 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v351 : Index := Scalar.indexCast v133
  let c896 : Index := 896#32
  ![v351.toNat, 896]
def k0_off35 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v353 : Index := Scalar.indexCast v133
  let c1920 : Index := 1920#32
  ![v353.toNat, 1920]
@[reducible] def k0_t3_loop : Scf.Loop 32 :=
  let c0_i32_3 : BitVec 32 := 0#32
  let c128_i32 : BitVec 32 := 128#32
  let v9 : BitVec 32 := Scalar.addi c0_i32_3 c128_i32
  let c1_i32_4 : BitVec 32 := 1#32
  ⟨c0_i32_3, v9, c1_i32_4⟩
def k0_off36 (k0_t3 : Fin k0_t3_loop.trips) : Fin 2 → Nat :=
  let c0_i32_3 : BitVec 32 := 0#32
  let c1_i32_4 : BitVec 32 := 1#32
  let arg13 : BitVec 32 := Scf.iv c0_i32_3 c1_i32_4 k0_t3
  let c20_i32 : BitVec 32 := 20#32
  let v133 : BitVec 32 := Scalar.muli arg13 c20_i32
  let v134 : Index := Scalar.indexCast v133
  let c0_78 : Index := 0#32
  ![v134.toNat, 0]
def k0_off37 (k0_t3 : Fin k0_t3_loop.trips) : Fin 2 → Nat :=
  let c0_i32_3 : BitVec 32 := 0#32
  let c1_i32_4 : BitVec 32 := 1#32
  let arg13 : BitVec 32 := Scf.iv c0_i32_3 c1_i32_4 k0_t3
  let c20_i32_79 : BitVec 32 := 20#32
  let v136 : BitVec 32 := Scalar.muli arg13 c20_i32_79
  let c8_i32 : BitVec 32 := 8#32
  let v137 : BitVec 32 := Scalar.addi v136 c8_i32
  let v138 : Index := Scalar.indexCast v137
  let c0_80 : Index := 0#32
  ![v138.toNat, 0]
def k0_off38 (i : grid0.Coords) (k0_t3 : Fin k0_t3_loop.trips) : Fin 1 → Nat :=
  let arg1 : BitVec 32 := BitVec.ofNat 32 (i 1).val
  let c128_i32_81 : BitVec 32 := 128#32
  let v140 : BitVec 32 := Scalar.muli arg1 c128_i32_81
  let c0_i32_3 : BitVec 32 := 0#32
  let c1_i32_4 : BitVec 32 := 1#32
  let arg13 : BitVec 32 := Scf.iv c0_i32_3 c1_i32_4 k0_t3
  let v141 : BitVec 32 := Scalar.addi v140 arg13
  let c10_i32 : BitVec 32 := 10#32
  let v142 : BitVec 32 := Scalar.muli v141 c10_i32
  let c0_i32_82 : BitVec 32 := 0#32
  let v143 : BitVec 32 := Scalar.addi v142 c0_i32_82
  let v144 : Index := Scalar.indexCast v143
  ![v144.toNat]
def k0_off39 (i : grid0.Coords) (k0_t3 : Fin k0_t3_loop.trips) : Fin 1 → Nat :=
  let arg1 : BitVec 32 := BitVec.ofNat 32 (i 1).val
  let c128_i32_81 : BitVec 32 := 128#32
  let v140 : BitVec 32 := Scalar.muli arg1 c128_i32_81
  let c0_i32_3 : BitVec 32 := 0#32
  let c1_i32_4 : BitVec 32 := 1#32
  let arg13 : BitVec 32 := Scf.iv c0_i32_3 c1_i32_4 k0_t3
  let v141 : BitVec 32 := Scalar.addi v140 arg13
  let c10_i32 : BitVec 32 := 10#32
  let v142 : BitVec 32 := Scalar.muli v141 c10_i32
  let c0_i32_82 : BitVec 32 := 0#32
  let v143 : BitVec 32 := Scalar.addi v142 c0_i32_82
  let c5_i32 : BitVec 32 := 5#32
  let v146 : BitVec 32 := Scalar.addi v143 c5_i32
  let v147 : Index := Scalar.indexCast v146
  ![v147.toNat]
def k0_off40 (v145 : BitVec 32) (c0_i32_83 : BitVec 32) : Fin 2 → Nat :=
  let v154 : BitVec 32 := Scalar.addi v145 c0_i32_83
  let v155 : Index := Scalar.indexCast v154
  let c0_84 : Index := 0#32
  ![v155.toNat, 0]

def k0_chk1 (v145 : BitVec 32) : Prop :=
  (∀ (r : Fin 2), ∀ a, (k0_off40 v145 (BitVec.ofNat 32 (8 * r.val))) a + S8x128.size a ≤ S2080x128.size a)
theorem k0_off40_inb : ∀ (v145 : BitVec 32) (k0_hw1 : k0_chk1 v145), ∀ (r : Fin 2), ∀ a, (k0_off40 v145 (BitVec.ofNat 32 (8 * r.val))) a + S8x128.size a ≤ S2080x128.size a := fun v145 k0_hw1 r => k0_hw1 r

def k0_off41 (v148 : BitVec 32) (c24_i32 : BitVec 32) : Fin 2 → Nat :=
  let v169 : BitVec 32 := Scalar.addi v148 c24_i32
  let v170 : Index := Scalar.indexCast v169
  let c0_89 : Index := 0#32
  ![v170.toNat, 0]

def k0_chk2 (v148 : BitVec 32) : Prop :=
  (∀ (r : Fin 2), ∀ a, (k0_off41 v148 (BitVec.ofNat 32 (24 + 8 * r.val))) a + S8x128.size a ≤ S2080x128.size a)
theorem k0_off41_inb : ∀ (v148 : BitVec 32) (k0_hw2 : k0_chk2 v148), ∀ (r : Fin 2), ∀ a, (k0_off41 v148 (BitVec.ofNat 32 (24 + 8 * r.val))) a + S8x128.size a ≤ S2080x128.size a := fun v148 k0_hw2 r => k0_hw2 r

def k0_off42 (k0_t3 : Fin k0_t3_loop.trips) : Fin 2 → Nat :=
  let c0_i32_91 : BitVec 32 := 0#32
  let c0_i32_3 : BitVec 32 := 0#32
  let c1_i32_4 : BitVec 32 := 1#32
  let arg13 : BitVec 32 := Scf.iv c0_i32_3 c1_i32_4 k0_t3
  let v181 : BitVec 32 := Scalar.addi c0_i32_91 arg13
  let v183 : Index := Scalar.indexCast v181
  let c0_92 : Index := 0#32
  ![v183.toNat, 0]
def k0_off43 (k0_t3 : Fin k0_t3_loop.trips) : Fin 2 → Nat :=
  let c5152_i32 : BitVec 32 := 5152#32
  let c0_i32_91 : BitVec 32 := 0#32
  let c0_i32_3 : BitVec 32 := 0#32
  let c1_i32_4 : BitVec 32 := 1#32
  let arg13 : BitVec 32 := Scf.iv c0_i32_3 c1_i32_4 k0_t3
  let v181 : BitVec 32 := Scalar.addi c0_i32_91 arg13
  let v188 : BitVec 32 := Scalar.addi c5152_i32 v181
  let v189 : Index := Scalar.indexCast v188
  let c0_93 : Index := 0#32
  ![v189.toNat, 0]
def k0_off44 (i : grid0.Coords) (k0_t3 : Fin k0_t3_loop.trips) : Fin 1 → Nat :=
  let arg1 : BitVec 32 := BitVec.ofNat 32 (i 1).val
  let c128_i32_94 : BitVec 32 := 128#32
  let v193 : BitVec 32 := Scalar.muli arg1 c128_i32_94
  let c0_i32_3 : BitVec 32 := 0#32
  let c1_i32_4 : BitVec 32 := 1#32
  let arg13 : BitVec 32 := Scf.iv c0_i32_3 c1_i32_4 k0_t3
  let v194 : BitVec 32 := Scalar.addi v193 arg13
  let c10_i32_95 : BitVec 32 := 10#32
  let v195 : BitVec 32 := Scalar.muli v194 c10_i32_95
  let c1_i32_96 : BitVec 32 := 1#32
  let v196 : BitVec 32 := Scalar.addi v195 c1_i32_96
  let v197 : Index := Scalar.indexCast v196
  ![v197.toNat]
def k0_off45 (i : grid0.Coords) (k0_t3 : Fin k0_t3_loop.trips) : Fin 1 → Nat :=
  let arg1 : BitVec 32 := BitVec.ofNat 32 (i 1).val
  let c128_i32_94 : BitVec 32 := 128#32
  let v193 : BitVec 32 := Scalar.muli arg1 c128_i32_94
  let c0_i32_3 : BitVec 32 := 0#32
  let c1_i32_4 : BitVec 32 := 1#32
  let arg13 : BitVec 32 := Scf.iv c0_i32_3 c1_i32_4 k0_t3
  let v194 : BitVec 32 := Scalar.addi v193 arg13
  let c10_i32_95 : BitVec 32 := 10#32
  let v195 : BitVec 32 := Scalar.muli v194 c10_i32_95
  let c1_i32_96 : BitVec 32 := 1#32
  let v196 : BitVec 32 := Scalar.addi v195 c1_i32_96
  let c5_i32_97 : BitVec 32 := 5#32
  let v199 : BitVec 32 := Scalar.addi v196 c5_i32_97
  let v200 : Index := Scalar.indexCast v199
  ![v200.toNat]
def k0_off46 (v198 : BitVec 32) (c0_i32_98 : BitVec 32) : Fin 2 → Nat :=
  let v207 : BitVec 32 := Scalar.addi v198 c0_i32_98
  let v208 : Index := Scalar.indexCast v207
  let c0_99 : Index := 0#32
  ![v208.toNat, 0]

def k0_chk3 (v198 : BitVec 32) : Prop :=
  (∀ (r : Fin 2), ∀ a, (k0_off46 v198 (BitVec.ofNat 32 (16 * r.val))) a + S8x128.size a ≤ S2080x128.size a)
theorem k0_off46_inb : ∀ (v198 : BitVec 32) (k0_hw3 : k0_chk3 v198), ∀ (r : Fin 2), ∀ a, (k0_off46 v198 (BitVec.ofNat 32 (16 * r.val))) a + S8x128.size a ≤ S2080x128.size a := fun v198 k0_hw3 r => k0_hw3 r

def k0_off47 (v201 : BitVec 32) (c24_i32_104 : BitVec 32) : Fin 2 → Nat :=
  let v222 : BitVec 32 := Scalar.addi v201 c24_i32_104
  let v223 : Index := Scalar.indexCast v222
  let c0_105 : Index := 0#32
  ![v223.toNat, 0]

def k0_chk4 (v201 : BitVec 32) : Prop :=
  (∀ (r : Fin 2), ∀ a, (k0_off47 v201 (BitVec.ofNat 32 (24 + 16 * r.val))) a + S8x128.size a ≤ S2080x128.size a)
theorem k0_off47_inb : ∀ (v201 : BitVec 32) (k0_hw4 : k0_chk4 v201), ∀ (r : Fin 2), ∀ a, (k0_off47 v201 (BitVec.ofNat 32 (24 + 16 * r.val))) a + S8x128.size a ≤ S2080x128.size a := fun v201 k0_hw4 r => k0_hw4 r

def k0_off48 (k0_t3 : Fin k0_t3_loop.trips) : Fin 2 → Nat :=
  let c128_i32_107 : BitVec 32 := 128#32
  let c0_i32_3 : BitVec 32 := 0#32
  let c1_i32_4 : BitVec 32 := 1#32
  let arg13 : BitVec 32 := Scf.iv c0_i32_3 c1_i32_4 k0_t3
  let v234 : BitVec 32 := Scalar.addi c128_i32_107 arg13
  let v236 : Index := Scalar.indexCast v234
  let c0_108 : Index := 0#32
  ![v236.toNat, 0]
def k0_off49 (k0_t3 : Fin k0_t3_loop.trips) : Fin 2 → Nat :=
  let c5152_i32_109 : BitVec 32 := 5152#32
  let c128_i32_107 : BitVec 32 := 128#32
  let c0_i32_3 : BitVec 32 := 0#32
  let c1_i32_4 : BitVec 32 := 1#32
  let arg13 : BitVec 32 := Scf.iv c0_i32_3 c1_i32_4 k0_t3
  let v234 : BitVec 32 := Scalar.addi c128_i32_107 arg13
  let v241 : BitVec 32 := Scalar.addi c5152_i32_109 v234
  let v242 : Index := Scalar.indexCast v241
  let c0_110 : Index := 0#32
  ![v242.toNat, 0]
def k0_off50 (i : grid0.Coords) (k0_t3 : Fin k0_t3_loop.trips) : Fin 1 → Nat :=
  let arg1 : BitVec 32 := BitVec.ofNat 32 (i 1).val
  let c128_i32_111 : BitVec 32 := 128#32
  let v246 : BitVec 32 := Scalar.muli arg1 c128_i32_111
  let c0_i32_3 : BitVec 32 := 0#32
  let c1_i32_4 : BitVec 32 := 1#32
  let arg13 : BitVec 32 := Scf.iv c0_i32_3 c1_i32_4 k0_t3
  let v247 : BitVec 32 := Scalar.addi v246 arg13
  let c10_i32_112 : BitVec 32 := 10#32
  let v248 : BitVec 32 := Scalar.muli v247 c10_i32_112
  let c2_i32 : BitVec 32 := 2#32
  let v249 : BitVec 32 := Scalar.addi v248 c2_i32
  let v250 : Index := Scalar.indexCast v249
  ![v250.toNat]
def k0_off51 (i : grid0.Coords) (k0_t3 : Fin k0_t3_loop.trips) : Fin 1 → Nat :=
  let arg1 : BitVec 32 := BitVec.ofNat 32 (i 1).val
  let c128_i32_111 : BitVec 32 := 128#32
  let v246 : BitVec 32 := Scalar.muli arg1 c128_i32_111
  let c0_i32_3 : BitVec 32 := 0#32
  let c1_i32_4 : BitVec 32 := 1#32
  let arg13 : BitVec 32 := Scf.iv c0_i32_3 c1_i32_4 k0_t3
  let v247 : BitVec 32 := Scalar.addi v246 arg13
  let c10_i32_112 : BitVec 32 := 10#32
  let v248 : BitVec 32 := Scalar.muli v247 c10_i32_112
  let c2_i32 : BitVec 32 := 2#32
  let v249 : BitVec 32 := Scalar.addi v248 c2_i32
  let c5_i32_113 : BitVec 32 := 5#32
  let v252 : BitVec 32 := Scalar.addi v249 c5_i32_113
  let v253 : Index := Scalar.indexCast v252
  ![v253.toNat]
def k0_off52 (v251 : BitVec 32) (c0_i32_116 : BitVec 32) : Fin 2 → Nat :=
  let v262 : BitVec 32 := Scalar.addi v251 c0_i32_116
  let v263 : Index := Scalar.indexCast v262
  let c0_117 : Index := 0#32
  ![v263.toNat, 0]

def k0_chk5 (v251 : BitVec 32) : Prop :=
  (∀ (r : Fin 2), ∀ a, (k0_off52 v251 (BitVec.ofNat 32 (8 * r.val))) a + S8x128.size a ≤ S2080x128.size a)
theorem k0_off52_inb : ∀ (v251 : BitVec 32) (k0_hw5 : k0_chk5 v251), ∀ (r : Fin 2), ∀ a, (k0_off52 v251 (BitVec.ofNat 32 (8 * r.val))) a + S8x128.size a ≤ S2080x128.size a := fun v251 k0_hw5 r => k0_hw5 r

def k0_off53 (v254 : BitVec 32) (c24_i32_123 : BitVec 32) : Fin 2 → Nat :=
  let v279 : BitVec 32 := Scalar.addi v254 c24_i32_123
  let v280 : Index := Scalar.indexCast v279
  let c0_124 : Index := 0#32
  ![v280.toNat, 0]

def k0_chk6 (v254 : BitVec 32) : Prop :=
  (∀ (r : Fin 2), ∀ a, (k0_off53 v254 (BitVec.ofNat 32 (24 + 8 * r.val))) a + S8x128.size a ≤ S2080x128.size a)
theorem k0_off53_inb : ∀ (v254 : BitVec 32) (k0_hw6 : k0_chk6 v254), ∀ (r : Fin 2), ∀ a, (k0_off53 v254 (BitVec.ofNat 32 (24 + 8 * r.val))) a + S8x128.size a ≤ S2080x128.size a := fun v254 k0_hw6 r => k0_hw6 r

def k0_off54 (k0_t3 : Fin k0_t3_loop.trips) : Fin 2 → Nat :=
  let c256_i32 : BitVec 32 := 256#32
  let c0_i32_3 : BitVec 32 := 0#32
  let c1_i32_4 : BitVec 32 := 1#32
  let arg13 : BitVec 32 := Scf.iv c0_i32_3 c1_i32_4 k0_t3
  let v291 : BitVec 32 := Scalar.addi c256_i32 arg13
  let v293 : Index := Scalar.indexCast v291
  let c0_127 : Index := 0#32
  ![v293.toNat, 0]
def k0_off55 (k0_t3 : Fin k0_t3_loop.trips) : Fin 2 → Nat :=
  let c5152_i32_128 : BitVec 32 := 5152#32
  let c256_i32 : BitVec 32 := 256#32
  let c0_i32_3 : BitVec 32 := 0#32
  let c1_i32_4 : BitVec 32 := 1#32
  let arg13 : BitVec 32 := Scf.iv c0_i32_3 c1_i32_4 k0_t3
  let v291 : BitVec 32 := Scalar.addi c256_i32 arg13
  let v298 : BitVec 32 := Scalar.addi c5152_i32_128 v291
  let v299 : Index := Scalar.indexCast v298
  let c0_129 : Index := 0#32
  ![v299.toNat, 0]
def k0_off56 (i : grid0.Coords) (k0_t3 : Fin k0_t3_loop.trips) : Fin 1 → Nat :=
  let arg1 : BitVec 32 := BitVec.ofNat 32 (i 1).val
  let c128_i32_130 : BitVec 32 := 128#32
  let v303 : BitVec 32 := Scalar.muli arg1 c128_i32_130
  let c0_i32_3 : BitVec 32 := 0#32
  let c1_i32_4 : BitVec 32 := 1#32
  let arg13 : BitVec 32 := Scf.iv c0_i32_3 c1_i32_4 k0_t3
  let v304 : BitVec 32 := Scalar.addi v303 arg13
  let c10_i32_131 : BitVec 32 := 10#32
  let v305 : BitVec 32 := Scalar.muli v304 c10_i32_131
  let c3_i32_132 : BitVec 32 := 3#32
  let v306 : BitVec 32 := Scalar.addi v305 c3_i32_132
  let v307 : Index := Scalar.indexCast v306
  ![v307.toNat]
def k0_off57 (i : grid0.Coords) (k0_t3 : Fin k0_t3_loop.trips) : Fin 1 → Nat :=
  let arg1 : BitVec 32 := BitVec.ofNat 32 (i 1).val
  let c128_i32_130 : BitVec 32 := 128#32
  let v303 : BitVec 32 := Scalar.muli arg1 c128_i32_130
  let c0_i32_3 : BitVec 32 := 0#32
  let c1_i32_4 : BitVec 32 := 1#32
  let arg13 : BitVec 32 := Scf.iv c0_i32_3 c1_i32_4 k0_t3
  let v304 : BitVec 32 := Scalar.addi v303 arg13
  let c10_i32_131 : BitVec 32 := 10#32
  let v305 : BitVec 32 := Scalar.muli v304 c10_i32_131
  let c3_i32_132 : BitVec 32 := 3#32
  let v306 : BitVec 32 := Scalar.addi v305 c3_i32_132
  let c5_i32_133 : BitVec 32 := 5#32
  let v309 : BitVec 32 := Scalar.addi v306 c5_i32_133
  let v310 : Index := Scalar.indexCast v309
  ![v310.toNat]
def k0_off58 (v308 : BitVec 32) (c0_i32_137 : BitVec 32) : Fin 2 → Nat :=
  let v319 : BitVec 32 := Scalar.addi v308 c0_i32_137
  let v320 : Index := Scalar.indexCast v319
  let c0_138 : Index := 0#32
  ![v320.toNat, 0]

def k0_chk7 (v308 : BitVec 32) : Prop :=
  (∀ (r : Fin 2), ∀ a, (k0_off58 v308 (BitVec.ofNat 32 (16 * r.val))) a + S8x128.size a ≤ S2080x128.size a)
theorem k0_off58_inb : ∀ (v308 : BitVec 32) (k0_hw7 : k0_chk7 v308), ∀ (r : Fin 2), ∀ a, (k0_off58 v308 (BitVec.ofNat 32 (16 * r.val))) a + S8x128.size a ≤ S2080x128.size a := fun v308 k0_hw7 r => k0_hw7 r

def k0_off59 (v311 : BitVec 32) (c24_i32_144 : BitVec 32) : Fin 2 → Nat :=
  let v336 : BitVec 32 := Scalar.addi v311 c24_i32_144
  let v337 : Index := Scalar.indexCast v336
  let c0_145 : Index := 0#32
  ![v337.toNat, 0]

def k0_chk8 (v311 : BitVec 32) : Prop :=
  (∀ (r : Fin 2), ∀ a, (k0_off59 v311 (BitVec.ofNat 32 (24 + 16 * r.val))) a + S8x128.size a ≤ S2080x128.size a)
theorem k0_off59_inb : ∀ (v311 : BitVec 32) (k0_hw8 : k0_chk8 v311), ∀ (r : Fin 2), ∀ a, (k0_off59 v311 (BitVec.ofNat 32 (24 + 16 * r.val))) a + S8x128.size a ≤ S2080x128.size a := fun v311 k0_hw8 r => k0_hw8 r

def k0_off60 (k0_t3 : Fin k0_t3_loop.trips) : Fin 2 → Nat :=
  let c384_i32 : BitVec 32 := 384#32
  let c0_i32_3 : BitVec 32 := 0#32
  let c1_i32_4 : BitVec 32 := 1#32
  let arg13 : BitVec 32 := Scf.iv c0_i32_3 c1_i32_4 k0_t3
  let v348 : BitVec 32 := Scalar.addi c384_i32 arg13
  let v350 : Index := Scalar.indexCast v348
  let c0_148 : Index := 0#32
  ![v350.toNat, 0]
def k0_off61 (k0_t3 : Fin k0_t3_loop.trips) : Fin 2 → Nat :=
  let c5152_i32_149 : BitVec 32 := 5152#32
  let c384_i32 : BitVec 32 := 384#32
  let c0_i32_3 : BitVec 32 := 0#32
  let c1_i32_4 : BitVec 32 := 1#32
  let arg13 : BitVec 32 := Scf.iv c0_i32_3 c1_i32_4 k0_t3
  let v348 : BitVec 32 := Scalar.addi c384_i32 arg13
  let v355 : BitVec 32 := Scalar.addi c5152_i32_149 v348
  let v356 : Index := Scalar.indexCast v355
  let c0_150 : Index := 0#32
  ![v356.toNat, 0]
def k0_off62 (i : grid0.Coords) (k0_t3 : Fin k0_t3_loop.trips) : Fin 1 → Nat :=
  let arg1 : BitVec 32 := BitVec.ofNat 32 (i 1).val
  let c128_i32_151 : BitVec 32 := 128#32
  let v360 : BitVec 32 := Scalar.muli arg1 c128_i32_151
  let c0_i32_3 : BitVec 32 := 0#32
  let c1_i32_4 : BitVec 32 := 1#32
  let arg13 : BitVec 32 := Scf.iv c0_i32_3 c1_i32_4 k0_t3
  let v361 : BitVec 32 := Scalar.addi v360 arg13
  let c10_i32_152 : BitVec 32 := 10#32
  let v362 : BitVec 32 := Scalar.muli v361 c10_i32_152
  let c4_i32 : BitVec 32 := 4#32
  let v363 : BitVec 32 := Scalar.addi v362 c4_i32
  let v364 : Index := Scalar.indexCast v363
  ![v364.toNat]
def k0_off63 (i : grid0.Coords) (k0_t3 : Fin k0_t3_loop.trips) : Fin 1 → Nat :=
  let arg1 : BitVec 32 := BitVec.ofNat 32 (i 1).val
  let c128_i32_151 : BitVec 32 := 128#32
  let v360 : BitVec 32 := Scalar.muli arg1 c128_i32_151
  let c0_i32_3 : BitVec 32 := 0#32
  let c1_i32_4 : BitVec 32 := 1#32
  let arg13 : BitVec 32 := Scf.iv c0_i32_3 c1_i32_4 k0_t3
  let v361 : BitVec 32 := Scalar.addi v360 arg13
  let c10_i32_152 : BitVec 32 := 10#32
  let v362 : BitVec 32 := Scalar.muli v361 c10_i32_152
  let c4_i32 : BitVec 32 := 4#32
  let v363 : BitVec 32 := Scalar.addi v362 c4_i32
  let c5_i32_153 : BitVec 32 := 5#32
  let v366 : BitVec 32 := Scalar.addi v363 c5_i32_153
  let v367 : Index := Scalar.indexCast v366
  ![v367.toNat]
def k0_off64 (v365 : BitVec 32) (c0_i32_156 : BitVec 32) : Fin 2 → Nat :=
  let v376 : BitVec 32 := Scalar.addi v365 c0_i32_156
  let v377 : Index := Scalar.indexCast v376
  let c0_157 : Index := 0#32
  ![v377.toNat, 0]

def k0_chk9 (v365 : BitVec 32) : Prop :=
  (∀ (r : Fin 2), ∀ a, (k0_off64 v365 (BitVec.ofNat 32 (8 * r.val))) a + S8x128.size a ≤ S2080x128.size a)
theorem k0_off64_inb : ∀ (v365 : BitVec 32) (k0_hw9 : k0_chk9 v365), ∀ (r : Fin 2), ∀ a, (k0_off64 v365 (BitVec.ofNat 32 (8 * r.val))) a + S8x128.size a ≤ S2080x128.size a := fun v365 k0_hw9 r => k0_hw9 r

def k0_off65 (v368 : BitVec 32) (c24_i32_163 : BitVec 32) : Fin 2 → Nat :=
  let v393 : BitVec 32 := Scalar.addi v368 c24_i32_163
  let v394 : Index := Scalar.indexCast v393
  let c0_164 : Index := 0#32
  ![v394.toNat, 0]

def k0_chk10 (v368 : BitVec 32) : Prop :=
  (∀ (r : Fin 2), ∀ a, (k0_off65 v368 (BitVec.ofNat 32 (24 + 8 * r.val))) a + S8x128.size a ≤ S2080x128.size a)
theorem k0_off65_inb : ∀ (v368 : BitVec 32) (k0_hw10 : k0_chk10 v368), ∀ (r : Fin 2), ∀ a, (k0_off65 v368 (BitVec.ofNat 32 (24 + 8 * r.val))) a + S8x128.size a ≤ S2080x128.size a := fun v368 k0_hw10 r => k0_hw10 r

def k0_off66 (k0_t3 : Fin k0_t3_loop.trips) : Fin 2 → Nat :=
  let c512_i32 : BitVec 32 := 512#32
  let c0_i32_3 : BitVec 32 := 0#32
  let c1_i32_4 : BitVec 32 := 1#32
  let arg13 : BitVec 32 := Scf.iv c0_i32_3 c1_i32_4 k0_t3
  let v405 : BitVec 32 := Scalar.addi c512_i32 arg13
  let v407 : Index := Scalar.indexCast v405
  let c0_167 : Index := 0#32
  ![v407.toNat, 0]
def k0_off67 (k0_t3 : Fin k0_t3_loop.trips) : Fin 2 → Nat :=
  let c5152_i32_168 : BitVec 32 := 5152#32
  let c512_i32 : BitVec 32 := 512#32
  let c0_i32_3 : BitVec 32 := 0#32
  let c1_i32_4 : BitVec 32 := 1#32
  let arg13 : BitVec 32 := Scf.iv c0_i32_3 c1_i32_4 k0_t3
  let v405 : BitVec 32 := Scalar.addi c512_i32 arg13
  let v412 : BitVec 32 := Scalar.addi c5152_i32_168 v405
  let v413 : Index := Scalar.indexCast v412
  let c0_169 : Index := 0#32
  ![v413.toNat, 0]
def k0_off68 (i : grid0.Coords) : Fin 3 → Nat :=
  let arg1 : BitVec 32 := BitVec.ofNat 32 (i 1).val
  let v15 : Index := Scalar.indexCast arg1
  let c0_8 : Index := 0#32
  let c0_9 : Index := 0#32
  ![v15.toNat, 0, 0]
def k0_cond18 (i : grid0.Coords) : BitVec 1 :=
  let arg1 : BitVec 32 := BitVec.ofNat 32 (i 1).val
  let c3_i32 : BitVec 32 := 3#32
  let v130 : BitVec 1 := Scalar.cmpi .eq arg1 c3_i32
  let v131 : BitVec 32 := Scalar.extui v130
  let c0_i32_77 : BitVec 32 := 0#32
  let v132 : BitVec 1 := Scalar.cmpi .ne v131 c0_i32_77
  v132

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S40x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S40x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x192x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x192x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S192x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
abbrev S192x1x5120 : Shape := ⟨3, ![192, 1, 5120]⟩
abbrev S512x27648 : Shape := ⟨2, ![512, 27648]⟩
abbrev S40x27648 : Shape := ⟨2, ![40, 27648]⟩
abbrev S40x2765 : Shape := ⟨2, ![40, 2765]⟩
abbrev S5120 : Shape := ⟨1, ![5120]⟩
abbrev S192x4x128x2x5 : Shape := ⟨5, ![192, 4, 128, 2, 5]⟩
abbrev S4x192x5x128x2 : Shape := ⟨5, ![4, 192, 5, 128, 2]⟩
abbrev S4x192x1280 : Shape := ⟨3, ![4, 192, 1280]⟩
abbrev S10 : Shape := ⟨1, ![10]⟩
abbrev S_ : Shape := ⟨0, ![]⟩
abbrev S40x1x2765 : Shape := ⟨3, ![40, 1, 2765]⟩
abbrev S1x10x1 : Shape := ⟨3, ![1, 10, 1]⟩
abbrev S40x10x2765 : Shape := ⟨3, ![40, 10, 2765]⟩
abbrev S40x27650 : Shape := ⟨2, ![40, 27650]⟩
abbrev S192x27648 : Shape := ⟨2, ![192, 27648]⟩
abbrev S128x2048 : Shape := ⟨2, ![128, 2048]⟩
abbrev S40x2048 : Shape := ⟨2, ![40, 2048]⟩
abbrev S192x2048 : Shape := ⟨2, ![192, 2048]⟩
abbrev S2080x128 : Shape := ⟨2, ![2080, 128]⟩
abbrev S2080x2x128 : Shape := ⟨3, ![2080, 2, 128]⟩
abbrev S2080x1x128 : Shape := ⟨3, ![2080, 1, 128]⟩
abbrev S2560x128 : Shape := ⟨2, ![2560, 128]⟩
abbrev S10304x128 : Shape := ⟨2, ![10304, 128]⟩
abbrev S10304x2x128 : Shape := ⟨3, ![10304, 2, 128]⟩
abbrev S10304x1x128 : Shape := ⟨3, ![10304, 1, 128]⟩
abbrev S16x128 : Shape := ⟨2, ![16, 128]⟩
abbrev S8x128 : Shape := ⟨2, ![8, 128]⟩
abbrev S8x2x128 : Shape := ⟨3, ![8, 2, 128]⟩
abbrev S8x1x128 : Shape := ⟨3, ![8, 1, 128]⟩
abbrev S1 : Shape := ⟨1, ![1]⟩
abbrev S640x128 : Shape := ⟨2, ![640, 128]⟩
abbrev S640x2x128 : Shape := ⟨3, ![640, 2, 128]⟩
abbrev S640x1x128 : Shape := ⟨3, ![640, 1, 128]⟩
abbrev S1280x128 : Shape := ⟨2, ![1280, 128]⟩
abbrev S1280x256 : Shape := ⟨2, ![1280, 256]⟩
abbrev S1x192x1280 : Shape := ⟨3, ![1, 192, 1280]⟩
abbrev S192x1280 : Shape := ⟨2, ![192, 1280]⟩
abbrev S192x256 : Shape := ⟨2, ![192, 256]⟩

abbrev nBuf : Space → Nat
  | .hbm => 30
  | .vmem => 14
  | .smem => 1
  | _ => 0

abbrev bufTy : (tb : Table) → Fin (tcTables nBuf tb) → BufTy
  | .hbm, ⟨0, _⟩ => ⟨S192x1x5120, .bf16⟩
  | .hbm, ⟨1, _⟩ => ⟨S512x27648, .i32⟩
  | .hbm, ⟨2, _⟩ => ⟨S40x27648, .bf16⟩
  | .hbm, ⟨3, _⟩ => ⟨S40x2765, .i32⟩
  | .hbm, ⟨4, _⟩ => ⟨S5120, .i32⟩
  | .hbm, ⟨5, _⟩ => ⟨S192x4x128x2x5, .bf16⟩
  | .hbm, ⟨6, _⟩ => ⟨S4x192x5x128x2, .bf16⟩
  | .hbm, ⟨7, _⟩ => ⟨S4x192x1280, .bf16⟩
  | .hbm, ⟨8, _⟩ => ⟨S192x4x128x2x5, .bf16⟩
  | .hbm, ⟨9, _⟩ => ⟨S4x192x5x128x2, .bf16⟩
  | .hbm, ⟨10, _⟩ => ⟨S4x192x1280, .bf16⟩
  | .hbm, ⟨11, _⟩ => ⟨S10, .i32⟩
  | .hbm, ⟨12, _⟩ => ⟨S_, .i32⟩
  | .hbm, ⟨13, _⟩ => ⟨S10, .i32⟩
  | .hbm, ⟨14, _⟩ => ⟨S10, .i32⟩
  | .hbm, ⟨15, _⟩ => ⟨S40x1x2765, .i32⟩
  | .hbm, ⟨16, _⟩ => ⟨S1x10x1, .i32⟩
  | .hbm, ⟨17, _⟩ => ⟨S40x10x2765, .i32⟩
  | .hbm, ⟨18, _⟩ => ⟨S40x10x2765, .i32⟩
  | .hbm, ⟨19, _⟩ => ⟨S40x10x2765, .i32⟩
  | .hbm, ⟨20, _⟩ => ⟨S_, .i32⟩
  | .hbm, ⟨21, _⟩ => ⟨S40x10x2765, .i32⟩
  | .hbm, ⟨22, _⟩ => ⟨S40x10x2765, .i32⟩
  | .hbm, ⟨23, _⟩ => ⟨S40x27650, .i32⟩
  | .hbm, ⟨24, _⟩ => ⟨S40x27648, .i32⟩
  | .hbm, ⟨25, _⟩ => ⟨S40x27648, .f32⟩
  | .hbm, ⟨26, _⟩ => ⟨S_, .i32⟩
  | .hbm, ⟨27, _⟩ => ⟨S5120, .i32⟩
  | .hbm, ⟨28, _⟩ => ⟨S40x27648, .f32⟩
  | .hbm, ⟨29, _⟩ => ⟨S192x27648, .bf16⟩
  | .local _ .vmem, ⟨0, _⟩ => ⟨S128x2048, .i32⟩
  | .local _ .vmem, ⟨1, _⟩ => ⟨S128x2048, .i32⟩
  | .local _ .vmem, ⟨2, _⟩ => ⟨S40x2048, .f32⟩
  | .local _ .vmem, ⟨3, _⟩ => ⟨S40x2048, .f32⟩
  | .local _ .vmem, ⟨4, _⟩ => ⟨S40x2048, .f32⟩
  | .local _ .vmem, ⟨5, _⟩ => ⟨S40x2048, .f32⟩
  | .local _ .vmem, ⟨6, _⟩ => ⟨S4x192x1280, .bf16⟩
  | .local _ .vmem, ⟨7, _⟩ => ⟨S4x192x1280, .bf16⟩
  | .local _ .vmem, ⟨8, _⟩ => ⟨S192x2048, .bf16⟩
  | .local _ .vmem, ⟨9, _⟩ => ⟨S192x2048, .bf16⟩
  | .local _ .vmem, ⟨10, _⟩ => ⟨S2080x2x128, .bf16⟩
  | .local _ .vmem, ⟨11, _⟩ => ⟨S2560x128, .i32⟩
  | .local _ .vmem, ⟨12, _⟩ => ⟨S10304x2x128, .bf16⟩
  | .local _ .vmem, ⟨13, _⟩ => ⟨S192x2048, .f32⟩
  | .local _ .smem, ⟨0, _⟩ => ⟨S5120, .i32⟩
  | _, _ => ⟨S192x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v21 : Ref sig .tc := ⟨.hbm, 28, rfl⟩
abbrev main_v22 : Ref sig .tc := ⟨.hbm, 29, rfl⟩
abbrev main_v20 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![14, 4], ![false, false]⟩

abbrev pre0 : Pipeline.Prefetch sig := ⟨1, ![main_v20.idx], fun | 0 => main_v20.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_0 : BitVec 32 := 0#32
  let v7 : BitVec 1 := Scalar.cmpi .ne v6 c0_i32_0
  v7

@[reducible] def k0_t1_loop : Scf.Loop 32 :=
  let c0_i32_78 : BitVec 32 := 0#32
  let c5_i32 : BitVec 32 := 5#32
  let v133 : BitVec 32 := Scalar.addi c0_i32_78 c5_i32
  let c1_i32_79 : BitVec 32 := 1#32
  ⟨c0_i32_78, v133, c1_i32_79⟩
def k0_off1 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v135 : Index := Scalar.indexCast v134
  let c0_81 : Index := 0#32
  ![v135.toNat, 0]
def k0_off2 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v138 : Index := Scalar.indexCast v134
  let c1024 : Index := 1024#32
  ![v138.toNat, 1024]
def k0_off3 (k0_t1 : Fin k0_t1_loop.trips) (c0_i32_82 : BitVec 32) (c0_i32_83 : BitVec 32) : Fin 3 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let c52_i32 : BitVec 32 := 52#32
  let v143 : BitVec 32 := Scalar.muli v134 c52_i32
  let v144 : BitVec 32 := Scalar.addi v143 c0_i32_82
  let v145 : BitVec 32 := Scalar.addi v144 c0_i32_83
  let v146 : Index := Scalar.indexCast v145
  let c0_84 : Index := 0#32
  ![v146.toNat, 0, 0]
def k0_off4 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v197 : Index := Scalar.indexCast v134
  let c128 : Index := 128#32
  ![v197.toNat, 128]
def k0_off5 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v200 : Index := Scalar.indexCast v134
  let c1152 : Index := 1152#32
  ![v200.toNat, 1152]
def k0_off6 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v259 : Index := Scalar.indexCast v134
  let c256 : Index := 256#32
  ![v259.toNat, 256]
def k0_off7 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v262 : Index := Scalar.indexCast v134
  let c1280 : Index := 1280#32
  ![v262.toNat, 1280]
def k0_off8 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v321 : Index := Scalar.indexCast v134
  let c384 : Index := 384#32
  ![v321.toNat, 384]
def k0_off9 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v324 : Index := Scalar.indexCast v134
  let c1408 : Index := 1408#32
  ![v324.toNat, 1408]
def k0_off10 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v383 : Index := Scalar.indexCast v134
  let c512 : Index := 512#32
  ![v383.toNat, 512]
def k0_off11 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v386 : Index := Scalar.indexCast v134
  let c1536 : Index := 1536#32
  ![v386.toNat, 1536]
def k0_off12 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v445 : Index := Scalar.indexCast v134
  let c640 : Index := 640#32
  ![v445.toNat, 640]
def k0_off13 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v448 : Index := Scalar.indexCast v134
  let c1664 : Index := 1664#32
  ![v448.toNat, 1664]
def k0_off14 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v507 : Index := Scalar.indexCast v134
  let c768 : Index := 768#32
  ![v507.toNat, 768]
def k0_off15 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v510 : Index := Scalar.indexCast v134
  let c1792 : Index := 1792#32
  ![v510.toNat, 1792]
def k0_off16 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v569 : Index := Scalar.indexCast v134
  let c896 : Index := 896#32
  ![v569.toNat, 896]
def k0_off17 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c8_i32 : BitVec 32 := 8#32
  let v134 : BitVec 32 := Scalar.muli arg13 c8_i32
  let v572 : Index := Scalar.indexCast v134
  let c1920 : Index := 1920#32
  ![v572.toNat, 1920]
@[reducible] def k0_t2_loop : Scf.Loop 32 :=
  let c0_i32_1 : BitVec 32 := 0#32
  let c16_i32 : BitVec 32 := 16#32
  let v8 : BitVec 32 := Scalar.addi c0_i32_1 c16_i32
  let c1_i32 : BitVec 32 := 1#32
  ⟨c0_i32_1, v8, c1_i32⟩
def k0_off18 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v134 : Index := Scalar.indexCast v133
  let c0_78 : Index := 0#32
  ![v134.toNat, 0]
def k0_off19 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v136 : Index := Scalar.indexCast v133
  let c1024 : Index := 1024#32
  ![v136.toNat, 1024]
def k0_off20 (k0_t2 : Fin k0_t2_loop.trips) (c0_i32_81 : BitVec 32) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let c20_i32 : BitVec 32 := 20#32
  let v151 : BitVec 32 := Scalar.muli v133 c20_i32
  let v152 : BitVec 32 := Scalar.addi v151 c0_i32_81
  let v153 : Index := Scalar.indexCast v152
  let c0_82 : Index := 0#32
  ![v153.toNat, 0]
def k0_off21 (k0_t2 : Fin k0_t2_loop.trips) (c0_i32_85 : BitVec 32) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let c20_i32_83 : BitVec 32 := 20#32
  let v158 : BitVec 32 := Scalar.muli v133 c20_i32_83
  let c8_i32_84 : BitVec 32 := 8#32
  let v159 : BitVec 32 := Scalar.addi v158 c8_i32_84
  let v160 : BitVec 32 := Scalar.addi v159 c0_i32_85
  let v161 : Index := Scalar.indexCast v160
  let c0_86 : Index := 0#32
  ![v161.toNat, 0]
def k0_off22 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v165 : Index := Scalar.indexCast v133
  let c128 : Index := 128#32
  ![v165.toNat, 128]
def k0_off23 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v167 : Index := Scalar.indexCast v133
  let c1152 : Index := 1152#32
  ![v167.toNat, 1152]
def k0_off24 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v196 : Index := Scalar.indexCast v133
  let c256 : Index := 256#32
  ![v196.toNat, 256]
def k0_off25 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v198 : Index := Scalar.indexCast v133
  let c1280 : Index := 1280#32
  ![v198.toNat, 1280]
def k0_off26 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v227 : Index := Scalar.indexCast v133
  let c384 : Index := 384#32
  ![v227.toNat, 384]
def k0_off27 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v229 : Index := Scalar.indexCast v133
  let c1408 : Index := 1408#32
  ![v229.toNat, 1408]
def k0_off28 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v258 : Index := Scalar.indexCast v133
  let c512 : Index := 512#32
  ![v258.toNat, 512]
def k0_off29 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v260 : Index := Scalar.indexCast v133
  let c1536 : Index := 1536#32
  ![v260.toNat, 1536]
def k0_off30 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v289 : Index := Scalar.indexCast v133
  let c640 : Index := 640#32
  ![v289.toNat, 640]
def k0_off31 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v291 : Index := Scalar.indexCast v133
  let c1664 : Index := 1664#32
  ![v291.toNat, 1664]
def k0_off32 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v320 : Index := Scalar.indexCast v133
  let c768 : Index := 768#32
  ![v320.toNat, 768]
def k0_off33 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v322 : Index := Scalar.indexCast v133
  let c1792 : Index := 1792#32
  ![v322.toNat, 1792]
def k0_off34 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v351 : Index := Scalar.indexCast v133
  let c896 : Index := 896#32
  ![v351.toNat, 896]
def k0_off35 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32 : BitVec 32 := 8#32
  let v133 : BitVec 32 := Scalar.muli arg13 c8_i32
  let v353 : Index := Scalar.indexCast v133
  let c1920 : Index := 1920#32
  ![v353.toNat, 1920]
@[reducible] def k0_t3_loop : Scf.Loop 32 :=
  let c0_i32_3 : BitVec 32 := 0#32
  let c128_i32 : BitVec 32 := 128#32
  let v9 : BitVec 32 := Scalar.addi c0_i32_3 c128_i32
  let c1_i32_4 : BitVec 32 := 1#32
  ⟨c0_i32_3, v9, c1_i32_4⟩
def k0_off36 (k0_t3 : Fin k0_t3_loop.trips) : Fin 2 → Nat :=
  let c0_i32_3 : BitVec 32 := 0#32
  let c1_i32_4 : BitVec 32 := 1#32
  let arg13 : BitVec 32 := Scf.iv c0_i32_3 c1_i32_4 k0_t3
  let c20_i32 : BitVec 32 := 20#32
  let v133 : BitVec 32 := Scalar.muli arg13 c20_i32
  let v134 : Index := Scalar.indexCast v133
  let c0_78 : Index := 0#32
  ![v134.toNat, 0]
def k0_off37 (k0_t3 : Fin k0_t3_loop.trips) : Fin 2 → Nat :=
  let c0_i32_3 : BitVec 32 := 0#32
  let c1_i32_4 : BitVec 32 := 1#32
  let arg13 : BitVec 32 := Scf.iv c0_i32_3 c1_i32_4 k0_t3
  let c20_i32_79 : BitVec 32 := 20#32
  let v136 : BitVec 32 := Scalar.muli arg13 c20_i32_79
  let c8_i32 : BitVec 32 := 8#32
  let v137 : BitVec 32 := Scalar.addi v136 c8_i32
  let v138 : Index := Scalar.indexCast v137
  let c0_80 : Index := 0#32
  ![v138.toNat, 0]
def k0_off38 (i : grid0.Coords) (k0_t3 : Fin k0_t3_loop.trips) : Fin 1 → Nat :=
  let arg1 : BitVec 32 := BitVec.ofNat 32 (i 1).val
  let c128_i32_81 : BitVec 32 := 128#32
  let v140 : BitVec 32 := Scalar.muli arg1 c128_i32_81
  let c0_i32_3 : BitVec 32 := 0#32
  let c1_i32_4 : BitVec 32 := 1#32
  let arg13 : BitVec 32 := Scf.iv c0_i32_3 c1_i32_4 k0_t3
  let v141 : BitVec 32 := Scalar.addi v140 arg13
  let c10_i32 : BitVec 32 := 10#32
  let v142 : BitVec 32 := Scalar.muli v141 c10_i32
  let c0_i32_82 : BitVec 32 := 0#32
  let v143 : BitVec 32 := Scalar.addi v142 c0_i32_82
  let v144 : Index := Scalar.indexCast v143
  ![v144.toNat]
def k0_off39 (i : grid0.Coords) (k0_t3 : Fin k0_t3_loop.trips) : Fin 1 → Nat :=
  let arg1 : BitVec 32 := BitVec.ofNat 32 (i 1).val
  let c128_i32_81 : BitVec 32 := 128#32
  let v140 : BitVec 32 := Scalar.muli arg1 c128_i32_81
  let c0_i32_3 : BitVec 32 := 0#32
  let c1_i32_4 : BitVec 32 := 1#32
  let arg13 : BitVec 32 := Scf.iv c0_i32_3 c1_i32_4 k0_t3
  let v141 : BitVec 32 := Scalar.addi v140 arg13
  let c10_i32 : BitVec 32 := 10#32
  let v142 : BitVec 32 := Scalar.muli v141 c10_i32
  let c0_i32_82 : BitVec 32 := 0#32
  let v143 : BitVec 32 := Scalar.addi v142 c0_i32_82
  let c5_i32 : BitVec 32 := 5#32
  let v146 : BitVec 32 := Scalar.addi v143 c5_i32
  let v147 : Index := Scalar.indexCast v146
  ![v147.toNat]
def k0_off40 (v145 : BitVec 32) (c0_i32_83 : BitVec 32) : Fin 3 → Nat :=
  let v154 : BitVec 32 := Scalar.addi v145 c0_i32_83
  let v155 : Index := Scalar.indexCast v154
  let c0_84 : Index := 0#32
  ![v155.toNat, 0, 0]

def k0_chk1 (v145 : BitVec 32) : Prop :=
  (∀ (r : Fin 2), ∀ a, (k0_off40 v145 (BitVec.ofNat 32 (8 * r.val))) a + S8x2x128.size a ≤ S2080x2x128.size a)
theorem k0_off40_inb : ∀ (v145 : BitVec 32) (k0_hw1 : k0_chk1 v145), ∀ (r : Fin 2), ∀ a, (k0_off40 v145 (BitVec.ofNat 32 (8 * r.val))) a + S8x2x128.size a ≤ S2080x2x128.size a := fun v145 k0_hw1 r => k0_hw1 r

def k0_off41 (v148 : BitVec 32) (c24_i32 : BitVec 32) : Fin 3 → Nat :=
  let v169 : BitVec 32 := Scalar.addi v148 c24_i32
  let v170 : Index := Scalar.indexCast v169
  let c0_89 : Index := 0#32
  ![v170.toNat, 0, 0]

def k0_chk2 (v148 : BitVec 32) : Prop :=
  (∀ (r : Fin 2), ∀ a, (k0_off41 v148 (BitVec.ofNat 32 (24 + 8 * r.val))) a + S8x2x128.size a ≤ S2080x2x128.size a)
theorem k0_off41_inb : ∀ (v148 : BitVec 32) (k0_hw2 : k0_chk2 v148), ∀ (r : Fin 2), ∀ a, (k0_off41 v148 (BitVec.ofNat 32 (24 + 8 * r.val))) a + S8x2x128.size a ≤ S2080x2x128.size a := fun v148 k0_hw2 r => k0_hw2 r

def k0_off42 (k0_t3 : Fin k0_t3_loop.trips) : Fin 3 → Nat :=
  let c0_i32_91 : BitVec 32 := 0#32
  let c0_i32_3 : BitVec 32 := 0#32
  let c1_i32_4 : BitVec 32 := 1#32
  let arg13 : BitVec 32 := Scf.iv c0_i32_3 c1_i32_4 k0_t3
  let v181 : BitVec 32 := Scalar.addi c0_i32_91 arg13
  let v183 : Index := Scalar.indexCast v181
  let c0_92 : Index := 0#32
  ![v183.toNat, 0, 0]
def k0_off43 (k0_t3 : Fin k0_t3_loop.trips) : Fin 3 → Nat :=
  let c5152_i32 : BitVec 32 := 5152#32
  let c0_i32_91 : BitVec 32 := 0#32
  let c0_i32_3 : BitVec 32 := 0#32
  let c1_i32_4 : BitVec 32 := 1#32
  let arg13 : BitVec 32 := Scf.iv c0_i32_3 c1_i32_4 k0_t3
  let v181 : BitVec 32 := Scalar.addi c0_i32_91 arg13
  let v188 : BitVec 32 := Scalar.addi c5152_i32 v181
  let v189 : Index := Scalar.indexCast v188
  let c0_93 : Index := 0#32
  ![v189.toNat, 0, 0]
def k0_off44 (i : grid0.Coords) (k0_t3 : Fin k0_t3_loop.trips) : Fin 1 → Nat :=
  let arg1 : BitVec 32 := BitVec.ofNat 32 (i 1).val
  let c128_i32_94 : BitVec 32 := 128#32
  let v193 : BitVec 32 := Scalar.muli arg1 c128_i32_94
  let c0_i32_3 : BitVec 32 := 0#32
  let c1_i32_4 : BitVec 32 := 1#32
  let arg13 : BitVec 32 := Scf.iv c0_i32_3 c1_i32_4 k0_t3
  let v194 : BitVec 32 := Scalar.addi v193 arg13
  let c10_i32_95 : BitVec 32 := 10#32
  let v195 : BitVec 32 := Scalar.muli v194 c10_i32_95
  let c1_i32_96 : BitVec 32 := 1#32
  let v196 : BitVec 32 := Scalar.addi v195 c1_i32_96
  let v197 : Index := Scalar.indexCast v196
  ![v197.toNat]
def k0_off45 (i : grid0.Coords) (k0_t3 : Fin k0_t3_loop.trips) : Fin 1 → Nat :=
  let arg1 : BitVec 32 := BitVec.ofNat 32 (i 1).val
  let c128_i32_94 : BitVec 32 := 128#32
  let v193 : BitVec 32 := Scalar.muli arg1 c128_i32_94
  let c0_i32_3 : BitVec 32 := 0#32
  let c1_i32_4 : BitVec 32 := 1#32
  let arg13 : BitVec 32 := Scf.iv c0_i32_3 c1_i32_4 k0_t3
  let v194 : BitVec 32 := Scalar.addi v193 arg13
  let c10_i32_95 : BitVec 32 := 10#32
  let v195 : BitVec 32 := Scalar.muli v194 c10_i32_95
  let c1_i32_96 : BitVec 32 := 1#32
  let v196 : BitVec 32 := Scalar.addi v195 c1_i32_96
  let c5_i32_97 : BitVec 32 := 5#32
  let v199 : BitVec 32 := Scalar.addi v196 c5_i32_97
  let v200 : Index := Scalar.indexCast v199
  ![v200.toNat]
def k0_off46 (v198 : BitVec 32) (c0_i32_98 : BitVec 32) : Fin 3 → Nat :=
  let v207 : BitVec 32 := Scalar.addi v198 c0_i32_98
  let v208 : Index := Scalar.indexCast v207
  let c0_99 : Index := 0#32
  ![v208.toNat, 0, 0]

def k0_chk3 (v198 : BitVec 32) : Prop :=
  (∀ (r : Fin 2), ∀ a, (k0_off46 v198 (BitVec.ofNat 32 (16 * r.val))) a + S8x2x128.size a ≤ S2080x2x128.size a)
theorem k0_off46_inb : ∀ (v198 : BitVec 32) (k0_hw3 : k0_chk3 v198), ∀ (r : Fin 2), ∀ a, (k0_off46 v198 (BitVec.ofNat 32 (16 * r.val))) a + S8x2x128.size a ≤ S2080x2x128.size a := fun v198 k0_hw3 r => k0_hw3 r

def k0_off47 (v201 : BitVec 32) (c24_i32_104 : BitVec 32) : Fin 3 → Nat :=
  let v222 : BitVec 32 := Scalar.addi v201 c24_i32_104
  let v223 : Index := Scalar.indexCast v222
  let c0_105 : Index := 0#32
  ![v223.toNat, 0, 0]

def k0_chk4 (v201 : BitVec 32) : Prop :=
  (∀ (r : Fin 2), ∀ a, (k0_off47 v201 (BitVec.ofNat 32 (24 + 16 * r.val))) a + S8x2x128.size a ≤ S2080x2x128.size a)
theorem k0_off47_inb : ∀ (v201 : BitVec 32) (k0_hw4 : k0_chk4 v201), ∀ (r : Fin 2), ∀ a, (k0_off47 v201 (BitVec.ofNat 32 (24 + 16 * r.val))) a + S8x2x128.size a ≤ S2080x2x128.size a := fun v201 k0_hw4 r => k0_hw4 r

def k0_off48 (k0_t3 : Fin k0_t3_loop.trips) : Fin 3 → Nat :=
  let c128_i32_107 : BitVec 32 := 128#32
  let c0_i32_3 : BitVec 32 := 0#32
  let c1_i32_4 : BitVec 32 := 1#32
  let arg13 : BitVec 32 := Scf.iv c0_i32_3 c1_i32_4 k0_t3
  let v234 : BitVec 32 := Scalar.addi c128_i32_107 arg13
  let v236 : Index := Scalar.indexCast v234
  let c0_108 : Index := 0#32
  ![v236.toNat, 0, 0]
def k0_off49 (k0_t3 : Fin k0_t3_loop.trips) : Fin 3 → Nat :=
  let c5152_i32_109 : BitVec 32 := 5152#32
  let c128_i32_107 : BitVec 32 := 128#32
  let c0_i32_3 : BitVec 32 := 0#32
  let c1_i32_4 : BitVec 32 := 1#32
  let arg13 : BitVec 32 := Scf.iv c0_i32_3 c1_i32_4 k0_t3
  let v234 : BitVec 32 := Scalar.addi c128_i32_107 arg13
  let v241 : BitVec 32 := Scalar.addi c5152_i32_109 v234
  let v242 : Index := Scalar.indexCast v241
  let c0_110 : Index := 0#32
  ![v242.toNat, 0, 0]
def k0_off50 (i : grid0.Coords) (k0_t3 : Fin k0_t3_loop.trips) : Fin 1 → Nat :=
  let arg1 : BitVec 32 := BitVec.ofNat 32 (i 1).val
  let c128_i32_111 : BitVec 32 := 128#32
  let v246 : BitVec 32 := Scalar.muli arg1 c128_i32_111
  let c0_i32_3 : BitVec 32 := 0#32
  let c1_i32_4 : BitVec 32 := 1#32
  let arg13 : BitVec 32 := Scf.iv c0_i32_3 c1_i32_4 k0_t3
  let v247 : BitVec 32 := Scalar.addi v246 arg13
  let c10_i32_112 : BitVec 32 := 10#32
  let v248 : BitVec 32 := Scalar.muli v247 c10_i32_112
  let c2_i32 : BitVec 32 := 2#32
  let v249 : BitVec 32 := Scalar.addi v248 c2_i32
  let v250 : Index := Scalar.indexCast v249
  ![v250.toNat]
def k0_off51 (i : grid0.Coords) (k0_t3 : Fin k0_t3_loop.trips) : Fin 1 → Nat :=
  let arg1 : BitVec 32 := BitVec.ofNat 32 (i 1).val
  let c128_i32_111 : BitVec 32 := 128#32
  let v246 : BitVec 32 := Scalar.muli arg1 c128_i32_111
  let c0_i32_3 : BitVec 32 := 0#32
  let c1_i32_4 : BitVec 32 := 1#32
  let arg13 : BitVec 32 := Scf.iv c0_i32_3 c1_i32_4 k0_t3
  let v247 : BitVec 32 := Scalar.addi v246 arg13
  let c10_i32_112 : BitVec 32 := 10#32
  let v248 : BitVec 32 := Scalar.muli v247 c10_i32_112
  let c2_i32 : BitVec 32 := 2#32
  let v249 : BitVec 32 := Scalar.addi v248 c2_i32
  let c5_i32_113 : BitVec 32 := 5#32
  let v252 : BitVec 32 := Scalar.addi v249 c5_i32_113
  let v253 : Index := Scalar.indexCast v252
  ![v253.toNat]
def k0_off52 (v251 : BitVec 32) (c0_i32_116 : BitVec 32) : Fin 3 → Nat :=
  let v262 : BitVec 32 := Scalar.addi v251 c0_i32_116
  let v263 : Index := Scalar.indexCast v262
  let c0_117 : Index := 0#32
  ![v263.toNat, 0, 0]

def k0_chk5 (v251 : BitVec 32) : Prop :=
  (∀ (r : Fin 2), ∀ a, (k0_off52 v251 (BitVec.ofNat 32 (8 * r.val))) a + S8x2x128.size a ≤ S2080x2x128.size a)
theorem k0_off52_inb : ∀ (v251 : BitVec 32) (k0_hw5 : k0_chk5 v251), ∀ (r : Fin 2), ∀ a, (k0_off52 v251 (BitVec.ofNat 32 (8 * r.val))) a + S8x2x128.size a ≤ S2080x2x128.size a := fun v251 k0_hw5 r => k0_hw5 r

def k0_off53 (v254 : BitVec 32) (c24_i32_123 : BitVec 32) : Fin 3 → Nat :=
  let v279 : BitVec 32 := Scalar.addi v254 c24_i32_123
  let v280 : Index := Scalar.indexCast v279
  let c0_124 : Index := 0#32
  ![v280.toNat, 0, 0]

def k0_chk6 (v254 : BitVec 32) : Prop :=
  (∀ (r : Fin 2), ∀ a, (k0_off53 v254 (BitVec.ofNat 32 (24 + 8 * r.val))) a + S8x2x128.size a ≤ S2080x2x128.size a)
theorem k0_off53_inb : ∀ (v254 : BitVec 32) (k0_hw6 : k0_chk6 v254), ∀ (r : Fin 2), ∀ a, (k0_off53 v254 (BitVec.ofNat 32 (24 + 8 * r.val))) a + S8x2x128.size a ≤ S2080x2x128.size a := fun v254 k0_hw6 r => k0_hw6 r

def k0_off54 (k0_t3 : Fin k0_t3_loop.trips) : Fin 3 → Nat :=
  let c256_i32 : BitVec 32 := 256#32
  let c0_i32_3 : BitVec 32 := 0#32
  let c1_i32_4 : BitVec 32 := 1#32
  let arg13 : BitVec 32 := Scf.iv c0_i32_3 c1_i32_4 k0_t3
  let v291 : BitVec 32 := Scalar.addi c256_i32 arg13
  let v293 : Index := Scalar.indexCast v291
  let c0_127 : Index := 0#32
  ![v293.toNat, 0, 0]
def k0_off55 (k0_t3 : Fin k0_t3_loop.trips) : Fin 3 → Nat :=
  let c5152_i32_128 : BitVec 32 := 5152#32
  let c256_i32 : BitVec 32 := 256#32
  let c0_i32_3 : BitVec 32 := 0#32
  let c1_i32_4 : BitVec 32 := 1#32
  let arg13 : BitVec 32 := Scf.iv c0_i32_3 c1_i32_4 k0_t3
  let v291 : BitVec 32 := Scalar.addi c256_i32 arg13
  let v298 : BitVec 32 := Scalar.addi c5152_i32_128 v291
  let v299 : Index := Scalar.indexCast v298
  let c0_129 : Index := 0#32
  ![v299.toNat, 0, 0]
def k0_off56 (i : grid0.Coords) (k0_t3 : Fin k0_t3_loop.trips) : Fin 1 → Nat :=
  let arg1 : BitVec 32 := BitVec.ofNat 32 (i 1).val
  let c128_i32_130 : BitVec 32 := 128#32
  let v303 : BitVec 32 := Scalar.muli arg1 c128_i32_130
  let c0_i32_3 : BitVec 32 := 0#32
  let c1_i32_4 : BitVec 32 := 1#32
  let arg13 : BitVec 32 := Scf.iv c0_i32_3 c1_i32_4 k0_t3
  let v304 : BitVec 32 := Scalar.addi v303 arg13
  let c10_i32_131 : BitVec 32 := 10#32
  let v305 : BitVec 32 := Scalar.muli v304 c10_i32_131
  let c3_i32_132 : BitVec 32 := 3#32
  let v306 : BitVec 32 := Scalar.addi v305 c3_i32_132
  let v307 : Index := Scalar.indexCast v306
  ![v307.toNat]
def k0_off57 (i : grid0.Coords) (k0_t3 : Fin k0_t3_loop.trips) : Fin 1 → Nat :=
  let arg1 : BitVec 32 := BitVec.ofNat 32 (i 1).val
  let c128_i32_130 : BitVec 32 := 128#32
  let v303 : BitVec 32 := Scalar.muli arg1 c128_i32_130
  let c0_i32_3 : BitVec 32 := 0#32
  let c1_i32_4 : BitVec 32 := 1#32
  let arg13 : BitVec 32 := Scf.iv c0_i32_3 c1_i32_4 k0_t3
  let v304 : BitVec 32 := Scalar.addi v303 arg13
  let c10_i32_131 : BitVec 32 := 10#32
  let v305 : BitVec 32 := Scalar.muli v304 c10_i32_131
  let c3_i32_132 : BitVec 32 := 3#32
  let v306 : BitVec 32 := Scalar.addi v305 c3_i32_132
  let c5_i32_133 : BitVec 32 := 5#32
  let v309 : BitVec 32 := Scalar.addi v306 c5_i32_133
  let v310 : Index := Scalar.indexCast v309
  ![v310.toNat]
def k0_off58 (v308 : BitVec 32) (c0_i32_137 : BitVec 32) : Fin 3 → Nat :=
  let v319 : BitVec 32 := Scalar.addi v308 c0_i32_137
  let v320 : Index := Scalar.indexCast v319
  let c0_138 : Index := 0#32
  ![v320.toNat, 0, 0]

def k0_chk7 (v308 : BitVec 32) : Prop :=
  (∀ (r : Fin 2), ∀ a, (k0_off58 v308 (BitVec.ofNat 32 (16 * r.val))) a + S8x2x128.size a ≤ S2080x2x128.size a)
theorem k0_off58_inb : ∀ (v308 : BitVec 32) (k0_hw7 : k0_chk7 v308), ∀ (r : Fin 2), ∀ a, (k0_off58 v308 (BitVec.ofNat 32 (16 * r.val))) a + S8x2x128.size a ≤ S2080x2x128.size a := fun v308 k0_hw7 r => k0_hw7 r

def k0_off59 (v311 : BitVec 32) (c24_i32_144 : BitVec 32) : Fin 3 → Nat :=
  let v336 : BitVec 32 := Scalar.addi v311 c24_i32_144
  let v337 : Index := Scalar.indexCast v336
  let c0_145 : Index := 0#32
  ![v337.toNat, 0, 0]

def k0_chk8 (v311 : BitVec 32) : Prop :=
  (∀ (r : Fin 2), ∀ a, (k0_off59 v311 (BitVec.ofNat 32 (24 + 16 * r.val))) a + S8x2x128.size a ≤ S2080x2x128.size a)
theorem k0_off59_inb : ∀ (v311 : BitVec 32) (k0_hw8 : k0_chk8 v311), ∀ (r : Fin 2), ∀ a, (k0_off59 v311 (BitVec.ofNat 32 (24 + 16 * r.val))) a + S8x2x128.size a ≤ S2080x2x128.size a := fun v311 k0_hw8 r => k0_hw8 r

def k0_off60 (k0_t3 : Fin k0_t3_loop.trips) : Fin 3 → Nat :=
  let c384_i32 : BitVec 32 := 384#32
  let c0_i32_3 : BitVec 32 := 0#32
  let c1_i32_4 : BitVec 32 := 1#32
  let arg13 : BitVec 32 := Scf.iv c0_i32_3 c1_i32_4 k0_t3
  let v348 : BitVec 32 := Scalar.addi c384_i32 arg13
  let v350 : Index := Scalar.indexCast v348
  let c0_148 : Index := 0#32
  ![v350.toNat, 0, 0]
def k0_off61 (k0_t3 : Fin k0_t3_loop.trips) : Fin 3 → Nat :=
  let c5152_i32_149 : BitVec 32 := 5152#32
  let c384_i32 : BitVec 32 := 384#32
  let c0_i32_3 : BitVec 32 := 0#32
  let c1_i32_4 : BitVec 32 := 1#32
  let arg13 : BitVec 32 := Scf.iv c0_i32_3 c1_i32_4 k0_t3
  let v348 : BitVec 32 := Scalar.addi c384_i32 arg13
  let v355 : BitVec 32 := Scalar.addi c5152_i32_149 v348
  let v356 : Index := Scalar.indexCast v355
  let c0_150 : Index := 0#32
  ![v356.toNat, 0, 0]
def k0_off62 (i : grid0.Coords) (k0_t3 : Fin k0_t3_loop.trips) : Fin 1 → Nat :=
  let arg1 : BitVec 32 := BitVec.ofNat 32 (i 1).val
  let c128_i32_151 : BitVec 32 := 128#32
  let v360 : BitVec 32 := Scalar.muli arg1 c128_i32_151
  let c0_i32_3 : BitVec 32 := 0#32
  let c1_i32_4 : BitVec 32 := 1#32
  let arg13 : BitVec 32 := Scf.iv c0_i32_3 c1_i32_4 k0_t3
  let v361 : BitVec 32 := Scalar.addi v360 arg13
  let c10_i32_152 : BitVec 32 := 10#32
  let v362 : BitVec 32 := Scalar.muli v361 c10_i32_152
  let c4_i32 : BitVec 32 := 4#32
  let v363 : BitVec 32 := Scalar.addi v362 c4_i32
  let v364 : Index := Scalar.indexCast v363
  ![v364.toNat]
def k0_off63 (i : grid0.Coords) (k0_t3 : Fin k0_t3_loop.trips) : Fin 1 → Nat :=
  let arg1 : BitVec 32 := BitVec.ofNat 32 (i 1).val
  let c128_i32_151 : BitVec 32 := 128#32
  let v360 : BitVec 32 := Scalar.muli arg1 c128_i32_151
  let c0_i32_3 : BitVec 32 := 0#32
  let c1_i32_4 : BitVec 32 := 1#32
  let arg13 : BitVec 32 := Scf.iv c0_i32_3 c1_i32_4 k0_t3
  let v361 : BitVec 32 := Scalar.addi v360 arg13
  let c10_i32_152 : BitVec 32 := 10#32
  let v362 : BitVec 32 := Scalar.muli v361 c10_i32_152
  let c4_i32 : BitVec 32 := 4#32
  let v363 : BitVec 32 := Scalar.addi v362 c4_i32
  let c5_i32_153 : BitVec 32 := 5#32
  let v366 : BitVec 32 := Scalar.addi v363 c5_i32_153
  let v367 : Index := Scalar.indexCast v366
  ![v367.toNat]
def k0_off64 (v365 : BitVec 32) (c0_i32_156 : BitVec 32) : Fin 3 → Nat :=
  let v376 : BitVec 32 := Scalar.addi v365 c0_i32_156
  let v377 : Index := Scalar.indexCast v376
  let c0_157 : Index := 0#32
  ![v377.toNat, 0, 0]

def k0_chk9 (v365 : BitVec 32) : Prop :=
  (∀ (r : Fin 2), ∀ a, (k0_off64 v365 (BitVec.ofNat 32 (8 * r.val))) a + S8x2x128.size a ≤ S2080x2x128.size a)
theorem k0_off64_inb : ∀ (v365 : BitVec 32) (k0_hw9 : k0_chk9 v365), ∀ (r : Fin 2), ∀ a, (k0_off64 v365 (BitVec.ofNat 32 (8 * r.val))) a + S8x2x128.size a ≤ S2080x2x128.size a := fun v365 k0_hw9 r => k0_hw9 r

def k0_off65 (v368 : BitVec 32) (c24_i32_163 : BitVec 32) : Fin 3 → Nat :=
  let v393 : BitVec 32 := Scalar.addi v368 c24_i32_163
  let v394 : Index := Scalar.indexCast v393
  let c0_164 : Index := 0#32
  ![v394.toNat, 0, 0]

def k0_chk10 (v368 : BitVec 32) : Prop :=
  (∀ (r : Fin 2), ∀ a, (k0_off65 v368 (BitVec.ofNat 32 (24 + 8 * r.val))) a + S8x2x128.size a ≤ S2080x2x128.size a)
theorem k0_off65_inb : ∀ (v368 : BitVec 32) (k0_hw10 : k0_chk10 v368), ∀ (r : Fin 2), ∀ a, (k0_off65 v368 (BitVec.ofNat 32 (24 + 8 * r.val))) a + S8x2x128.size a ≤ S2080x2x128.size a := fun v368 k0_hw10 r => k0_hw10 r

def k0_off66 (k0_t3 : Fin k0_t3_loop.trips) : Fin 3 → Nat :=
  let c512_i32 : BitVec 32 := 512#32
  let c0_i32_3 : BitVec 32 := 0#32
  let c1_i32_4 : BitVec 32 := 1#32
  let arg13 : BitVec 32 := Scf.iv c0_i32_3 c1_i32_4 k0_t3
  let v405 : BitVec 32 := Scalar.addi c512_i32 arg13
  let v407 : Index := Scalar.indexCast v405
  let c0_167 : Index := 0#32
  ![v407.toNat, 0, 0]
def k0_off67 (k0_t3 : Fin k0_t3_loop.trips) : Fin 3 → Nat :=
  let c5152_i32_168 : BitVec 32 := 5152#32
  let c512_i32 : BitVec 32 := 512#32
  let c0_i32_3 : BitVec 32 := 0#32
  let c1_i32_4 : BitVec 32 := 1#32
  let arg13 : BitVec 32 := Scf.iv c0_i32_3 c1_i32_4 k0_t3
  let v405 : BitVec 32 := Scalar.addi c512_i32 arg13
  let v412 : BitVec 32 := Scalar.addi c5152_i32_168 v405
  let v413 : Index := Scalar.indexCast v412
  let c0_169 : Index := 0#32
  ![v413.toNat, 0, 0]
def k0_off68 (i : grid0.Coords) : Fin 3 → Nat :=
  let arg1 : BitVec 32 := BitVec.ofNat 32 (i 1).val
  let v15 : Index := Scalar.indexCast arg1
  let c0_8 : Index := 0#32
  let c0_9 : Index := 0#32
  ![v15.toNat, 0, 0]
def k0_cond18 (i : grid0.Coords) : BitVec 1 :=
  let arg1 : BitVec 32 := BitVec.ofNat 32 (i 1).val
  let c3_i32 : BitVec 32 := 3#32
  let v130 : BitVec 1 := Scalar.cmpi .eq arg1 c3_i32
  let v131 : BitVec 32 := Scalar.extui v130
  let c0_i32_77 : BitVec 32 := 0#32
  let v132 : BitVec 1 := Scalar.cmpi .ne v131 c0_i32_77
  v132

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S40x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S40x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x192x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x192x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S192x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S192x1x5120 : Shape := ⟨3, ![192, 1, 5120]⟩
abbrev S512x27648 : Shape := ⟨2, ![512, 27648]⟩
abbrev S40x27648 : Shape := ⟨2, ![40, 27648]⟩
abbrev S40x2765 : Shape := ⟨2, ![40, 2765]⟩
abbrev S5120 : Shape := ⟨1, ![5120]⟩
abbrev S192x512x10 : Shape := ⟨3, ![192, 512, 10]⟩
abbrev S192x10x512 : Shape := ⟨3, ![192, 10, 512]⟩
abbrev S192x5120 : Shape := ⟨2, ![192, 5120]⟩
abbrev S512x10 : Shape := ⟨2, ![512, 10]⟩
abbrev S10x512 : Shape := ⟨2, ![10, 512]⟩
abbrev S10 : Shape := ⟨1, ![10]⟩
abbrev S_ : Shape := ⟨0, ![]⟩
abbrev S40x1x2765 : Shape := ⟨3, ![40, 1, 2765]⟩
abbrev S1x10x1 : Shape := ⟨3, ![1, 10, 1]⟩
abbrev S40x10x2765 : Shape := ⟨3, ![40, 10, 2765]⟩
abbrev S40x27650 : Shape := ⟨2, ![40, 27650]⟩
abbrev S1x512x27648 : Shape := ⟨3, ![1, 512, 27648]⟩
abbrev S10x1x1 : Shape := ⟨3, ![10, 1, 1]⟩
abbrev S10x512x27648 : Shape := ⟨3, ![10, 512, 27648]⟩
abbrev S5120x27648 : Shape := ⟨2, ![5120, 27648]⟩
abbrev S5120x1 : Shape := ⟨2, ![5120, 1]⟩
abbrev S192x27648 : Shape := ⟨2, ![192, 27648]⟩

abbrev nBuf : Space → Nat
  | .hbm => 58
  | .vmem => 0
  | .smem => 0
  | _ => 0

abbrev bufTy : (tb : Table) → Fin (tcTables nBuf tb) → BufTy
  | .hbm, ⟨0, _⟩ => ⟨S192x1x5120, .bf16⟩
  | .hbm, ⟨1, _⟩ => ⟨S512x27648, .i32⟩
  | .hbm, ⟨2, _⟩ => ⟨S40x27648, .bf16⟩
  | .hbm, ⟨3, _⟩ => ⟨S40x2765, .i32⟩
  | .hbm, ⟨4, _⟩ => ⟨S5120, .i32⟩
  | .hbm, ⟨5, _⟩ => ⟨S192x512x10, .bf16⟩
  | .hbm, ⟨6, _⟩ => ⟨S192x10x512, .bf16⟩
  | .hbm, ⟨7, _⟩ => ⟨S192x5120, .bf16⟩
  | .hbm, ⟨8, _⟩ => ⟨S512x10, .i32⟩
  | .hbm, ⟨9, _⟩ => ⟨S10x512, .i32⟩
  | .hbm, ⟨10, _⟩ => ⟨S5120, .i32⟩
  | .hbm, ⟨11, _⟩ => ⟨S10, .i32⟩
  | .hbm, ⟨12, _⟩ => ⟨S_, .i32⟩
  | .hbm, ⟨13, _⟩ => ⟨S10, .i32⟩
  | .hbm, ⟨14, _⟩ => ⟨S10, .i32⟩
  | .hbm, ⟨15, _⟩ => ⟨S40x1x2765, .i32⟩
  | .hbm, ⟨16, _⟩ => ⟨S1x10x1, .i32⟩
  | .hbm, ⟨17, _⟩ => ⟨S40x10x2765, .i32⟩
  | .hbm, ⟨18, _⟩ => ⟨S40x10x2765, .i32⟩
  | .hbm, ⟨19, _⟩ => ⟨S40x10x2765, .i32⟩
  | .hbm, ⟨20, _⟩ => ⟨S_, .i32⟩
  | .hbm, ⟨21, _⟩ => ⟨S40x10x2765, .i32⟩
  | .hbm, ⟨22, _⟩ => ⟨S40x10x2765, .i32⟩
  | .hbm, ⟨23, _⟩ => ⟨S40x27650, .i32⟩
  | .hbm, ⟨24, _⟩ => ⟨S40x27648, .i32⟩
  | .hbm, ⟨25, _⟩ => ⟨S40x27648, .bf16⟩
  | .hbm, ⟨26, _⟩ => ⟨S1x512x27648, .i32⟩
  | .hbm, ⟨27, _⟩ => ⟨S10x1x1, .i32⟩
  | .hbm, ⟨28, _⟩ => ⟨S10x512x27648, .i32⟩
  | .hbm, ⟨29, _⟩ => ⟨S10x512x27648, .i32⟩
  | .hbm, ⟨30, _⟩ => ⟨S10x512x27648, .i32⟩
  | .hbm, ⟨31, _⟩ => ⟨S_, .i32⟩
  | .hbm, ⟨32, _⟩ => ⟨S10x512x27648, .i32⟩
  | .hbm, ⟨33, _⟩ => ⟨S10x512x27648, .i32⟩
  | .hbm, ⟨34, _⟩ => ⟨S10x512x27648, .bf16⟩
  | .hbm, ⟨35, _⟩ => ⟨S5120x27648, .bf16⟩
  | .hbm, ⟨36, _⟩ => ⟨S_, .i32⟩
  | .hbm, ⟨37, _⟩ => ⟨S5120, .i32⟩
  | .hbm, ⟨38, _⟩ => ⟨S5120, .i1⟩
  | .hbm, ⟨39, _⟩ => ⟨S_, .i32⟩
  | .hbm, ⟨40, _⟩ => ⟨S5120, .i32⟩
  | .hbm, ⟨41, _⟩ => ⟨S5120, .i32⟩
  | .hbm, ⟨42, _⟩ => ⟨S5120, .i32⟩
  | .hbm, ⟨43, _⟩ => ⟨S5120x1, .i32⟩
  | .hbm, ⟨44, _⟩ => ⟨S5120x27648, .bf16⟩
  | .hbm, ⟨45, _⟩ => ⟨S5120x27648, .bf16⟩
  | .hbm, ⟨46, _⟩ => ⟨S_, .i32⟩
  | .hbm, ⟨47, _⟩ => ⟨S5120, .i32⟩
  | .hbm, ⟨48, _⟩ => ⟨S5120, .i1⟩
  | .hbm, ⟨49, _⟩ => ⟨S_, .i32⟩
  | .hbm, ⟨50, _⟩ => ⟨S5120, .i32⟩
  | .hbm, ⟨51, _⟩ => ⟨S5120, .i32⟩
  | .hbm, ⟨52, _⟩ => ⟨S5120, .i32⟩
  | .hbm, ⟨53, _⟩ => ⟨S5120x1, .i32⟩
  | .hbm, ⟨54, _⟩ => ⟨S5120x27648, .bf16⟩
  | .hbm, ⟨55, _⟩ => ⟨S5120x27648, .bf16⟩
  | .hbm, ⟨56, _⟩ => ⟨S192x27648, .f32⟩
  | .hbm, ⟨57, _⟩ => ⟨S192x27648, .bf16⟩
  | _, _ => ⟨S192x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Proof.Groups.lean ====
/-
  What the precondition says of the group indices: each is one of 0, …, 39; and what follows of the table the kernel
  reads, whose entry is 52 times the group index.
-/
module

public import proofs.«01_k».proof.Pre_groups_exist
public import proofs.«01_k».proof.Proof.Gen.Pre_groups_exist
public import Idealize.ShloMosaic.Lib.ReduceAll
public import Idealize.ShloMosaic.Lib.Affine

@[expose] public section

noncomputable section

namespace Cert.Proof

open Idealize.ShloMosaic
open Cert.Pre_groups_exist

variable {F : FTy → Type} [FloatOps F]

/-- Every group index is below 40, read as a natural number. -/
def GroupsExist (g : S5120.Idx → BitVec 32) : Prop := ∀ x, (g x).toNat < 40

/-- The precondition's value is 1 only when every group index is one of 0, …, 39. -/
theorem groupsExist_of_pre (a0 : FVec F S192x1x5120 .bf16) (a1 : IVec S512x27648 32) (a2 : FVec F S40x27648 .bf16)
    (a3 : IVec S40x2765 32) (a4 : IVec S5120 32) (h : fn a0 a1 a2 a3 a4 = fun _ => 1#1) : GroupsExist a4 := by
  intro x
  have : Subsingleton S_.Idx := ⟨fun a b => funext fun i => i.elim0⟩
  have e := Host.reduce_andi_all _ _ _ _ (Shape.Idx.first Facts.h_S_) (congrFun h (Shape.Idx.first Facts.h_S_)) x
  have e' : IntOp.andi (IntOp.cmpi .sge (a4 x) 0#32) (IntOp.cmpi .slt (a4 x) 40#32) = 1#1 := e
  obtain ⟨h1, h2⟩ := IntOp.andi_eq_one.1 e'
  have h1 := IntOp.cmpi_sge.1 h1
  have h2 := IntOp.cmpi_slt.1 h2
  have z : (0#32 : BitVec 32).toInt = 0 := by decide
  have y : (40#32 : BitVec 32).toInt = 40 := by decide
  rw [z] at h1; rw [y] at h2
  rw [BitVec.toInt_eq_toNat_cond] at h1 h2
  have := (a4 x).isLt
  split at h1 <;> omega

/-- The table entry of a group: 52 times it, with no wrap. -/
theorem entry_toNat (g : BitVec 32) (h : g.toNat < 40) : (g * 52#32).toNat = 52 * g.toNat := by
  rw [BitVec.toNat_mul]
  show g.toNat * 52 % 2 ^ 32 = _
  omega

end Cert.Proof

end
-- ==== Proof.KernelLoops.lean ====
/-
  The kernel's memory safety, read off one run of its body (`Kernel`). The body is run once at symbolic operands: each
  counted loop by an invariant that only says its buffers are held at some contents, the rows named by the prefetched
  table inside the group tables because the precondition bounds the table's words. Nothing is said here of values.
-/
module

public import proofs.«01_k».proof.Proof.Gen.Kernel.Loops
public import proofs.«01_k».proof.Proof.Gen.Kernel.Launch
public import Idealize.ShloMosaic.Lib.Pipeline.Frame
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

abbrev UU (nD : Nat) (τ : Topo) : Type := UR sig nD τ
abbrev 𝒱₀ : Variants := Variants.none

local notation "𝕄" => MT nD τ sig Unit (Elt F) ℕ (UR sig nD τ) ℕ

/-! ## The rows a table word names lie inside the group tables -/

theorem chk1_of {v : BitVec 32} (h : v.toNat ≤ 2028) : k0_chk1 v := by
  unfold k0_chk1; intro r a; fin_cases r <;> fin_cases a <;>
    simp [k0_off40, Scalar.addi, Scalar.indexCast, IntOp.addi, S8x128, S2080x128] <;> omega
theorem chk2_of {v : BitVec 32} (h : v.toNat ≤ 2028) : k0_chk2 v := by
  unfold k0_chk2; intro r a; fin_cases r <;> fin_cases a <;>
    simp [k0_off41, Scalar.addi, Scalar.indexCast, IntOp.addi, S8x128, S2080x128] <;> omega
theorem chk3_of {v : BitVec 32} (h : v.toNat ≤ 2028) : k0_chk3 v := by
  unfold k0_chk3; intro r a; fin_cases r <;> fin_cases a <;>
    simp [k0_off46, Scalar.addi, Scalar.indexCast, IntOp.addi, S8x128, S2080x128] <;> omega
theorem chk4_of {v : BitVec 32} (h : v.toNat ≤ 2028) : k0_chk4 v := by
  unfold k0_chk4; intro r a; fin_cases r <;> fin_cases a <;>
    simp [k0_off47, Scalar.addi, Scalar.indexCast, IntOp.addi, S8x128, S2080x128] <;> omega
theorem chk5_of {v : BitVec 32} (h : v.toNat ≤ 2028) : k0_chk5 v := by
  unfold k0_chk5; intro r a; fin_cases r <;> fin_cases a <;>
    simp [k0_off52, Scalar.addi, Scalar.indexCast, IntOp.addi, S8x128, S2080x128] <;> omega
theorem chk6_of {v : BitVec 32} (h : v.toNat ≤ 2028) : k0_chk6 v := by
  unfold k0_chk6; intro r a; fin_cases r <;> fin_cases a <;>
    simp [k0_off53, Scalar.addi, Scalar.indexCast, IntOp.addi, S8x128, S2080x128] <;> omega
theorem chk7_of {v : BitVec 32} (h : v.toNat ≤ 2028) : k0_chk7 v := by
  unfold k0_chk7; intro r a; fin_cases r <;> fin_cases a <;>
    simp [k0_off58, Scalar.addi, Scalar.indexCast, IntOp.addi, S8x128, S2080x128] <;> omega
theorem chk8_of {v : BitVec 32} (h : v.toNat ≤ 2028) : k0_chk8 v := by
  unfold k0_chk8; intro r a; fin_cases r <;> fin_cases a <;>
    simp [k0_off59, Scalar.addi, Scalar.indexCast, IntOp.addi, S8x128, S2080x128] <;> omega
theorem chk9_of {v : BitVec 32} (h : v.toNat ≤ 2028) : k0_chk9 v := by
  unfold k0_chk9; intro r a; fin_cases r <;> fin_cases a <;>
    simp [k0_off64, Scalar.addi, Scalar.indexCast, IntOp.addi, S8x128, S2080x128] <;> omega
theorem chk10_of {v : BitVec 32} (h : v.toNat ≤ 2028) : k0_chk10 v := by
  unfold k0_chk10; intro r a; fin_cases r <;> fin_cases a <;>
    simp [k0_off65, Scalar.addi, Scalar.indexCast, IntOp.addi, S8x128, S2080x128] <;> omega

/-- Every word of the prefetched table names a row from which the six tables of a group fit. -/
def RowsFit (X : S5120.Idx → BitVec 32) : Prop := ∀ x, (X x).toNat ≤ 2028

/-! ## The loops: every buffer held at some contents -/

/-- The group-table loop keeps its inputs and holds the tables at some contents. -/
@[sl_loop] def loopInv_k0_t1 (c : Dev nD) (i : grid0.Coords) (arg2 : Memref sig .tc .smem S5120 .i32) (harg2 : arg2.IsWhole) (arg3 : Memref sig .tc .vmem S128x2048 .i32) (harg3 : arg3.IsWhole) (arg4 : Memref sig .tc .vmem S40x2048 .f32) (harg4 : arg4.IsWhole) (arg5 : Memref sig .tc .vmem S40x2048 .f32) (harg5 : arg5.IsWhole) (arg6 : Memref sig .tc .vmem S4x192x1280 .bf16) (harg6 : arg6.IsWhole) (arg7 : Memref sig .tc .vmem S4x192x1280 .bf16) (harg7 : arg7.IsWhole) (arg8 : Memref sig .tc .vmem S192x2048 .bf16) (harg8 : arg8.IsWhole) (arg9 : Memref sig .tc .vmem S2080x128 .i32) (harg9 : arg9.IsWhole) (arg10 : Memref sig .tc .vmem S2560x128 .i32) (harg10 : arg10.IsWhole) (arg11 : Memref sig .tc .vmem S10304x128 .i32) (harg11 : arg11.IsWhole) (arg12 : Memref sig .tc .vmem S192x2048 .f32) (harg12 : arg12.IsWhole) (k0_h1 : k0_cond1 i = 1#1)
    (f4 : Buf (Elt F) (arg4.view.loc (c : Thread nD τ))) (f5 : Buf (Elt F) (arg5.view.loc (c : Thread nD τ))) :
    LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 k0_h1 where
  inv := fun _ _ => iprop((arg4.view.loc (c : Thread nD τ) ↦[arg4.view.set]{fullShare} f4)
    ∗ (arg5.view.loc (c : Thread nD τ) ↦[arg5.view.set]{fullShare} f5)
    ∗ ∃ f, arg9.view.loc (c : Thread nD τ) ↦[arg9.view.set]{fullShare} f)
  step := fun k acc => by
    unfold k0_t1_body
    iintro ⟨H4, H5, %f9, H9⟩
    sl_exec
    sl_step
    isplitl [H4]; · iexact H4
    isplitl [H5]; · iexact H5
    iexists _; iexact H9

/-- The relayout loop keeps the packed words and holds the re-laid words at some contents. -/
@[sl_loop] def loopInv_k0_t2 (c : Dev nD) (i : grid0.Coords) (arg2 : Memref sig .tc .smem S5120 .i32) (harg2 : arg2.IsWhole) (arg3 : Memref sig .tc .vmem S128x2048 .i32) (harg3 : arg3.IsWhole) (arg4 : Memref sig .tc .vmem S40x2048 .f32) (harg4 : arg4.IsWhole) (arg5 : Memref sig .tc .vmem S40x2048 .f32) (harg5 : arg5.IsWhole) (arg6 : Memref sig .tc .vmem S4x192x1280 .bf16) (harg6 : arg6.IsWhole) (arg7 : Memref sig .tc .vmem S4x192x1280 .bf16) (harg7 : arg7.IsWhole) (arg8 : Memref sig .tc .vmem S192x2048 .bf16) (harg8 : arg8.IsWhole) (arg9 : Memref sig .tc .vmem S2080x128 .i32) (harg9 : arg9.IsWhole) (arg10 : Memref sig .tc .vmem S2560x128 .i32) (harg10 : arg10.IsWhole) (arg11 : Memref sig .tc .vmem S10304x128 .i32) (harg11 : arg11.IsWhole) (arg12 : Memref sig .tc .vmem S192x2048 .f32) (harg12 : arg12.IsWhole)
    (f3 : Buf (Elt F) (arg3.view.loc (c : Thread nD τ))) :
    LoopInvTy_k0_t2 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 where
  inv := fun _ _ => iprop((arg3.view.loc (c : Thread nD τ) ↦[arg3.view.set]{fullShare} f3)
    ∗ ∃ f, arg10.view.loc (c : Thread nD τ) ↦[arg10.view.set]{fullShare} f)
  step := fun k acc => by
    unfold k0_t2_body
    iintro ⟨H3, %f10, H10⟩
    sl_exec
    sl_step
    isplitl [H3]; · iexact H3
    iexists _; iexact H10

/-- The unpacking loop keeps the table, the group tables and the re-laid words and holds the weights at some contents. -/
@[sl_loop] def loopInv_k0_t3 (c : Dev nD) (i : grid0.Coords) (arg2 : Memref sig .tc .smem S5120 .i32) (harg2 : arg2.IsWhole) (arg3 : Memref sig .tc .vmem S128x2048 .i32) (harg3 : arg3.IsWhole) (arg4 : Memref sig .tc .vmem S40x2048 .f32) (harg4 : arg4.IsWhole) (arg5 : Memref sig .tc .vmem S40x2048 .f32) (harg5 : arg5.IsWhole) (arg6 : Memref sig .tc .vmem S4x192x1280 .bf16) (harg6 : arg6.IsWhole) (arg7 : Memref sig .tc .vmem S4x192x1280 .bf16) (harg7 : arg7.IsWhole) (arg8 : Memref sig .tc .vmem S192x2048 .bf16) (harg8 : arg8.IsWhole) (arg9 : Memref sig .tc .vmem S2080x128 .i32) (harg9 : arg9.IsWhole) (arg10 : Memref sig .tc .vmem S2560x128 .i32) (harg10 : arg10.IsWhole) (arg11 : Memref sig .tc .vmem S10304x128 .i32) (harg11 : arg11.IsWhole) (arg12 : Memref sig .tc .vmem S192x2048 .f32) (harg12 : arg12.IsWhole) (arg1 : BitVec 32)
    (f2 : Buf (Elt F) (arg2.view.loc (c : Thread nD τ))) (h2 : RowsFit (arg2.view.read (Elt F) f2))
    (f9 : Buf (Elt F) (arg9.view.loc (c : Thread nD τ))) (f10 : Buf (Elt F) (arg10.view.loc (c : Thread nD τ))) :
    LoopInvTy_k0_t3 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg1 where
  inv := fun _ _ => iprop((arg2.view.loc (c : Thread nD τ) ↦[arg2.view.set]{fullShare.right} f2)
    ∗ (arg9.view.loc (c : Thread nD τ) ↦[arg9.view.set]{fullShare} f9)
    ∗ (arg10.view.loc (c : Thread nD τ) ↦[arg10.view.set]{fullShare} f10)
    ∗ ∃ f, arg11.view.loc (c : Thread nD τ) ↦[arg11.view.set]{fullShare} f)
  step := fun k acc => by
    unfold k0_t3_body
    iintro ⟨H2, H9, H10, %f11, H11⟩
    sl_exec (disch := (first | with_reducible apply chk1_of | with_reducible apply chk2_of | with_reducible apply chk3_of | with_reducible apply chk4_of | with_reducible apply chk5_of | with_reducible apply chk6_of | with_reducible apply chk7_of | with_reducible apply chk8_of | with_reducible apply chk9_of | with_reducible apply chk10_of) <;> exact h2 _)
    sl_step
    isplitl [H2]; · iexact H2
    isplitl [H9]; · iexact H9
    isplitl [H10]; · iexact H10
    iexists _; iexact H11

end Cert.Proof.Kernel

end
-- ==== Proof.KernelBody.lean ====
/-
  `Kernel`: the kernel's body run once at one grid point, from buffers at any contents to buffers at some contents; and
  from it the frame of the whole program, the buffers' contents forgotten between points.
-/
module

public import proofs.«01_k».proof.Proof.KernelLoops

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-! ## The body's branches, by the reduction coordinate -/

/-- The test for the first step of the reduction. -/
abbrev isFirst (v : BitVec 32) : BitVec 1 := Scalar.cmpi .ne (Scalar.extui (Scalar.cmpi .eq v 0#32) : BitVec 32) 0#32
/-- The test for a later step of the reduction. -/
abbrev isLater (v : BitVec 32) : BitVec 1 := Scalar.cmpi .ne (Scalar.extui (Scalar.cmpi .sgt v 0#32) : BitVec 32) 0#32
/-- The test for the last step of the reduction. -/
abbrev isLast (v : BitVec 32) : BitVec 1 := Scalar.cmpi .ne (Scalar.extui (Scalar.cmpi .eq v 3#32) : BitVec 32) 0#32

theorem branches : ∀ j : Fin 4,
    (isFirst (BitVec.ofNat 32 j.val) = 1#1 ↔ j.val = 0) ∧ (isLater (BitVec.ofNat 32 j.val) = 1#1 ↔ j.val ≠ 0)
      ∧ (isLast (BitVec.ofNat 32 j.val) = 1#1 ↔ j.val = 3) := by decide

/-! ## The body, run once -/

set_option maxHeartbeats 4000000 in
set_option pp.maxSteps 300 in
set_option pp.deepTerms false in
/-- The body at any grid point: from the table held at words whose rows fit and every other buffer at any contents, it
    runs to its return, the table unchanged and every other buffer at some contents. -/
theorem kernelRun (c : Dev nD) (i : grid0.Coords) (arg2 : Memref sig .tc .smem S5120 .i32) (harg2 : arg2.IsWhole) (arg3 : Memref sig .tc .vmem S128x2048 .i32) (harg3 : arg3.IsWhole) (arg4 : Memref sig .tc .vmem S40x2048 .f32) (harg4 : arg4.IsWhole) (arg5 : Memref sig .tc .vmem S40x2048 .f32) (harg5 : arg5.IsWhole) (arg6 : Memref sig .tc .vmem S4x192x1280 .bf16) (harg6 : arg6.IsWhole) (arg7 : Memref sig .tc .vmem S4x192x1280 .bf16) (harg7 : arg7.IsWhole) (arg8 : Memref sig .tc .vmem S192x2048 .bf16) (harg8 : arg8.IsWhole) (arg9 : Memref sig .tc .vmem S2080x128 .i32) (harg9 : arg9.IsWhole) (arg10 : Memref sig .tc .vmem S2560x128 .i32) (harg10 : arg10.IsWhole) (arg11 : Memref sig .tc .vmem S10304x128 .i32) (harg11 : arg11.IsWhole) (arg12 : Memref sig .tc .vmem S192x2048 .f32) (harg12 : arg12.IsWhole)
    (X2 : S5120.Idx → BitVec 32) (hX2 : RowsFit X2) (K : PUnit → sProp 𝕄) :
    iprop(owns (c : Thread nD τ) arg2 fullShare.right X2
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (iprop(owns (c : Thread nD τ) arg2 fullShare.right X2
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)) -∗ K ⟨⟩))
      ⊢ wp frame (wpE (defs₀ (F := F)) 𝒱₀ c none) Set.univ (cc0__body i arg2 harg2 arg3 harg3 arg4 harg4 arg5 harg5 arg6 harg6 arg7 harg7 arg8 harg8 arg9 harg9 arg10 harg10 arg11 harg11 arg12 harg12) K := by
  have hb := branches (i 1)
  simp only [cc0__body_eq_skeleton]; unfold cc0__body_skel
  unfold owns
  by_cases h0 : (i 1).val = 0
  · have e1 : k0_cond1 i = 1#1 := hb.1.mpr h0
    have e2 : isFirst (BitVec.ofNat 32 (i 1).val) = 1#1 := hb.1.mpr h0
    have e3 : ¬ isLater (BitVec.ofNat 32 (i 1).val) = 1#1 := fun h => hb.2.1.mp h h0
    have e4 : ¬ k0_cond18 i = 1#1 := fun h => absurd (h0.symm.trans (hb.2.2.mp h)) (by decide)
    iintro ⟨⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    have h2 : RowsFit (arg2.view.read (Elt F) f2) := hf2 ▸ hX2
    sl_exec (disch := first | sl_exact e1 | sl_exact e2 | sl_exact e3 | sl_exact e4)
    sl_step
    iapply Hk
    isplitl [H2]
    · iexists _; isplitr; swap; · iexact H2
      ipureintro; exact hf2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl
  · have e1 : ¬ k0_cond1 i = 1#1 := fun h => h0 (hb.1.mp h)
    have e2 : ¬ isFirst (BitVec.ofNat 32 (i 1).val) = 1#1 := fun h => h0 (hb.1.mp h)
    have e3 : isLater (BitVec.ofNat 32 (i 1).val) = 1#1 := hb.2.1.mpr h0
    by_cases h3 : (i 1).val = 3
    · have e4 : k0_cond18 i = 1#1 := hb.2.2.mpr h3
      iintro ⟨⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
      have h2 : RowsFit (arg2.view.read (Elt F) f2) := hf2 ▸ hX2
      sl_exec (disch := first | sl_exact e1 | sl_exact e2 | sl_exact e3 | sl_exact e4)
      sl_step
      iapply Hk
      isplitl [H2]
      · iexists _; isplitr; swap; · iexact H2
        ipureintro; exact hf2
      isplitl [H3]
      · iexists _, _; isplitr; swap; · iexact H3
        ipureintro; rfl
      isplitl [H4]
      · iexists _, _; isplitr; swap; · iexact H4
        ipureintro; rfl
      isplitl [H5]
      · iexists _, _; isplitr; swap; · iexact H5
        ipureintro; rfl
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      iexists _, _; isplitr; swap; · iexact H12
      ipureintro; rfl
    · have e4 : ¬ k0_cond18 i = 1#1 := fun h => h3 (hb.2.2.mp h)
      iintro ⟨⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
      have h2 : RowsFit (arg2.view.read (Elt F) f2) := hf2 ▸ hX2
      sl_exec (disch := first | sl_exact e1 | sl_exact e2 | sl_exact e3 | sl_exact e4)
      sl_step
      iapply Hk
      isplitl [H2]
      · iexists _; isplitr; swap; · iexact H2
        ipureintro; exact hf2
      isplitl [H3]
      · iexists _, _; isplitr; swap; · iexact H3
        ipureintro; rfl
      isplitl [H4]
      · iexists _, _; isplitr; swap; · iexact H4
        ipureintro; rfl
      isplitl [H5]
      · iexists _, _; isplitr; swap; · iexact H5
        ipureintro; rfl
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      iexists _, _; isplitr; swap; · iexact H12
      ipureintro; rfl

end Cert.Proof.Kernel

end
-- ==== Proof.KernelFrame.lean ====
/-
  `Kernel`: the launch. The contents the host operations leave at the region's entry, the region run with the buffers'
  contents forgotten, and the frame: the program runs, its arguments end unchanged and every counter is zero again.
-/
module

public import proofs.«01_k».proof.Defs
public import proofs.«01_k».proof.Proof.Groups
public import proofs.«01_k».proof.Proof.KernelBody
public import proofs.«01_k».proof.Proof.Gen.Kernel.Launch
public import Idealize.ShloMosaic.Lib.Pipeline.Frame
public import Idealize.ShloMosaic.Lib.StableHlo.RunRead

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [BitOps F] [∀ e, Nonempty (Elt F e)]

local notation "𝕄" => MT nD τ sig Unit (Elt F) ℕ (UR sig nD τ) ℕ

variable (m : (ℓ : Loc nD τ sig) → Buf (Elt F) ℓ) (g : Dev nD → PrngReg)

/-! ## The contents at the region's entry -/

/-- What each buffer of device `c` holds at the region's entry: the memory after the host operations. -/
abbrev V (c : Dev nD) (b : Ref sig .tc) : Buf (Elt F) ((c : Thread nD τ).loc b) :=
  StableHlo.after hostOps0 (fun b => m (c, b)) b

/-- The host operations write no argument. -/
theorem V_arg0 (c : Dev nD) : V m c main_arg0 = m ((c : Thread nD τ).loc main_arg0) := by
  dsimp only [V]; after_reads_simp
theorem V_arg1 (c : Dev nD) : V m c main_arg1 = m ((c : Thread nD τ).loc main_arg1) := by
  dsimp only [V]; after_reads_simp
theorem V_arg2 (c : Dev nD) : V m c main_arg2 = m ((c : Thread nD τ).loc main_arg2) := by
  dsimp only [V]; after_reads_simp
theorem V_arg3 (c : Dev nD) : V m c main_arg3 = m ((c : Thread nD τ).loc main_arg3) := by
  dsimp only [V]; after_reads_simp
theorem V_arg4 (c : Dev nD) : V m c main_arg4 = m ((c : Thread nD τ).loc main_arg4) := by
  dsimp only [V]; after_reads_simp

/-- The table holds 52 times the group index. -/
theorem V_v20 (c : Dev nD) (x : S5120.Idx) :
    (V m c main_v20 : S5120.Idx → BitVec 32) x = (show BitVec 32 from (m ((c : Thread nD τ).loc main_arg4) : S5120.Idx → BitVec 32) x) * 52#32 := by
  dsimp only [V]; after_reads_simp; rfl

/-- Every row the table names lies in the kernel's tables. -/
theorem rowsFit_V (c : Dev nD) (hg : GroupsExist (m ((c : Thread nD τ).loc main_arg4))) : RowsFit (V m c main_v20) := by
  intro x
  rw [V_v20, entry_toNat _ (hg x)]
  have := hg x
  omega

/-! ## The region, its contents forgotten -/

/-- The prefetched table's contents, admissible whatever they are: no block's position reads the table. -/
def tbl (_ : Fin 1) : (pcfg0 (F := F)).Adm := ⟨fun k => V m 0 (pre0.ref k), trivial⟩

/-- The proof data: each array as the region finds it, nothing said of what the body leaves. -/
def rdat (c : Dev nD) : RDat τ (Elt F) Unit ℕ (UR sig nD τ) ℕ (cfg0 (tbl m 0)) c where
  A w := V m c (Pipeline.arrRef spec0 w)
  after _ _ _ _ := True
  Φ _ := iprop(Pipeline.ΦA spec0 c ∗ Pipeline.ΦT pre0 (tbl m 0).1 c)
  q _ := fullShare
  owed _ := 0

/-- The invariant, conjunct by conjunct. -/
theorem inv_eq (c : Dev nD) :
    (iprop(Pipeline.ΦA spec0 c ∗ Pipeline.ΦT pre0 (tbl m 0).1 c) : sProp 𝕄)
      = iprop((((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)) ∗ ∃ r, prngReg c r)
          ∗ owns (c : Thread nD τ) (Memref.whole main_v20) fullShare.right (V m 0 main_v20)) := by
  unfold Pipeline.ΦA Pipeline.ΦT Pipeline.prefHeld
  rw [scopedRest0_eq, show (Finset.univ : Finset (Fin pre0.K)) = {(0 : Fin 1)} from rfl, BI.bigSep_singleton]
  simp only [owns_whole]
  rfl

/-- The body at a grid point, its staging buffers at any contents. -/
theorem body_obligation (c : Dev nD) (hfit : RowsFit (V m 0 main_v20)) :
    (rdat m c).BodyObligation (defs₀ (F := F)) 𝒱₀ () Set.univ := fun t Y _ => by
  rw [bigSep_W0, bigSep_W0]
  unfold defs₀; rw [Defs.onTc_tc]
  rw [show (rdat m c).Φ t.succ = (rdat m c).Φ t.castSucc from rfl,
    show (rdat m c).owesAt () t.succ = (rdat m c).owesAt () t.castSucc from rfl,
    show (rdat m c).Φ t.castSucc = iprop(Pipeline.ΦA spec0 c ∗ Pipeline.ΦT pre0 (tbl m 0).1 c) from rfl, inv_eq]
  iintro ⟨⟨⟨⟨S0, S1, S2, S3⟩, Hg⟩, HT⟩, HO, H0, H1, H2, H3, H4, H5⟩
  iapply (kernelRun c (grid0.coords t) (Memref.whole main_v20) (Memref.isWhole_whole _) _ _ _ _ _ _ _ _ _ _ _ _ _ _ _ _ _ _ _ _ (V m 0 main_v20) hfit _)
  isplitl [HT]; · iexact HT
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [S0]; · iexact S0
  isplitl [S1]; · iexact S1
  isplitl [S2]; · iexact S2
  isplitl [S3]; · iexact S3
  iintro ⟨HT, ⟨%X0, H0⟩, ⟨%X1, H1⟩, ⟨%X2, H2⟩, ⟨%X3, H3⟩, ⟨%X4, H4⟩, ⟨%X5, H5⟩, S0, S1, S2, S3⟩
  isplitl [S0 S1 S2 S3 Hg HT]
  · isplitl [S0 S1 S2 S3 Hg]
    · isplitl [S0 S1 S2 S3]
      · isplitl [S0]; · iexact S0
        isplitl [S1]; · iexact S1
        isplitl [S2]; · iexact S2
        iexact S3
      iexact Hg
    iexact HT
  isplitl [HO]; · iexact HO
  isplitl [H0]; · iexists X0; isplitr; · ipureintro; trivial
                  iexact H0
  isplitl [H1]; · iexists X1; isplitr; · ipureintro; trivial
                  iexact H1
  isplitl [H2]; · iexists X2; isplitr; · ipureintro; trivial
                  iexact H2
  isplitl [H3]; · iexists X3; isplitr; · ipureintro; trivial
                  iexact H3
  isplitl [H4]; · iexists X4; isplitr; · ipureintro; trivial
                  iexact H4
  iexists X5; isplitr; · ipureintro; trivial
  iexact H5

/-! ## The launch -/

/-- No host operation leaves anything unchosen. -/
theorem hostOps0_fresh : (hostOps0 : List (HloOp τ sig (Elt F))).Forall fun op => op.fresh = ∅ := by
  repeat' constructor

-- the theorem's implicit arguments are found by unifying its conclusion with this statement, which unifies only when
-- unification may unfold plain definitions in a metavariable's type
set_option backward.isDefEq.respectTransparency.types false in
/-- From any memory whose group indices exist and zero counters, every execution ends, each buffer that is no window's
    array holding what it held at the region's entry, every counter zero. -/
theorem run_main (hfit : RowsFit (V m 0 main_v20)) :
    θ_run (defs (F := F)) (onTc (τ := τ) (main (F := F))) ⟨m, fun _ => 0, g⟩
      (fun r => RDat.FramePost (cfg0 (tbl m 0)) (rdat m) (V m) r ∧ r.2.sem = fun _ => 0) :=
  RDat.θ_run_frameP (pcfgs (F := F)) (tbl m) (0 : Fin 1) launch0 defs₀ 𝒱₀ (rdat m) m g main
    (hbody := fun c => body_obligation m c hfit) (hshare := fun c w => (rdat m c).share_full (fun _ => rfl) w)
    (howed := fun _ _ => rfl) (V := V m)
    (hmain := Pipeline.hmainP_prefix (pcfgs (F := F)) (0 : Fin 1) defs₀ 𝒱₀ m main hostOps0 hostOps0_sub hostOps0_fresh main_chain)
    (hA := fun _ _ => rfl) (hpf := fun c k => by obtain rfl := Subsingleton.elim c 0; rfl) (hΦ := fun _ _ => rfl) (Q' := _) (hQ' := fun _ h => h)

/-- The arguments the region does not window are no window's array. -/
theorem arg_ne : (∀ w, (spec0 w).arr.view.ref ≠ main_arg0) ∧ (∀ w, (spec0 w).arr.view.ref ≠ main_arg2)
    ∧ (∀ w, (spec0 w).arr.view.ref ≠ main_arg3) ∧ ∀ w, (spec0 w).arr.view.ref ≠ main_arg4 := by decide

/-- The frame of the program. -/
theorem quiescent (m : (ℓ : Loc nD τ sig) → Buf (Elt Bits) ℓ) (g : Dev nD → PrngReg)
    (hg : GroupsExist (m (((0 : Dev nD) : Thread nD τ).loc main_arg4))) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r (h : _ ∧ _) => ⟨fun c =>
    ⟨((h.1 c).2 main_arg0 (Pipeline.mem_restRefs_of main_arg0 (by decide) (arg_ne.1))).trans (V_arg0 m c),
     ((RDat.FramePost.arr_in h.1 c 0 rfl)).trans (V_arg1 m c),
     ((h.1 c).2 main_arg2 (Pipeline.mem_restRefs_of main_arg2 (by decide) (arg_ne.2.1))).trans (V_arg2 m c),
     ((h.1 c).2 main_arg3 (Pipeline.mem_restRefs_of main_arg3 (by decide) (arg_ne.2.2.1))).trans (V_arg3 m c),
     ((h.1 c).2 main_arg4 (Pipeline.mem_restRefs_of main_arg4 (by decide) (arg_ne.2.2.2))).trans (V_arg4 m c)⟩, h.2⟩)
    (run_main m g (rowsFit_V m 0 hg))

end Cert.Proof.Kernel

end
-- ==== Proof.KernelIdealLoops.lean ====
/-
  The kernel's memory safety, read off one run of its body (`KernelIdeal`). The body is run once at symbolic operands: each
  counted loop by an invariant that only says its buffers are held at some contents, the rows named by the prefetched
  table inside the group tables because the precondition bounds the table's words. Nothing is said here of values.
-/
module

public import proofs.«01_k».proof.Proof.Gen.KernelIdeal.Loops
public import proofs.«01_k».proof.Proof.Gen.KernelIdeal.Launch
public import Idealize.ShloMosaic.Lib.Pipeline.Frame
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UR sig nD τ) ℕ

/-! ## The rows a table word names lie inside the group tables -/

theorem chk1_of {v : BitVec 32} (h : v.toNat ≤ 2028) : k0_chk1 v := by
  unfold k0_chk1; intro r a; fin_cases r <;> fin_cases a <;>
    simp [k0_off40, Scalar.addi, Scalar.indexCast, IntOp.addi, S8x128, S2080x2x128] <;> omega
theorem chk2_of {v : BitVec 32} (h : v.toNat ≤ 2028) : k0_chk2 v := by
  unfold k0_chk2; intro r a; fin_cases r <;> fin_cases a <;>
    simp [k0_off41, Scalar.addi, Scalar.indexCast, IntOp.addi, S8x128, S2080x2x128] <;> omega
theorem chk3_of {v : BitVec 32} (h : v.toNat ≤ 2028) : k0_chk3 v := by
  unfold k0_chk3; intro r a; fin_cases r <;> fin_cases a <;>
    simp [k0_off46, Scalar.addi, Scalar.indexCast, IntOp.addi, S8x128, S2080x2x128] <;> omega
theorem chk4_of {v : BitVec 32} (h : v.toNat ≤ 2028) : k0_chk4 v := by
  unfold k0_chk4; intro r a; fin_cases r <;> fin_cases a <;>
    simp [k0_off47, Scalar.addi, Scalar.indexCast, IntOp.addi, S8x128, S2080x2x128] <;> omega
theorem chk5_of {v : BitVec 32} (h : v.toNat ≤ 2028) : k0_chk5 v := by
  unfold k0_chk5; intro r a; fin_cases r <;> fin_cases a <;>
    simp [k0_off52, Scalar.addi, Scalar.indexCast, IntOp.addi, S8x128, S2080x2x128] <;> omega
theorem chk6_of {v : BitVec 32} (h : v.toNat ≤ 2028) : k0_chk6 v := by
  unfold k0_chk6; intro r a; fin_cases r <;> fin_cases a <;>
    simp [k0_off53, Scalar.addi, Scalar.indexCast, IntOp.addi, S8x128, S2080x2x128] <;> omega
theorem chk7_of {v : BitVec 32} (h : v.toNat ≤ 2028) : k0_chk7 v := by
  unfold k0_chk7; intro r a; fin_cases r <;> fin_cases a <;>
    simp [k0_off58, Scalar.addi, Scalar.indexCast, IntOp.addi, S8x128, S2080x2x128] <;> omega
theorem chk8_of {v : BitVec 32} (h : v.toNat ≤ 2028) : k0_chk8 v := by
  unfold k0_chk8; intro r a; fin_cases r <;> fin_cases a <;>
    simp [k0_off59, Scalar.addi, Scalar.indexCast, IntOp.addi, S8x128, S2080x2x128] <;> omega
theorem chk9_of {v : BitVec 32} (h : v.toNat ≤ 2028) : k0_chk9 v := by
  unfold k0_chk9; intro r a; fin_cases r <;> fin_cases a <;>
    simp [k0_off64, Scalar.addi, Scalar.indexCast, IntOp.addi, S8x128, S2080x2x128] <;> omega
theorem chk10_of {v : BitVec 32} (h : v.toNat ≤ 2028) : k0_chk10 v := by
  unfold k0_chk10; intro r a; fin_cases r <;> fin_cases a <;>
    simp [k0_off65, Scalar.addi, Scalar.indexCast, IntOp.addi, S8x128, S2080x2x128] <;> omega

/-- Every word of the prefetched table names a row from which the six tables of a group fit. -/
def RowsFit (X : S5120.Idx → BitVec 32) : Prop := ∀ x, (X x).toNat ≤ 2028

/-! ## The loops: every buffer held at some contents -/

/-- The group-table loop keeps its inputs and holds the tables at some contents. -/
@[sl_loop] def loopInv_k0_t1 (c : Dev nD) (i : grid0.Coords) (arg2 : Memref sig .tc .smem S5120 .i32) (harg2 : arg2.IsWhole) (arg3 : Memref sig .tc .vmem S128x2048 .i32) (harg3 : arg3.IsWhole) (arg4 : Memref sig .tc .vmem S40x2048 .f32) (harg4 : arg4.IsWhole) (arg5 : Memref sig .tc .vmem S40x2048 .f32) (harg5 : arg5.IsWhole) (arg6 : Memref sig .tc .vmem S4x192x1280 .bf16) (harg6 : arg6.IsWhole) (arg7 : Memref sig .tc .vmem S4x192x1280 .bf16) (harg7 : arg7.IsWhole) (arg8 : Memref sig .tc .vmem S192x2048 .bf16) (harg8 : arg8.IsWhole) (arg9 : Memref sig .tc .vmem S2080x2x128 .bf16) (harg9 : arg9.IsWhole) (arg10 : Memref sig .tc .vmem S2560x128 .i32) (harg10 : arg10.IsWhole) (arg11 : Memref sig .tc .vmem S10304x2x128 .bf16) (harg11 : arg11.IsWhole) (arg12 : Memref sig .tc .vmem S192x2048 .f32) (harg12 : arg12.IsWhole) (k0_h1 : k0_cond1 i = 1#1)
    (f4 : Buf (Elt F) (arg4.view.loc (c : Thread nD τ))) (f5 : Buf (Elt F) (arg5.view.loc (c : Thread nD τ))) :
    LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 k0_h1 where
  inv := fun _ _ => iprop((arg4.view.loc (c : Thread nD τ) ↦[arg4.view.set]{fullShare} f4)
    ∗ (arg5.view.loc (c : Thread nD τ) ↦[arg5.view.set]{fullShare} f5)
    ∗ ∃ f, arg9.view.loc (c : Thread nD τ) ↦[arg9.view.set]{fullShare} f)
  step := fun k acc => by
    unfold k0_t1_body
    iintro ⟨H4, H5, %f9, H9⟩
    sl_exec
    sl_step
    isplitl [H4]; · iexact H4
    isplitl [H5]; · iexact H5
    iexists _; iexact H9

/-- The relayout loop keeps the packed words and holds the re-laid words at some contents. -/
@[sl_loop] def loopInv_k0_t2 (c : Dev nD) (i : grid0.Coords) (arg2 : Memref sig .tc .smem S5120 .i32) (harg2 : arg2.IsWhole) (arg3 : Memref sig .tc .vmem S128x2048 .i32) (harg3 : arg3.IsWhole) (arg4 : Memref sig .tc .vmem S40x2048 .f32) (harg4 : arg4.IsWhole) (arg5 : Memref sig .tc .vmem S40x2048 .f32) (harg5 : arg5.IsWhole) (arg6 : Memref sig .tc .vmem S4x192x1280 .bf16) (harg6 : arg6.IsWhole) (arg7 : Memref sig .tc .vmem S4x192x1280 .bf16) (harg7 : arg7.IsWhole) (arg8 : Memref sig .tc .vmem S192x2048 .bf16) (harg8 : arg8.IsWhole) (arg9 : Memref sig .tc .vmem S2080x2x128 .bf16) (harg9 : arg9.IsWhole) (arg10 : Memref sig .tc .vmem S2560x128 .i32) (harg10 : arg10.IsWhole) (arg11 : Memref sig .tc .vmem S10304x2x128 .bf16) (harg11 : arg11.IsWhole) (arg12 : Memref sig .tc .vmem S192x2048 .f32) (harg12 : arg12.IsWhole)
    (f3 : Buf (Elt F) (arg3.view.loc (c : Thread nD τ))) :
    LoopInvTy_k0_t2 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 where
  inv := fun _ _ => iprop((arg3.view.loc (c : Thread nD τ) ↦[arg3.view.set]{fullShare} f3)
    ∗ ∃ f, arg10.view.loc (c : Thread nD τ) ↦[arg10.view.set]{fullShare} f)
  step := fun k acc => by
    unfold k0_t2_body
    iintro ⟨H3, %f10, H10⟩
    sl_exec
    sl_step
    isplitl [H3]; · iexact H3
    iexists _; iexact H10

/-- The unpacking loop keeps the table, the group tables and the re-laid words and holds the weights at some contents. -/
@[sl_loop] def loopInv_k0_t3 (c : Dev nD) (i : grid0.Coords) (arg2 : Memref sig .tc .smem S5120 .i32) (harg2 : arg2.IsWhole) (arg3 : Memref sig .tc .vmem S128x2048 .i32) (harg3 : arg3.IsWhole) (arg4 : Memref sig .tc .vmem S40x2048 .f32) (harg4 : arg4.IsWhole) (arg5 : Memref sig .tc .vmem S40x2048 .f32) (harg5 : arg5.IsWhole) (arg6 : Memref sig .tc .vmem S4x192x1280 .bf16) (harg6 : arg6.IsWhole) (arg7 : Memref sig .tc .vmem S4x192x1280 .bf16) (harg7 : arg7.IsWhole) (arg8 : Memref sig .tc .vmem S192x2048 .bf16) (harg8 : arg8.IsWhole) (arg9 : Memref sig .tc .vmem S2080x2x128 .bf16) (harg9 : arg9.IsWhole) (arg10 : Memref sig .tc .vmem S2560x128 .i32) (harg10 : arg10.IsWhole) (arg11 : Memref sig .tc .vmem S10304x2x128 .bf16) (harg11 : arg11.IsWhole) (arg12 : Memref sig .tc .vmem S192x2048 .f32) (harg12 : arg12.IsWhole) (arg1 : BitVec 32)
    (f2 : Buf (Elt F) (arg2.view.loc (c : Thread nD τ))) (h2 : RowsFit (arg2.view.read (Elt F) f2))
    (f9 : Buf (Elt F) (arg9.view.loc (c : Thread nD τ))) (f10 : Buf (Elt F) (arg10.view.loc (c : Thread nD τ))) :
    LoopInvTy_k0_t3 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg1 where
  inv := fun _ _ => iprop((arg2.view.loc (c : Thread nD τ) ↦[arg2.view.set]{fullShare.right} f2)
    ∗ (arg9.view.loc (c : Thread nD τ) ↦[arg9.view.set]{fullShare} f9)
    ∗ (arg10.view.loc (c : Thread nD τ) ↦[arg10.view.set]{fullShare} f10)
    ∗ ∃ f, arg11.view.loc (c : Thread nD τ) ↦[arg11.view.set]{fullShare} f)
  step := fun k acc => by
    unfold k0_t3_body
    iintro ⟨H2, H9, H10, %f11, H11⟩
    sl_exec (disch := (first | with_reducible apply chk1_of | with_reducible apply chk2_of | with_reducible apply chk3_of | with_reducible apply chk4_of | with_reducible apply chk5_of | with_reducible apply chk6_of | with_reducible apply chk7_of | with_reducible apply chk8_of | with_reducible apply chk9_of | with_reducible apply chk10_of) <;> exact h2 _)
    sl_step
    isplitl [H2]; · iexact H2
    isplitl [H9]; · iexact H9
    isplitl [H10]; · iexact H10
    iexists _; iexact H11

end Cert.Proof.KernelIdeal

end
-- ==== Proof.KernelIdealBody.lean ====
/-
  `KernelIdeal`: the kernel's body run once at one grid point, from buffers at any contents to buffers at some contents; and
  from it the frame of the whole program, the buffers' contents forgotten between points.
-/
module

public import proofs.«01_k».proof.Proof.KernelIdealLoops

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The body's branches, by the reduction coordinate -/

/-- The test for the first step of the reduction. -/
abbrev isFirst (v : BitVec 32) : BitVec 1 := Scalar.cmpi .ne (Scalar.extui (Scalar.cmpi .eq v 0#32) : BitVec 32) 0#32
/-- The test for a later step of the reduction. -/
abbrev isLater (v : BitVec 32) : BitVec 1 := Scalar.cmpi .ne (Scalar.extui (Scalar.cmpi .sgt v 0#32) : BitVec 32) 0#32
/-- The test for the last step of the reduction. -/
abbrev isLast (v : BitVec 32) : BitVec 1 := Scalar.cmpi .ne (Scalar.extui (Scalar.cmpi .eq v 3#32) : BitVec 32) 0#32

theorem branches : ∀ j : Fin 4,
    (isFirst (BitVec.ofNat 32 j.val) = 1#1 ↔ j.val = 0) ∧ (isLater (BitVec.ofNat 32 j.val) = 1#1 ↔ j.val ≠ 0)
      ∧ (isLast (BitVec.ofNat 32 j.val) = 1#1 ↔ j.val = 3) := by decide

/-! ## The body, run once -/

set_option maxHeartbeats 4000000 in
set_option pp.maxSteps 300 in
set_option pp.deepTerms false in
/-- The body at any grid point: from the table held at words whose rows fit and every other buffer at any contents, it
    runs to its return, the table unchanged and every other buffer at some contents. -/
theorem kernelRun (c : Dev nD) (i : grid0.Coords) (arg2 : Memref sig .tc .smem S5120 .i32) (harg2 : arg2.IsWhole) (arg3 : Memref sig .tc .vmem S128x2048 .i32) (harg3 : arg3.IsWhole) (arg4 : Memref sig .tc .vmem S40x2048 .f32) (harg4 : arg4.IsWhole) (arg5 : Memref sig .tc .vmem S40x2048 .f32) (harg5 : arg5.IsWhole) (arg6 : Memref sig .tc .vmem S4x192x1280 .bf16) (harg6 : arg6.IsWhole) (arg7 : Memref sig .tc .vmem S4x192x1280 .bf16) (harg7 : arg7.IsWhole) (arg8 : Memref sig .tc .vmem S192x2048 .bf16) (harg8 : arg8.IsWhole) (arg9 : Memref sig .tc .vmem S2080x2x128 .bf16) (harg9 : arg9.IsWhole) (arg10 : Memref sig .tc .vmem S2560x128 .i32) (harg10 : arg10.IsWhole) (arg11 : Memref sig .tc .vmem S10304x2x128 .bf16) (harg11 : arg11.IsWhole) (arg12 : Memref sig .tc .vmem S192x2048 .f32) (harg12 : arg12.IsWhole)
    (X2 : S5120.Idx → BitVec 32) (hX2 : RowsFit X2) (K : PUnit → sProp 𝕄) :
    iprop(owns (c : Thread nD τ) arg2 fullShare.right X2
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (iprop(owns (c : Thread nD τ) arg2 fullShare.right X2
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)) -∗ K ⟨⟩))
      ⊢ wp frame (wpE (defs₀ (F := F)) 𝒱₀ c none) Set.univ (cc0__body i arg2 harg2 arg3 harg3 arg4 harg4 arg5 harg5 arg6 harg6 arg7 harg7 arg8 harg8 arg9 harg9 arg10 harg10 arg11 harg11 arg12 harg12) K := by
  have hb := branches (i 1)
  simp only [cc0__body_eq_skeleton]; unfold cc0__body_skel
  unfold owns
  by_cases h0 : (i 1).val = 0
  · have e1 : k0_cond1 i = 1#1 := hb.1.mpr h0
    have e2 : isFirst (BitVec.ofNat 32 (i 1).val) = 1#1 := hb.1.mpr h0
    have e3 : ¬ isLater (BitVec.ofNat 32 (i 1).val) = 1#1 := fun h => hb.2.1.mp h h0
    have e4 : ¬ k0_cond18 i = 1#1 := fun h => absurd (h0.symm.trans (hb.2.2.mp h)) (by decide)
    iintro ⟨⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    have h2 : RowsFit (arg2.view.read (Elt F) f2) := hf2 ▸ hX2
    sl_exec (disch := first | sl_exact e1 | sl_exact e2 | sl_exact e3 | sl_exact e4)
    sl_step
    iapply Hk
    isplitl [H2]
    · iexists _; isplitr; swap; · iexact H2
      ipureintro; exact hf2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl
  · have e1 : ¬ k0_cond1 i = 1#1 := fun h => h0 (hb.1.mp h)
    have e2 : ¬ isFirst (BitVec.ofNat 32 (i 1).val) = 1#1 := fun h => h0 (hb.1.mp h)
    have e3 : isLater (BitVec.ofNat 32 (i 1).val) = 1#1 := hb.2.1.mpr h0
    by_cases h3 : (i 1).val = 3
    · have e4 : k0_cond18 i = 1#1 := hb.2.2.mpr h3
      iintro ⟨⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
      have h2 : RowsFit (arg2.view.read (Elt F) f2) := hf2 ▸ hX2
      sl_exec (disch := first | sl_exact e1 | sl_exact e2 | sl_exact e3 | sl_exact e4)
      sl_step
      iapply Hk
      isplitl [H2]
      · iexists _; isplitr; swap; · iexact H2
        ipureintro; exact hf2
      isplitl [H3]
      · iexists _, _; isplitr; swap; · iexact H3
        ipureintro; rfl
      isplitl [H4]
      · iexists _, _; isplitr; swap; · iexact H4
        ipureintro; rfl
      isplitl [H5]
      · iexists _, _; isplitr; swap; · iexact H5
        ipureintro; rfl
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      iexists _, _; isplitr; swap; · iexact H12
      ipureintro; rfl
    · have e4 : ¬ k0_cond18 i = 1#1 := fun h => h3 (hb.2.2.mp h)
      iintro ⟨⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
      have h2 : RowsFit (arg2.view.read (Elt F) f2) := hf2 ▸ hX2
      sl_exec (disch := first | sl_exact e1 | sl_exact e2 | sl_exact e3 | sl_exact e4)
      sl_step
      iapply Hk
      isplitl [H2]
      · iexists _; isplitr; swap; · iexact H2
        ipureintro; exact hf2
      isplitl [H3]
      · iexists _, _; isplitr; swap; · iexact H3
        ipureintro; rfl
      isplitl [H4]
      · iexists _, _; isplitr; swap; · iexact H4
        ipureintro; rfl
      isplitl [H5]
      · iexists _, _; isplitr; swap; · iexact H5
        ipureintro; rfl
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      iexists _, _; isplitr; swap; · iexact H12
      ipureintro; rfl

end Cert.Proof.KernelIdeal

end
-- ==== Proof.KernelIdealFrame.lean ====
/-
  `KernelIdeal`: the launch. The contents the host operations leave at the region's entry, the region run with the buffers'
  contents forgotten, and the frame: the program runs, its arguments end unchanged and every counter is zero again.
-/
module

public import proofs.«01_k».proof.Defs
public import proofs.«01_k».proof.Proof.Groups
public import proofs.«01_k».proof.Proof.KernelIdealBody
public import proofs.«01_k».proof.Proof.Gen.KernelIdeal.Launch
public import Idealize.ShloMosaic.Lib.Pipeline.Frame
public import Idealize.ShloMosaic.Lib.StableHlo.RunRead

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (g : Dev nD → PrngReg)

/-! ## The contents at the region's entry -/

/-- What each buffer of device `c` holds at the region's entry: the memory after the host operations. -/
abbrev V (c : Dev nD) (b : Ref sig .tc) : Buf (Elt F) ((c : Thread nD τ).loc b) :=
  StableHlo.after hostOps0 (fun b => m (c, b)) b

/-- The host operations write no argument. -/
theorem V_arg0 (c : Dev nD) : V m c main_arg0 = m ((c : Thread nD τ).loc main_arg0) := by
  dsimp only [V]; after_reads_simp
theorem V_arg1 (c : Dev nD) : V m c main_arg1 = m ((c : Thread nD τ).loc main_arg1) := by
  dsimp only [V]; after_reads_simp
theorem V_arg2 (c : Dev nD) : V m c main_arg2 = m ((c : Thread nD τ).loc main_arg2) := by
  dsimp only [V]; after_reads_simp
theorem V_arg3 (c : Dev nD) : V m c main_arg3 = m ((c : Thread nD τ).loc main_arg3) := by
  dsimp only [V]; after_reads_simp
theorem V_arg4 (c : Dev nD) : V m c main_arg4 = m ((c : Thread nD τ).loc main_arg4) := by
  dsimp only [V]; after_reads_simp

/-- The table holds 52 times the group index. -/
theorem V_v20 (c : Dev nD) (x : S5120.Idx) :
    (V m c main_v20 : S5120.Idx → BitVec 32) x = (show BitVec 32 from (m ((c : Thread nD τ).loc main_arg4) : S5120.Idx → BitVec 32) x) * 52#32 := by
  dsimp only [V]; after_reads_simp; rfl

/-- Every row the table names lies in the kernel's tables. -/
theorem rowsFit_V (c : Dev nD) (hg : GroupsExist (m ((c : Thread nD τ).loc main_arg4))) : RowsFit (V m c main_v20) := by
  intro x
  rw [V_v20, entry_toNat _ (hg x)]
  have := hg x
  omega

/-! ## The region, its contents forgotten -/

/-- The prefetched table's contents, admissible whatever they are: no block's position reads the table. -/
def tbl (_ : Fin 1) : (pcfg0 (F := F)).Adm := ⟨fun k => V m 0 (pre0.ref k), trivial⟩

/-- The proof data: each array as the region finds it, nothing said of what the body leaves. -/
def rdat (c : Dev nD) : RDat τ (Elt F) Unit ℕ (UR sig nD τ) ℕ (cfg0 (tbl m 0)) c where
  A w := V m c (Pipeline.arrRef spec0 w)
  after _ _ _ _ := True
  Φ _ := iprop(Pipeline.ΦA spec0 c ∗ Pipeline.ΦT pre0 (tbl m 0).1 c)
  q _ := fullShare
  owed _ := 0

/-- The invariant, conjunct by conjunct. -/
theorem inv_eq (c : Dev nD) :
    (iprop(Pipeline.ΦA spec0 c ∗ Pipeline.ΦT pre0 (tbl m 0).1 c) : sProp 𝕄)
      = iprop((((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)) ∗ ∃ r, prngReg c r)
          ∗ owns (c : Thread nD τ) (Memref.whole main_v20) fullShare.right (V m 0 main_v20)) := by
  unfold Pipeline.ΦA Pipeline.ΦT Pipeline.prefHeld
  rw [scopedRest0_eq, show (Finset.univ : Finset (Fin pre0.K)) = {(0 : Fin 1)} from rfl, BI.bigSep_singleton]
  simp only [owns_whole]
  rfl

/-- The body at a grid point, its staging buffers at any contents. -/
theorem body_obligation (c : Dev nD) (hfit : RowsFit (V m 0 main_v20)) :
    (rdat m c).BodyObligation (defs₀ (F := F)) 𝒱₀ () Set.univ := fun t Y _ => by
  rw [bigSep_W0, bigSep_W0]
  unfold defs₀; rw [Defs.onTc_tc]
  rw [show (rdat m c).Φ t.succ = (rdat m c).Φ t.castSucc from rfl,
    show (rdat m c).owesAt () t.succ = (rdat m c).owesAt () t.castSucc from rfl,
    show (rdat m c).Φ t.castSucc = iprop(Pipeline.ΦA spec0 c ∗ Pipeline.ΦT pre0 (tbl m 0).1 c) from rfl, inv_eq]
  iintro ⟨⟨⟨⟨S0, S1, S2, S3⟩, Hg⟩, HT⟩, HO, H0, H1, H2, H3, H4, H5⟩
  iapply (kernelRun c (grid0.coords t) (Memref.whole main_v20) (Memref.isWhole_whole _) _ _ _ _ _ _ _ _ _ _ _ _ _ _ _ _ _ _ _ _ (V m 0 main_v20) hfit _)
  isplitl [HT]; · iexact HT
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [S0]; · iexact S0
  isplitl [S1]; · iexact S1
  isplitl [S2]; · iexact S2
  isplitl [S3]; · iexact S3
  iintro ⟨HT, ⟨%X0, H0⟩, ⟨%X1, H1⟩, ⟨%X2, H2⟩, ⟨%X3, H3⟩, ⟨%X4, H4⟩, ⟨%X5, H5⟩, S0, S1, S2, S3⟩
  isplitl [S0 S1 S2 S3 Hg HT]
  · isplitl [S0 S1 S2 S3 Hg]
    · isplitl [S0 S1 S2 S3]
      · isplitl [S0]; · iexact S0
        isplitl [S1]; · iexact S1
        isplitl [S2]; · iexact S2
        iexact S3
      iexact Hg
    iexact HT
  isplitl [HO]; · iexact HO
  isplitl [H0]; · iexists X0; isplitr; · ipureintro; trivial
                  iexact H0
  isplitl [H1]; · iexists X1; isplitr; · ipureintro; trivial
                  iexact H1
  isplitl [H2]; · iexists X2; isplitr; · ipureintro; trivial
                  iexact H2
  isplitl [H3]; · iexists X3; isplitr; · ipureintro; trivial
                  iexact H3
  isplitl [H4]; · iexists X4; isplitr; · ipureintro; trivial
                  iexact H4
  iexists X5; isplitr; · ipureintro; trivial
  iexact H5

/-! ## The launch -/

/-- No host operation leaves anything unchosen. -/
theorem hostOps0_fresh : (hostOps0 : List (HloOp τ sig (Elt F))).Forall fun op => op.fresh = ∅ := by
  repeat' constructor

-- the theorem's implicit arguments are found by unifying its conclusion with this statement, which unifies only when
-- unification may unfold plain definitions in a metavariable's type
set_option backward.isDefEq.respectTransparency.types false in
/-- From any memory whose group indices exist and zero counters, every execution ends, each buffer that is no window's
    array holding what it held at the region's entry, every counter zero. -/
theorem run_main (hfit : RowsFit (V m 0 main_v20)) :
    θ_run (defs (F := F)) (onTc (τ := τ) (main (F := F))) ⟨m, fun _ => 0, g⟩
      (fun r => RDat.FramePost (cfg0 (tbl m 0)) (rdat m) (V m) r ∧ r.2.sem = fun _ => 0) :=
  RDat.θ_run_frameP (pcfgs (F := F)) (tbl m) (0 : Fin 1) launch0 defs₀ 𝒱₀ (rdat m) m g main
    (hbody := fun c => body_obligation m c hfit) (hshare := fun c w => (rdat m c).share_full (fun _ => rfl) w)
    (howed := fun _ _ => rfl) (V := V m)
    (hmain := Pipeline.hmainP_prefix (pcfgs (F := F)) (0 : Fin 1) defs₀ 𝒱₀ m main hostOps0 hostOps0_sub hostOps0_fresh main_chain)
    (hA := fun _ _ => rfl) (hpf := fun c k => by obtain rfl := Subsingleton.elim c 0; rfl) (hΦ := fun _ _ => rfl) (Q' := _) (hQ' := fun _ h => h)

/-- The arguments the region does not window are no window's array. -/
theorem arg_ne : (∀ w, (spec0 w).arr.view.ref ≠ main_arg0) ∧ (∀ w, (spec0 w).arr.view.ref ≠ main_arg2)
    ∧ (∀ w, (spec0 w).arr.view.ref ≠ main_arg3) ∧ ∀ w, (spec0 w).arr.view.ref ≠ main_arg4 := by decide

/-- The frame of the program. -/
theorem quiescent (m : (ℓ : Loc nD τ sig) → Buf (Elt Ideal) ℓ) (g : Dev nD → PrngReg)
    (hg : GroupsExist (m (((0 : Dev nD) : Thread nD τ).loc main_arg4))) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r (h : _ ∧ _) => ⟨fun c =>
    ⟨((h.1 c).2 main_arg0 (Pipeline.mem_restRefs_of main_arg0 (by decide) (arg_ne.1))).trans (V_arg0 m c),
     ((RDat.FramePost.arr_in h.1 c 0 rfl)).trans (V_arg1 m c),
     ((h.1 c).2 main_arg2 (Pipeline.mem_restRefs_of main_arg2 (by decide) (arg_ne.2.1))).trans (V_arg2 m c),
     ((h.1 c).2 main_arg3 (Pipeline.mem_restRefs_of main_arg3 (by decide) (arg_ne.2.2.1))).trans (V_arg3 m c),
     ((h.1 c).2 main_arg4 (Pipeline.mem_restRefs_of main_arg4 (by decide) (arg_ne.2.2.2))).trans (V_arg4 m c)⟩, h.2⟩)
    (run_main m g (rowsFit_V m 0 hg))

end Cert.Proof.KernelIdeal

end
-- ==== Proof.Reference.lean ====
/-
  `ReferenceIdeal`'s run: a straight line of host operations, so its result buffer ends at the operations' composite of
  the arguments (`refOut`), every argument unchanged and every counter zero.
-/
module

public import proofs.«01_k».proof.Defs
public import proofs.«01_k».proof.Proof.Gen.ReferenceIdeal
public import Idealize.ShloMosaic.Adequacy
public import Idealize.ShloMosaic.Init
public import Idealize.ShloMosaic.Lib.Quiescent
public import Idealize.ShloMosaic.Lib.StableHlo.RunRead
public import Idealize.ShloMosaic.Lib.StableHlo.RunHlo

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- @main's operations, in order. -/
abbrev ops : List (HloOp τ sig (Elt F)) :=
  [ reshape main_arg0 main_v0 (rfl : (.bf16 : EltTy) = .bf16) shapeCasts_S192x1x5120_S192x512x10,
    unary main_v0 main_v1 ((transpose S192x10x512 [0, 2, 1] · transposes_S192x512x10_S192x10x512_0_2_1) : (⟨S192x512x10, .bf16⟩ : BufTy).Contents (Elt F) → (⟨S192x10x512, .bf16⟩ : BufTy).Contents (Elt F)),
    reshape main_v1 main_v2 (rfl : (.bf16 : EltTy) = .bf16) shapeCasts_S192x10x512_S192x5120,
    reshape main_arg4 main_v3 (rfl : (.i32 : EltTy) = .i32) shapeCasts_S5120_S512x10,
    unary main_v3 main_v4 ((transpose S10x512 [1, 0] · transposes_S512x10_S10x512_1_0) : (⟨S512x10, .i32⟩ : BufTy).Contents (Elt F) → (⟨S10x512, .i32⟩ : BufTy).Contents (Elt F)),
    reshape main_v4 main_v5 (rfl : (.i32 : EltTy) = .i32) shapeCasts_S10x512_S5120,
    nullary main_v6 (iotaInDim S10 32 0),
    nullary main_c (constantI S_ 32 3#32),
    unary main_c main_v7 (broadcastInDim S10 ![] bcast_S_S10 : (⟨S_, .i32⟩ : BufTy).Contents (Elt F) → (⟨S10, .i32⟩ : BufTy).Contents (Elt F)),
    binary main_v7 main_v6 main_v8 (muli : (⟨S10, .i32⟩ : BufTy).Contents (Elt F) → (⟨S10, .i32⟩ : BufTy).Contents (Elt F) → (⟨S10, .i32⟩ : BufTy).Contents (Elt F)),
    unary main_arg3 main_v9 (broadcastInDim S40x1x2765 ![0, 2] bcast_S40x2765_S40x1x2765_0_2 : (⟨S40x2765, .i32⟩ : BufTy).Contents (Elt F) → (⟨S40x1x2765, .i32⟩ : BufTy).Contents (Elt F)),
    unary main_v8 main_v10 (broadcastInDim S1x10x1 ![1] bcast_S10_S1x10x1_1 : (⟨S10, .i32⟩ : BufTy).Contents (Elt F) → (⟨S1x10x1, .i32⟩ : BufTy).Contents (Elt F)),
    unary main_v9 main_v11 (broadcastInDim S40x10x2765 ![0, 1, 2] bcast_S40x1x2765_S40x10x2765_0_1_2 : (⟨S40x1x2765, .i32⟩ : BufTy).Contents (Elt F) → (⟨S40x10x2765, .i32⟩ : BufTy).Contents (Elt F)),
    unary main_v10 main_v12 (broadcastInDim S40x10x2765 ![0, 1, 2] bcast_S1x10x1_S40x10x2765_0_1_2 : (⟨S1x10x1, .i32⟩ : BufTy).Contents (Elt F) → (⟨S40x10x2765, .i32⟩ : BufTy).Contents (Elt F)),
    binary main_v11 main_v12 main_v13 (Host.shrsi : (⟨S40x10x2765, .i32⟩ : BufTy).Contents (Elt F) → (⟨S40x10x2765, .i32⟩ : BufTy).Contents (Elt F) → (⟨S40x10x2765, .i32⟩ : BufTy).Contents (Elt F)),
    nullary main_c_0 (constantI S_ 32 7#32),
    unary main_c_0 main_v14 (broadcastInDim S40x10x2765 ![] bcast_S_S40x10x2765 : (⟨S_, .i32⟩ : BufTy).Contents (Elt F) → (⟨S40x10x2765, .i32⟩ : BufTy).Contents (Elt F)),
    binary main_v13 main_v14 main_v15 (andi : (⟨S40x10x2765, .i32⟩ : BufTy).Contents (Elt F) → (⟨S40x10x2765, .i32⟩ : BufTy).Contents (Elt F) → (⟨S40x10x2765, .i32⟩ : BufTy).Contents (Elt F)),
    reshape main_v15 main_v16 (rfl : (.i32 : EltTy) = .i32) shapeCasts_S40x10x2765_S40x27650,
    unary main_v16 main_v17 ((extractStridedSlice S40x27648 ![0, 0] · slices_S40x27650_S40x27648_0_0) : (⟨S40x27650, .i32⟩ : BufTy).Contents (Elt F) → (⟨S40x27648, .i32⟩ : BufTy).Contents (Elt F)),
    unary main_v17 main_v18 (sitofp .bf16 : (⟨S40x27648, .i32⟩ : BufTy).Contents (Elt F) → (⟨S40x27648, .bf16⟩ : BufTy).Contents (Elt F)),
    unary main_arg1 main_v19 (broadcastInDim S1x512x27648 ![1, 2] bcast_S512x27648_S1x512x27648_1_2 : (⟨S512x27648, .i32⟩ : BufTy).Contents (Elt F) → (⟨S1x512x27648, .i32⟩ : BufTy).Contents (Elt F)),
    unary main_v8 main_v20 (broadcastInDim S10x1x1 ![0] bcast_S10_S10x1x1_0 : (⟨S10, .i32⟩ : BufTy).Contents (Elt F) → (⟨S10x1x1, .i32⟩ : BufTy).Contents (Elt F)),
    unary main_v19 main_v21 (broadcastInDim S10x512x27648 ![0, 1, 2] bcast_S1x512x27648_S10x512x27648_0_1_2 : (⟨S1x512x27648, .i32⟩ : BufTy).Contents (Elt F) → (⟨S10x512x27648, .i32⟩ : BufTy).Contents (Elt F)),
    unary main_v20 main_v22 (broadcastInDim S10x512x27648 ![0, 1, 2] bcast_S10x1x1_S10x512x27648_0_1_2 : (⟨S10x1x1, .i32⟩ : BufTy).Contents (Elt F) → (⟨S10x512x27648, .i32⟩ : BufTy).Contents (Elt F)),
    binary main_v21 main_v22 main_v23 (Host.shrsi : (⟨S10x512x27648, .i32⟩ : BufTy).Contents (Elt F) → (⟨S10x512x27648, .i32⟩ : BufTy).Contents (Elt F) → (⟨S10x512x27648, .i32⟩ : BufTy).Contents (Elt F)),
    nullary main_c_1 (constantI S_ 32 7#32),
    unary main_c_1 main_v24 (broadcastInDim S10x512x27648 ![] bcast_S_S10x512x27648 : (⟨S_, .i32⟩ : BufTy).Contents (Elt F) → (⟨S10x512x27648, .i32⟩ : BufTy).Contents (Elt F)),
    binary main_v23 main_v24 main_v25 (andi : (⟨S10x512x27648, .i32⟩ : BufTy).Contents (Elt F) → (⟨S10x512x27648, .i32⟩ : BufTy).Contents (Elt F) → (⟨S10x512x27648, .i32⟩ : BufTy).Contents (Elt F)),
    unary main_v25 main_v26 (sitofp .bf16 : (⟨S10x512x27648, .i32⟩ : BufTy).Contents (Elt F) → (⟨S10x512x27648, .bf16⟩ : BufTy).Contents (Elt F)),
    reshape main_v26 main_v27 (rfl : (.bf16 : EltTy) = .bf16) shapeCasts_S10x512x27648_S5120x27648,
    nullary main_c_2 (constantI S_ 32 0#32),
    unary main_c_2 main_v28 (broadcastInDim S5120 ![] bcast_S_S5120 : (⟨S_, .i32⟩ : BufTy).Contents (Elt F) → (⟨S5120, .i32⟩ : BufTy).Contents (Elt F)),
    binary main_v5 main_v28 main_v29 (cmpi .slt : (⟨S5120, .i32⟩ : BufTy).Contents (Elt F) → (⟨S5120, .i32⟩ : BufTy).Contents (Elt F) → (⟨S5120, .i1⟩ : BufTy).Contents (Elt F)),
    nullary main_c_3 (constantI S_ 32 40#32),
    unary main_c_3 main_v30 (broadcastInDim S5120 ![] bcast_S_S5120 : (⟨S_, .i32⟩ : BufTy).Contents (Elt F) → (⟨S5120, .i32⟩ : BufTy).Contents (Elt F)),
    binary main_v5 main_v30 main_v31 (addi : (⟨S5120, .i32⟩ : BufTy).Contents (Elt F) → (⟨S5120, .i32⟩ : BufTy).Contents (Elt F) → (⟨S5120, .i32⟩ : BufTy).Contents (Elt F)),
    ternary main_v29 main_v31 main_v5 main_v32 (select : (⟨S5120, .i1⟩ : BufTy).Contents (Elt F) → (⟨S5120, .i32⟩ : BufTy).Contents (Elt F) → (⟨S5120, .i32⟩ : BufTy).Contents (Elt F) → (⟨S5120, .i32⟩ : BufTy).Contents (Elt F)),
    unary main_v32 main_v33 (broadcastInDim S5120x1 ![0] bcast_S5120_S5120x1_0 : (⟨S5120, .i32⟩ : BufTy).Contents (Elt F) → (⟨S5120x1, .i32⟩ : BufTy).Contents (Elt F)),
    binary main_v18 main_v33 main_v34 ((fun x i => Host.gather gather_S40x27648_S5120x1_S5120x27648_1_0_n_n_0_1_127648 x i) : (⟨S40x27648, .bf16⟩ : BufTy).Contents (Elt F) → (⟨S5120x1, .i32⟩ : BufTy).Contents (Elt F) → (⟨S5120x27648, .bf16⟩ : BufTy).Contents (Elt F)),
    binary main_v27 main_v34 main_v35 (subf : (⟨S5120x27648, .bf16⟩ : BufTy).Contents (Elt F) → (⟨S5120x27648, .bf16⟩ : BufTy).Contents (Elt F) → (⟨S5120x27648, .bf16⟩ : BufTy).Contents (Elt F)),
    nullary main_c_4 (constantI S_ 32 0#32),
    unary main_c_4 main_v36 (broadcastInDim S5120 ![] bcast_S_S5120 : (⟨S_, .i32⟩ : BufTy).Contents (Elt F) → (⟨S5120, .i32⟩ : BufTy).Contents (Elt F)),
    binary main_v5 main_v36 main_v37 (cmpi .slt : (⟨S5120, .i32⟩ : BufTy).Contents (Elt F) → (⟨S5120, .i32⟩ : BufTy).Contents (Elt F) → (⟨S5120, .i1⟩ : BufTy).Contents (Elt F)),
    nullary main_c_5 (constantI S_ 32 40#32),
    unary main_c_5 main_v38 (broadcastInDim S5120 ![] bcast_S_S5120 : (⟨S_, .i32⟩ : BufTy).Contents (Elt F) → (⟨S5120, .i32⟩ : BufTy).Contents (Elt F)),
    binary main_v5 main_v38 main_v39 (addi : (⟨S5120, .i32⟩ : BufTy).Contents (Elt F) → (⟨S5120, .i32⟩ : BufTy).Contents (Elt F) → (⟨S5120, .i32⟩ : BufTy).Contents (Elt F)),
    ternary main_v37 main_v39 main_v5 main_v40 (select : (⟨S5120, .i1⟩ : BufTy).Contents (Elt F) → (⟨S5120, .i32⟩ : BufTy).Contents (Elt F) → (⟨S5120, .i32⟩ : BufTy).Contents (Elt F) → (⟨S5120, .i32⟩ : BufTy).Contents (Elt F)),
    unary main_v40 main_v41 (broadcastInDim S5120x1 ![0] bcast_S5120_S5120x1_0 : (⟨S5120, .i32⟩ : BufTy).Contents (Elt F) → (⟨S5120x1, .i32⟩ : BufTy).Contents (Elt F)),
    binary main_arg2 main_v41 main_v42 ((fun x i => Host.gather gather_S40x27648_S5120x1_S5120x27648_1_0_n_n_0_1_127648 x i) : (⟨S40x27648, .bf16⟩ : BufTy).Contents (Elt F) → (⟨S5120x1, .i32⟩ : BufTy).Contents (Elt F) → (⟨S5120x27648, .bf16⟩ : BufTy).Contents (Elt F)),
    binary main_v35 main_v42 main_v43 (mulf : (⟨S5120x27648, .bf16⟩ : BufTy).Contents (Elt F) → (⟨S5120x27648, .bf16⟩ : BufTy).Contents (Elt F) → (⟨S5120x27648, .bf16⟩ : BufTy).Contents (Elt F)),
    binary main_v2 main_v43 main_v44 ((fun l r => Host.dotGeneral dot_S192x5120_S5120x27648_S192x27648_1_0_0_1_n_n none l r) : (⟨S192x5120, .bf16⟩ : BufTy).Contents (Elt F) → (⟨S5120x27648, .bf16⟩ : BufTy).Contents (Elt F) → (⟨S192x27648, .f32⟩ : BufTy).Contents (Elt F)),
    unary main_v44 main_v45 ((truncf .bf16 · bitsLt_bf16_f32) : (⟨S192x27648, .f32⟩ : BufTy).Contents (Elt F) → (⟨S192x27648, .bf16⟩ : BufTy).Contents (Elt F)) ]

/-- @main is that straight line. -/
theorem main_eq (c : Dev nD) : main (F := F) c = seq ops := rfl

/-- Every operation touches TensorCore references only. -/
theorem ops_sub : (ops : List (HloOp τ sig (Elt F))).Forall fun op => op.bufs ⊆ tcRefs τ sig :=
  ⟨reshape_bufs_sub .., unary_bufs_sub .., reshape_bufs_sub .., reshape_bufs_sub .., unary_bufs_sub .., reshape_bufs_sub .., nullary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., reshape_bufs_sub .., unary_bufs_sub .., unary_bufs_sub .., unary_bufs_sub .., unary_bufs_sub .., unary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub ..⟩

/-! ## The result as a function of the arguments -/

/-- The shift of each field of a word: 3 times its position. -/
def shifts : IVec S10 32 := muli (broadcastInDim S10 ![] bcast_S_S10 (constantI S_ 32 3#32)) (iotaInDim S10 32 0)
/-- The activations, their columns brought to the order of the codes' rows. -/
def xr (a0 : FVec F S192x1x5120 .bf16) : FVec F S192x5120 .bf16 :=
  shapeCast S192x5120 (transpose S192x10x512 [0, 2, 1] (shapeCast S192x512x10 a0 shapeCasts_S192x1x5120_S192x512x10) transposes_S192x512x10_S192x10x512_0_2_1) shapeCasts_S192x10x512_S192x5120
/-- The group indices in the same order. -/
def gr (a4 : IVec S5120 32) : IVec S5120 32 :=
  shapeCast S5120 (transpose S10x512 [1, 0] (shapeCast S512x10 a4 shapeCasts_S5120_S512x10) transposes_S512x10_S10x512_1_0) shapeCasts_S10x512_S5120
/-- The zero points, unpacked. -/
def zerosI (a3 : IVec S40x2765 32) : IVec S40x27648 32 :=
  extractStridedSlice S40x27648 ![0, 0]
    (shapeCast S40x27650 (andi (Host.shrsi (broadcastInDim S40x10x2765 ![0, 1, 2] bcast_S40x1x2765_S40x10x2765_0_1_2 (broadcastInDim S40x1x2765 ![0, 2] bcast_S40x2765_S40x1x2765_0_2 a3))
        (broadcastInDim S40x10x2765 ![0, 1, 2] bcast_S1x10x1_S40x10x2765_0_1_2 (broadcastInDim S1x10x1 ![1] bcast_S10_S1x10x1_1 shifts)))
      (broadcastInDim S40x10x2765 ![] bcast_S_S40x10x2765 (constantI S_ 32 7#32))) shapeCasts_S40x10x2765_S40x27650) slices_S40x27650_S40x27648_0_0
/-- The codes, unpacked. -/
def codesI (a1 : IVec S512x27648 32) : IVec S10x512x27648 32 :=
  andi (Host.shrsi (broadcastInDim S10x512x27648 ![0, 1, 2] bcast_S1x512x27648_S10x512x27648_0_1_2 (broadcastInDim S1x512x27648 ![1, 2] bcast_S512x27648_S1x512x27648_1_2 a1))
      (broadcastInDim S10x512x27648 ![0, 1, 2] bcast_S10x1x1_S10x512x27648_0_1_2 (broadcastInDim S10x1x1 ![0] bcast_S10_S10x1x1_0 shifts)))
    (broadcastInDim S10x512x27648 ![] bcast_S_S10x512x27648 (constantI S_ 32 7#32))
/-- The row of the tables each group index names, a negative index counted from the end. -/
def rowOf (r : IVec S5120 32) : IVec S5120x1 32 :=
  broadcastInDim S5120x1 ![0] bcast_S5120_S5120x1_0
    (select (cmpi .slt r (broadcastInDim S5120 ![] bcast_S_S5120 (constantI S_ 32 0#32))) (addi r (broadcastInDim S5120 ![] bcast_S_S5120 (constantI S_ 32 40#32))) r)
/-- A table's rows, one per group index. -/
def rowsAt {φ : FTy} (t : FVec F S40x27648 φ) (a4 : IVec S5120 32) : FVec F S5120x27648 φ :=
  Host.gather gather_S40x27648_S5120x1_S5120x27648_1_0_n_n_0_1_127648 t (rowOf (gr a4))
/-- The weights: each code less its group's zero point, times its group's scale. -/
def weights (a1 : IVec S512x27648 32) (a2 : FVec F S40x27648 .bf16) (a3 : IVec S40x2765 32) (a4 : IVec S5120 32) : FVec F S5120x27648 .bf16 :=
  mulf (subf (shapeCast S5120x27648 (sitofp .bf16 (codesI a1) : FVec F S10x512x27648 .bf16) shapeCasts_S10x512x27648_S5120x27648) (rowsAt (sitofp .bf16 (zerosI a3)) a4)) (rowsAt a2 a4)
/-- The result: the activations times the weights. -/
def refOut (a0 : FVec F S192x1x5120 .bf16) (a1 : IVec S512x27648 32) (a2 : FVec F S40x27648 .bf16) (a3 : IVec S40x2765 32) (a4 : IVec S5120 32) : FVec F S192x27648 .bf16 :=
  truncf .bf16 (Host.dotGeneral dot_S192x5120_S5120x27648_S192x27648_1_0_0_1_n_n none (xr a0) (weights a1 a2 a3 a4)) bitsLt_bf16_f32

/-! ## The run -/

/-- The operations' composite at the result buffer. -/
theorem out_eq (V : Valuation τ sig (Elt F)) : after ops V (main_v45 : DevRef τ sig)
    = refOut (V (main_arg0 : DevRef τ sig)) (V (main_arg1 : DevRef τ sig)) (V (main_arg2 : DevRef τ sig)) (V (main_arg3 : DevRef τ sig)) (V (main_arg4 : DevRef τ sig)) := by
  after_reads_simp; rfl

/-- No operation writes an argument. -/
theorem arg0_eq (V : Valuation τ sig (Elt F)) : after ops V (main_arg0 : DevRef τ sig) = V (main_arg0 : DevRef τ sig) := by after_reads_simp
theorem arg1_eq (V : Valuation τ sig (Elt F)) : after ops V (main_arg1 : DevRef τ sig) = V (main_arg1 : DevRef τ sig) := by after_reads_simp
theorem arg2_eq (V : Valuation τ sig (Elt F)) : after ops V (main_arg2 : DevRef τ sig) = V (main_arg2 : DevRef τ sig) := by after_reads_simp
theorem arg3_eq (V : Valuation τ sig (Elt F)) : after ops V (main_arg3 : DevRef τ sig) = V (main_arg3 : DevRef τ sig) := by after_reads_simp
theorem arg4_eq (V : Valuation τ sig (Elt F)) : after ops V (main_arg4 : DevRef τ sig) = V (main_arg4 : DevRef τ sig) := by after_reads_simp

/-- From any memory with zero counters the program ends, its result buffer at `refOut` of the arguments, every argument
    unchanged and every counter zero. -/
theorem run_main (m : (ℓ : Loc nD τ sig) → Buf (Elt F) ℓ) (g : Dev nD → PrngReg) :
    θ_run (defs (F := F)) (onTc (τ := τ) (main (F := F))) ⟨m, fun _ => 0, g⟩ fun r =>
      (∀ c : Dev nD, (r.2.mem ((c.tc : Thread nD τ).loc main_v45)
          = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run defs _ _).mono (fun r h => ⟨fun c => ⟨(h c main_v45).trans (out_eq _), (h c main_arg0).trans (arg0_eq _), (h c main_arg1).trans (arg1_eq _),
      (h c main_arg2).trans (arg2_eq _), (h c main_arg3).trans (arg3_eq _), (h c main_arg4).trans (arg4_eq _)⟩, sem_eq_zero_of_no_sems (by decide) r.2⟩)
    (run_seq (by decide) (by decide) defs main (fun _ => ops) main_eq (fun _ => ops_sub) m g)

end Cert.Proof.Ref

end
-- ==== Proof.Layout.lean ====
/-
  The layout operations of the kernel read at an index given by its coordinates: words as pairs of rows, their halves
  interleaved, sixteen-bit halves of a word.
-/
module

public import Idealize.ShloMosaic.Lib.ValueIdx
public import Idealize.ShloMosaic.Lib.ValueLayout
public import Idealize.ShloMosaic.Lib.Bf16Pair
public import Idealize.ShloMosaic.Lib.BitcastPair
public import Idealize.ShloMosaic.Lib.Pipeline.Value

@[expose] public section

namespace Cert.Proof.Layout

open Idealize.ShloMosaic Idealize.ShloMosaic.ValueIdx

variable {α : Type} {m n : Nat}

/-- Rows of a word array's given parity, read at one place. -/
theorem rowsOfParity_two (p : Fin 2) (x : (⟨2, ![2 * m, n]⟩ : Shape).Idx → α)
    (h : (⟨2, ![2 * m, n]⟩ : Shape).Bitcasts 16 ⟨2, ![m, n]⟩ 32) (s : Fin m) (l : Fin n) :
    rowsOfParity p ⟨2, ![m, n]⟩ x h (ix2 s l) = x (ix2 ⟨2 * s.val + p.val, by omega⟩ l) := by
  unfold rowsOfParity
  congr 1
  funext a
  fin_cases a <;> rfl

/-- The same of a pair buffer's block: row `s` of parity `p` is row `(s, p)`. -/
theorem rowsOfParity_three (p : Fin 2) (x : (⟨3, ![m, 2, n]⟩ : Shape).Idx → α)
    (h : (⟨3, ![m, 2, n]⟩ : Shape).Bitcasts 16 ⟨3, ![m, 1, n]⟩ 32) (s : Fin m) (l : Fin n) :
    rowsOfParity p ⟨3, ![m, 1, n]⟩ x h (ix3 s 0 l) = x (ix3 s p l) := by
  unfold rowsOfParity
  congr 1
  funext a
  fin_cases a
  · rfl
  · exact Fin.ext (by simp)
  · rfl

/-- Two row blocks interleaved: the even rows are the first's, the odd rows the second's. -/
theorem interleaveRows_two (lo hi : (⟨2, ![m, n]⟩ : Shape).Idx → α)
    (h : (⟨2, ![2 * m, n]⟩ : Shape).Bitcasts 16 ⟨2, ![m, n]⟩ 32) (r : Fin (2 * m)) (l : Fin n) :
    interleaveRows ⟨2, ![2 * m, n]⟩ lo hi h (ix2 r l)
      = if r.val % 2 = 0 then lo (ix2 ⟨r.val / 2, by omega⟩ l) else hi (ix2 ⟨r.val / 2, by omega⟩ l) := by
  have hj : ∀ (f : (⟨2, ![m, n]⟩ : Shape).Idx → α) (j : (⟨2, ![m, n]⟩ : Shape).Idx), (j 0).val = r.val / 2 → (j 1).val = l.val →
      f j = f (ix2 ⟨r.val / 2, by omega⟩ l) := fun f j h0 h1 => congrArg f (by
    funext a; fin_cases a
    · exact Fin.ext h0
    · exact Fin.ext h1)
  unfold interleaveRows
  dsimp only
  rw [show (⟨2, ![2 * m, n]⟩ : Shape).row (ix2 r l) = r.val from rfl]
  split
  · exact hj lo _ rfl rfl
  · exact hj hi _ rfl rfl

/-- The same of the pair of rows of each word. -/
theorem interleaveRows_three (lo hi : (⟨3, ![m, 1, n]⟩ : Shape).Idx → α)
    (h : (⟨3, ![m, 2, n]⟩ : Shape).Bitcasts 16 ⟨3, ![m, 1, n]⟩ 32) (s : Fin m) (p : Fin 2) (l : Fin n) :
    interleaveRows ⟨3, ![m, 2, n]⟩ lo hi h (ix3 s p l) = if p = 0 then lo (ix3 s 0 l) else hi (ix3 s 0 l) := by
  have hj : ∀ (f : (⟨3, ![m, 1, n]⟩ : Shape).Idx → α) (j : (⟨3, ![m, 1, n]⟩ : Shape).Idx), (j 0).val = s.val → (j 2).val = l.val →
      f j = f (ix3 s 0 l) := fun f j h0 h1 => congrArg f (by
    funext a; fin_cases a
    · exact Fin.ext h0
    · exact Subsingleton.elim (α := Fin 1) _ _
    · exact Fin.ext h1)
  unfold interleaveRows
  dsimp only
  rw [show (⟨3, ![m, 2, n]⟩ : Shape).row (ix3 s p l) = p.val from rfl]
  match p with
  | 0 => exact hj lo _ rfl rfl
  | 1 => exact hj hi _ rfl rfl

/-- A unit axis put between the two axes. -/
theorem shapeCast_mid_add (x : (⟨2, ![m, n]⟩ : Shape).Idx → α) (h : (⟨2, ![m, n]⟩ : Shape).ShapeCasts ⟨3, ![m, 1, n]⟩)
    (s : Fin m) (l : Fin n) : shapeCast ⟨3, ![m, 1, n]⟩ x h (ix3 s 0 l) = x (ix2 s l) :=
  shapeCast_apply x h _ _ (by
    rw [Shape.rowMajor_val_three, Shape.rowMajor_val_two]
    show s.val * n + l.val = (s.val * 1 + 0) * n + l.val
    rw [Nat.mul_one, Nat.add_zero])

/-- A unit axis between the two axes dropped. -/
theorem shapeCast_mid_drop (x : (⟨3, ![m, 1, n]⟩ : Shape).Idx → α) (h : (⟨3, ![m, 1, n]⟩ : Shape).ShapeCasts ⟨2, ![m, n]⟩)
    (s : Fin m) (l : Fin n) : shapeCast ⟨2, ![m, n]⟩ x h (ix2 s l) = x (ix3 s 0 l) :=
  shapeCast_apply x h _ _ (by
    rw [Shape.rowMajor_val_three, Shape.rowMajor_val_two]
    show (s.val * 1 + 0) * n + l.val = s.val * n + l.val
    rw [Nat.mul_one, Nat.add_zero])

/-- A vector cast to its own shape. -/
theorem shapeCast_same {s : Shape} (x : s.Idx → α) (h : s.ShapeCasts s) : shapeCast s x h = x :=
  funext fun j => shapeCast_apply x h j j rfl

/-- The sixteen-bit rows of 32-bit words: row `r` is half `r % 2` of word row `r / 2`. -/
theorem bitcast_halves (x : (⟨2, ![m, n]⟩ : Shape).Idx → BitVec 32)
    (h : (⟨2, ![m, n]⟩ : Shape).Bitcasts 32 ⟨2, ![2 * m, n]⟩ 16) (r : Fin (2 * m)) (l : Fin n) :
    bitcast ⟨2, ![2 * m, n]⟩ 16 x h (ix2 r l) = (x (ix2 ⟨r.val / 2, by omega⟩ l)).extractLsb' (16 * (r.val % 2)) 16 := by
  rw [bitcast_32_16]
  refine congrArg (fun w => (x w).extractLsb' (16 * (r.val % 2)) 16) ?_
  funext a; fin_cases a <;> rfl

/-- The words of sixteen-bit rows: the odd row above the even row. -/
theorem bitcast_words (x : (⟨2, ![2 * m, n]⟩ : Shape).Idx → BitVec 16)
    (h : (⟨2, ![2 * m, n]⟩ : Shape).Bitcasts 16 ⟨2, ![m, n]⟩ 32) (s : Fin m) (l : Fin n) :
    bitcast ⟨2, ![m, n]⟩ 32 x h (ix2 s l)
      = x (ix2 ⟨2 * s.val + 1, by omega⟩ l) ++ x (ix2 ⟨2 * s.val, by omega⟩ l) := by
  rw [bitcast_16_32]
  congr 2 <;> (funext a; fin_cases a <;> rfl)

end Cert.Proof.Layout

end
-- ==== Proof.Tables.lean ====
/-
  The group tables as a function of the scales and the zero points, and the loop that fills them: after its trips the
  tables' buffer holds that function at every row of a group.
-/
module

public import proofs.«01_k».proof.Proof.Gen.KernelIdeal.Loops
public import proofs.«01_k».proof.Proof.Layout
public import Idealize.ShloMosaic.Lib.Writes
public import Idealize.ShloMosaic.Lib.Tactic

@[expose] public section

set_option maxRecDepth 16384

noncomputable section

namespace Cert.Proof.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx Cert.Proof.Layout

variable {F : FTy → Type} [FloatOps F]

abbrev UU (nD : Nat) (τ : Topo) : Type := UR sig nD τ
abbrev 𝒱₀ : Variants := Variants.none

local notation "𝕄" => MT nD τ sig Unit (Elt F) ℕ (UR sig nD τ) ℕ

/-! ## The tables as a function of the scales and the zero points -/

/-- The three tables over groups and columns: the scales, and the zero points above the two bases the codes are read at. -/
def table (S Z : FVec F S40x2048 .f32) (n : Nat) : FVec F S40x2048 .bf16 :=
  match n with
  | 0 => truncf .bf16 S bitsLt_bf16_f32
  | 1 => truncf .bf16 (addf Z (broadcast S40x2048 (Scalar.ofBits .f32 0x43000000#32))) bitsLt_bf16_f32
  | _ => truncf .bf16 (addf Z (broadcast S40x2048 (Scalar.ofBits .f32 0x41800000#32))) bitsLt_bf16_f32

/-- The column that lane `l` of half `h` of the table row `q` of a group holds: eight lane groups to a table, the second
    three tables with the halves exchanged. -/
def tabCol (q : Nat) (h : Fin 2) (l : Fin 128) : Fin 2048 :=
  ⟨1024 * ((h.val + q / 24) % 2) + q % 8 * 128 + l.val, by omega⟩

/-- What the tables' buffer is to hold at word row `r`, half `h`, lane `l`. -/
def tabAt (S Z : FVec F S40x2048 .f32) (x : S2080x2x128.Idx) : F .bf16 :=
  table S Z ((x 0).val % 52 / 8 % 3) (ix2 (⟨(x 0).val / 52, by have := (x 0).isLt; change (x 0).val < 2080 at this; omega⟩ : Fin 40) (tabCol ((x 0).val % 52) (x 1) (x 2)))

/-! ## One trip's stores -/

/-- The block a trip loads: lane group `i` of half `h`, as the kernel computes its place. -/
def colOff (i : Fin 8) (h : Fin 2) (k : Fin k0_t1_loop.trips) : Fin 2 → Nat :=
  (![![k0_off1 k, k0_off2 k], ![k0_off4 k, k0_off5 k], ![k0_off6 k, k0_off7 k], ![k0_off8 k, k0_off9 k], ![k0_off10 k, k0_off11 k], ![k0_off12 k, k0_off13 k], ![k0_off14 k, k0_off15 k], ![k0_off16 k, k0_off17 k]] : Fin 8 → Fin 2 → Fin 2 → Nat) i h

theorem colOff_eq : ∀ (i : Fin 8) (h : Fin 2) (k : Fin k0_t1_loop.trips), colOff i h k = ![8 * k.val, 1024 * h.val + 128 * i.val] := by
  decide
theorem rowOff_eq : ∀ (i : Fin 8) (o : Fin 6) (k : Fin k0_t1_loop.trips),
    k0_off3 k (BitVec.ofNat 32 i.val) (BitVec.ofNat 32 (8 * o.val)) = ![416 * k.val + 8 * o.val + i.val, 0, 0] := by decide
theorem trips1 (k : Fin k0_t1_loop.trips) : k.val < 5 := by
  have : k0_t1_loop.trips = 5 := by decide
  omega

theorem colOff_inb (i : Fin 8) (h : Fin 2) (k : Fin k0_t1_loop.trips) : ∀ a, colOff i h k a + S8x128.size a ≤ S40x2048.size a := by
  have := trips1 k
  rw [colOff_eq]
  intro a; fin_cases a
  · show 8 * k.val + 8 ≤ 40; omega
  · show 1024 * h.val + 128 * i.val + 128 ≤ 2048; omega

/-- The block as loaded. -/
def blk (arg : Memref sig .tc .vmem S40x2048 .f32) (f : arg.view.ty.Contents (Elt F)) (i : Fin 8) (h : Fin 2) (k : Fin k0_t1_loop.trips) :
    Vec F S8x128 .f32 :=
  View.readAt (Elt F) arg.view (Rect.unit (s := S40x2048) (colOff i h k) S8x128.size (colOff_inb i h k)).toLoadRect f

theorem blk_apply (arg : Memref sig .tc .vmem S40x2048 .f32) (f : arg.view.ty.Contents (Elt F)) (i : Fin 8) (h : Fin 2) (k : Fin k0_t1_loop.trips)
    (s : Fin 8) (l : Fin 128) : blk arg f i h k (ix2 s l)
      = arg.view.read (Elt F) f (ix2 (⟨8 * k.val + s.val, by have := trips1 k; omega⟩ : Fin 40) (⟨1024 * h.val + 128 * i.val + l.val, by omega⟩ : Fin 2048)) := by
  refine congrArg (arg.view.read (Elt F) f) (funext fun a => Fin.ext ?_)
  refine (congrArg (fun o : Fin 2 → Nat => o a + 1 * ((ix2 s l : S8x128.Idx) a).val) (colOff_eq i h k)).trans ?_
  fin_cases a
  · show 8 * k.val + 1 * s.val = 8 * k.val + s.val; omega
  · show 1024 * h.val + 128 * i.val + 1 * l.val = 1024 * h.val + 128 * i.val + l.val; omega

/-- The values a trip stores in one half of a word: the scale, or the zero point above a base. -/
def halfVec (arg4 arg5 : Memref sig .tc .vmem S40x2048 .f32) (f4 : arg4.view.ty.Contents (Elt F)) (f5 : arg5.view.ty.Contents (Elt F))
    (i : Fin 8) (k : Fin k0_t1_loop.trips) (n : Nat) (h : Fin 2) : FVec F S8x128 .bf16 :=
  match n with
  | 0 => truncf .bf16 (shapeCast S8x128 (blk arg4 f4 i h k) shapeCasts_S8x128_S8x128) bitsLt_bf16_f32
  | 1 => truncf .bf16 (addf (shapeCast S8x128 (blk arg5 f5 i h k) shapeCasts_S8x128_S8x128) (broadcast S8x128 (Scalar.ofBits .f32 0x43000000#32))) bitsLt_bf16_f32
  | _ => truncf .bf16 (addf (shapeCast S8x128 (blk arg5 f5 i h k) shapeCasts_S8x128_S8x128) (broadcast S8x128 (Scalar.ofBits .f32 0x41800000#32))) bitsLt_bf16_f32

theorem halfVec_apply (arg4 arg5 : Memref sig .tc .vmem S40x2048 .f32) (f4 : arg4.view.ty.Contents (Elt F)) (f5 : arg5.view.ty.Contents (Elt F))
    (i : Fin 8) (k : Fin k0_t1_loop.trips) (n : Nat) (h : Fin 2) (s : Fin 8) (l : Fin 128) :
    halfVec arg4 arg5 f4 f5 i k n h (ix2 s l) = table (arg4.view.read (Elt F) f4) (arg5.view.read (Elt F) f5) n
      (ix2 (⟨8 * k.val + s.val, by have := trips1 k; omega⟩ : Fin 40) (⟨1024 * h.val + 128 * i.val + l.val, by omega⟩ : Fin 2048)) := by
  unfold halfVec table
  split <;> rw [shapeCast_same]
  · exact congrArg (fun v => FloatOps.truncf .bf16 bitsLt_bf16_f32 v) (blk_apply arg4 f4 i h k s l)
  · exact congrArg (fun v => FloatOps.truncf .bf16 bitsLt_bf16_f32 (FloatOps.addf v (Scalar.ofBits .f32 0x43000000#32))) (blk_apply arg5 f5 i h k s l)
  · exact congrArg (fun v => FloatOps.truncf .bf16 bitsLt_bf16_f32 (FloatOps.addf v (Scalar.ofBits .f32 0x41800000#32))) (blk_apply arg5 f5 i h k s l)

/-- The rows one store of a trip writes. -/
def putRect (i : grid0.Coords) (k0_h1 : k0_cond1 i = 1#1) (k : Fin k0_t1_loop.trips) (j : Fin 8) (o : Fin 6) : Rect S2080x2x128 :=
  ⟨(⟨k0_off3 k (BitVec.ofNat 32 j.val) (BitVec.ofNat 32 (8 * o.val)), S8x2x128.size, ![52, 1, 1], (k0_off3_inb i k k0_h1 j o)⟩ : LoadRect S2080x2x128), spos_52_1_1⟩

/-- One store of a trip. -/
def put (i : grid0.Coords) (k0_h1 : k0_cond1 i = 1#1) (arg4 arg5 : Memref sig .tc .vmem S40x2048 .f32) (f4 : arg4.view.ty.Contents (Elt F)) (f5 : arg5.view.ty.Contents (Elt F))
    (k : Fin k0_t1_loop.trips) (j : Fin 8) (o : Fin 6) : View.Piece (Elt F) S2080x2x128 .bf16 :=
  ⟨putRect i k0_h1 k j o, interleaveRows S8x2x128
    (shapeCast S8x1x128 (halfVec arg4 arg5 f4 f5 j k (o.val % 3) (if o.val < 3 then 0 else 1)) shapeCasts_S8x128_S8x1x128)
    (shapeCast S8x1x128 (halfVec arg4 arg5 f4 f5 j k (o.val % 3) (if o.val < 3 then 1 else 0)) shapeCasts_S8x128_S8x1x128) bitcasts_S8x2x128_w16_S8x1x128_w32⟩

/-- A trip's stores, the last first. -/
def puts (i : grid0.Coords) (k0_h1 : k0_cond1 i = 1#1) (arg4 arg5 : Memref sig .tc .vmem S40x2048 .f32) (f4 : arg4.view.ty.Contents (Elt F)) (f5 : arg5.view.ty.Contents (Elt F))
    (k : Fin k0_t1_loop.trips) : List (View.Piece (Elt F) S2080x2x128 .bf16) :=
  [7, 6, 5, 4, 3, 2, 1, 0].flatMap fun j : Fin 8 => [5, 2, 4, 1, 3, 0].map fun o : Fin 6 => put i k0_h1 arg4 arg5 f4 f5 k j o

theorem putRect_emb (i : grid0.Coords) (k0_h1 : k0_cond1 i = 1#1) (k : Fin k0_t1_loop.trips) (j : Fin 8) (o : Fin 6) (s : Fin 8) (h : Fin 2) (l : Fin 128) :
    (putRect i k0_h1 k j o).emb (ix3 s h l : S8x2x128.Idx)
      = ix3 (⟨416 * k.val + 8 * o.val + j.val + 52 * s.val, by have := trips1 k; omega⟩ : Fin 2080) h l := by
  funext a
  apply Fin.ext
  show (putRect i k0_h1 k j o).off a + (putRect i k0_h1 k j o).stride a * _ = _
  show k0_off3 k (BitVec.ofNat 32 j.val) (BitVec.ofNat 32 (8 * o.val)) a + (![52, 1, 1] : Fin 3 → Nat) a * _ = _
  rw [rowOff_eq]
  fin_cases a
  · show 416 * k.val + 8 * o.val + j.val + 52 * s.val = _; rfl
  · show 0 + 1 * h.val = h.val; omega
  · show 0 + 1 * l.val = l.val; omega

/-- Each store writes the table's function of its rows. -/
theorem put_apply (i : grid0.Coords) (k0_h1 : k0_cond1 i = 1#1) (arg4 arg5 : Memref sig .tc .vmem S40x2048 .f32) (f4 : arg4.view.ty.Contents (Elt F)) (f5 : arg5.view.ty.Contents (Elt F))
    (k : Fin k0_t1_loop.trips) (j : Fin 8) (o : Fin 6) (x : S8x2x128.Idx) :
    (put i k0_h1 arg4 arg5 f4 f5 k j o).2 x = tabAt (arg4.view.read (Elt F) f4) (arg5.view.read (Elt F) f5) ((putRect i k0_h1 k j o).emb x) := by
  have hk := trips1 k
  obtain ⟨s, h, l, rfl⟩ : ∃ s h l, x = ix3 s h l := ⟨x 0, x 1, x 2, by funext a; fin_cases a <;> rfl⟩
  change Fin 8 at s; change Fin 2 at h; change Fin 128 at l
  rw [putRect_emb]
  have hr : (416 * k.val + 8 * o.val + j.val + 52 * s.val) / 52 = 8 * k.val + s.val := by omega
  have hq : (416 * k.val + 8 * o.val + j.val + 52 * s.val) % 52 = 8 * o.val + j.val := by omega
  have hd : (8 * o.val + j.val) / 24 = o.val / 3 := by
    rw [show 24 = 8 * 3 from rfl, ← Nat.div_div_eq_div_mul, show (8 * o.val + j.val) / 8 = o.val by omega]
  have e : tabAt (arg4.view.read (Elt F) f4) (arg5.view.read (Elt F) f5) (ix3 (⟨416 * k.val + 8 * o.val + j.val + 52 * s.val, by omega⟩ : Fin 2080) h l)
      = table (arg4.view.read (Elt F) f4) (arg5.view.read (Elt F) f5) (o.val % 3)
        (ix2 (⟨8 * k.val + s.val, by omega⟩ : Fin 40) (⟨1024 * ((h.val + o.val / 3) % 2) + 128 * j.val + l.val, by omega⟩ : Fin 2048)) := by
    unfold tabAt
    show table _ _ ((416 * k.val + 8 * o.val + j.val + 52 * s.val) % 52 / 8 % 3) (ix2 (⟨(416 * k.val + 8 * o.val + j.val + 52 * s.val) / 52, by omega⟩ : Fin 40)
      (tabCol ((416 * k.val + 8 * o.val + j.val + 52 * s.val) % 52) h l)) = _
    congr 1
    · rw [hq]; omega
    · congr 1
      · exact Fin.ext hr
      · apply Fin.ext
        unfold tabCol
        dsimp only
        rw [hq, hd]
        omega
  rw [e]
  show interleaveRows S8x2x128 _ _ bitcasts_S8x2x128_w16_S8x1x128_w32 (ix3 s h l) = _
  rw [interleaveRows_three (m := 8) (n := 128)]
  rw [shapeCast_mid_add (m := 8) (n := 128), shapeCast_mid_add (m := 8) (n := 128), halfVec_apply, halfVec_apply]
  have hh : ∀ (c c' : Fin 2048), c.val = c'.val → table (arg4.view.read (Elt F) f4) (arg5.view.read (Elt F) f5) (o.val % 3) (ix2 (⟨8 * k.val + s.val, by omega⟩ : Fin 40) c)
      = table (arg4.view.read (Elt F) f4) (arg5.view.read (Elt F) f5) (o.val % 3) (ix2 (⟨8 * k.val + s.val, by omega⟩ : Fin 40) c') := fun c c' h => by rw [Fin.ext h]
  have ho := o.isLt
  match h with
  | 0 =>
    rw [if_pos rfl]; refine hh _ _ ?_
    split <;> simp <;> omega
  | 1 =>
    rw [if_neg (by decide)]; refine hh _ _ ?_
    split <;> simp <;> omega

/-- The tables hold their function at every row of the groups below `8 n`. -/
def TabHolds (S Z : FVec F S40x2048 .f32) (n : Nat) (T : S2080x2x128.Idx → F .bf16) : Prop :=
  ∀ x : S2080x2x128.Idx, (x 0).val < 416 * n → (x 0).val % 52 < 48 → T x = tabAt S Z x

/-- A trip's stores take the tables to the next eight groups. -/
theorem tabHolds_step (i : grid0.Coords) (k0_h1 : k0_cond1 i = 1#1) (arg4 arg5 : Memref sig .tc .vmem S40x2048 .f32) (f4 : arg4.view.ty.Contents (Elt F)) (f5 : arg5.view.ty.Contents (Elt F))
    (arg9 : Memref sig .tc .vmem S2080x2x128 .bf16) (f9 : arg9.view.ty.Contents (Elt F)) (k : Fin k0_t1_loop.trips)
    (h : TabHolds (arg4.view.read (Elt F) f4) (arg5.view.read (Elt F) f5) k.val (arg9.view.read (Elt F) f9)) :
    TabHolds (arg4.view.read (Elt F) f4) (arg5.view.read (Elt F) f5) (k.val + 1)
      (arg9.view.read (Elt F) (arg9.view.writes (Elt F) f9 (puts i k0_h1 arg4 arg5 f4 f5 k))) := by
  intro x hx hx'
  have hk := trips1 k
  by_cases hm : ∃ p ∈ puts i k0_h1 arg4 arg5 f4 f5 k, x ∈ p.1.set
  · refine View.read_writes_apply_of_pieces _ _ (tabAt _ _) _ (fun p hp y => ?_) x hm
    simp only [puts, List.mem_flatMap, List.mem_map] at hp
    obtain ⟨j, -, o, -, rfl⟩ := hp
    exact put_apply i k0_h1 arg4 arg5 f4 f5 k j o y
  · have hlt : (x 0).val < 416 * k.val := by
      by_contra hge
      refine hm ⟨put i k0_h1 arg4 arg5 f4 f5 k (⟨(x 0).val % 52 % 8, by omega⟩ : Fin 8) (⟨(x 0).val % 52 / 8, by omega⟩ : Fin 6), ?_, ?_⟩
      · simp only [puts, List.mem_flatMap, List.mem_map]
        exact ⟨_, by generalize (⟨(x 0).val % 52 % 8, _⟩ : Fin 8) = j; revert j; decide, _, by generalize (⟨(x 0).val % 52 / 8, _⟩ : Fin 6) = j; revert j; decide, rfl⟩
      · have e := putRect_emb i k0_h1 k (⟨(x 0).val % 52 % 8, by omega⟩ : Fin 8) (⟨(x 0).val % 52 / 8, by omega⟩ : Fin 6)
          (⟨(x 0).val / 52 - 8 * k.val, by omega⟩ : Fin 8) (x 1) (x 2)
        have e' : (ix3 (⟨416 * k.val + 8 * ((x 0).val % 52 / 8) + (x 0).val % 52 % 8 + 52 * ((x 0).val / 52 - 8 * k.val), by omega⟩ : Fin 2080) (x 1) (x 2) : S2080x2x128.Idx) = x := by
          funext a; fin_cases a
          · apply Fin.ext; show 416 * k.val + 8 * ((x 0).val % 52 / 8) + (x 0).val % 52 % 8 + 52 * ((x 0).val / 52 - 8 * k.val) = (x 0).val; omega
          · rfl
          · rfl
        have hm' : x ∈ (putRect i k0_h1 k (⟨(x 0).val % 52 % 8, by omega⟩ : Fin 8) (⟨(x 0).val % 52 / 8, by omega⟩ : Fin 6)).set :=
          (congrArg (· ∈ (putRect i k0_h1 k (⟨(x 0).val % 52 % 8, by omega⟩ : Fin 8) (⟨(x 0).val % 52 / 8, by omega⟩ : Fin 6)).set) (e.trans e')).mp (by rw [← Rect.map_emb_univ]; exact Finset.mem_map_of_mem _ (Finset.mem_univ _))
        exact hm'
    rw [View.read_writes_apply_of_forall_not_mem _ _ _ _ (fun p hp hy => hm ⟨p, hp, hy⟩)]
    exact h x hlt hx'

/-! ## The loop -/

/-- The group-table loop: before trip `k` the tables hold their function at the first `8 k` groups. -/
@[sl_loop] def tabLoop (c : Dev nD) (i : grid0.Coords) (arg2 : Memref sig .tc .smem S5120 .i32) (harg2 : arg2.IsWhole) (arg3 : Memref sig .tc .vmem S128x2048 .i32) (harg3 : arg3.IsWhole) (arg4 : Memref sig .tc .vmem S40x2048 .f32) (harg4 : arg4.IsWhole) (arg5 : Memref sig .tc .vmem S40x2048 .f32) (harg5 : arg5.IsWhole) (arg6 : Memref sig .tc .vmem S4x192x1280 .bf16) (harg6 : arg6.IsWhole) (arg7 : Memref sig .tc .vmem S4x192x1280 .bf16) (harg7 : arg7.IsWhole) (arg8 : Memref sig .tc .vmem S192x2048 .bf16) (harg8 : arg8.IsWhole) (arg9 : Memref sig .tc .vmem S2080x2x128 .bf16) (harg9 : arg9.IsWhole) (arg10 : Memref sig .tc .vmem S2560x128 .i32) (harg10 : arg10.IsWhole) (arg11 : Memref sig .tc .vmem S10304x2x128 .bf16) (harg11 : arg11.IsWhole) (arg12 : Memref sig .tc .vmem S192x2048 .f32) (harg12 : arg12.IsWhole) (k0_h1 : k0_cond1 i = 1#1)
    (f4 : Buf (Elt F) (arg4.view.loc (c : Thread nD τ))) (f5 : Buf (Elt F) (arg5.view.loc (c : Thread nD τ))) :
    LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 k0_h1 where
  inv := fun n _ => iprop((arg4.view.loc (c : Thread nD τ) ↦[arg4.view.set]{fullShare} f4)
    ∗ (arg5.view.loc (c : Thread nD τ) ↦[arg5.view.set]{fullShare} f5)
    ∗ ∃ f : Buf (Elt F) (arg9.view.loc (c : Thread nD τ)), ⌜TabHolds (arg4.view.read (Elt F) f4) (arg5.view.read (Elt F) f5) n (arg9.view.read (Elt F) f)⌝ ∗ arg9.view.loc (c : Thread nD τ) ↦[arg9.view.set]{fullShare} f)
  step := fun k acc => by
    unfold k0_t1_body
    iintro ⟨H4, H5, %f9, %hf9, H9⟩
    sl_exec
    sl_step
    isplitl [H4]; · iexact H4
    isplitl [H5]; · iexact H5
    iexists _; isplitr; swap; · iexact H9
    ipureintro
    exact tabHolds_step i k0_h1 arg4 arg5 f4 f5 arg9 f9 k hf9

end Cert.Proof.KernelIdeal.Value

end
-- ==== Proof.Relayout.lean ====
/-
  The re-laid words as a function of the packed words, and the loop that writes them: each packed column's low fields
  beside those of the column 1024 further in one word, the high fields in another.
-/
module

public import proofs.«01_k».proof.Proof.Gen.KernelIdeal.Loops
public import proofs.«01_k».proof.Proof.Layout
public import proofs.«01_k».proof.Proof.Tables
public import Idealize.ShloMosaic.Lib.Writes
public import Idealize.ShloMosaic.Lib.Tactic

@[expose] public section

set_option maxRecDepth 16384

noncomputable section

namespace Cert.Proof.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx Cert.Proof.Layout

variable {F : FTy → Type} [FloatOps F]

local notation "𝕄" => MT nD τ sig Unit (Elt F) ℕ (UR sig nD τ) ℕ

/-! ## The re-laid words as a function of the packed words -/

/-- The low sixteen bits of two words, one above the other. -/
def lowPair (a b : BitVec 32) : BitVec 32 := (IntOp.shli .vector b 16#32).extractLsb' 16 16 ++ a.extractLsb' 0 16
/-- The bits above the low fifteen of two words, one above the other. -/
def highPair (a b : BitVec 32) : BitVec 32 := (IntOp.shli .vector a 1#32).extractLsb' 16 16 ++ (IntOp.shrui .vector b 15#32).extractLsb' 0 16

/-- What the re-laid words' buffer is to hold at row `r`, lane `l`. -/
def relAt (X : S128x2048.Idx → BitVec 32) (y : S2560x128.Idx) : BitVec 32 :=
  (if (y 0).val % 20 / 8 = 0 then lowPair else highPair)
    (X (ix2 (⟨(y 0).val / 20, by have := (y 0).isLt; change (y 0).val < 2560 at this; omega⟩ : Fin 128)
      (⟨(y 0).val % 20 % 8 * 128 + (y 1).val, by have := (y 1).isLt; change (y 1).val < 128 at this; omega⟩ : Fin 2048)))
    (X (ix2 (⟨(y 0).val / 20, by have := (y 0).isLt; change (y 0).val < 2560 at this; omega⟩ : Fin 128)
      (⟨1024 + (y 0).val % 20 % 8 * 128 + (y 1).val, by have := (y 1).isLt; change (y 1).val < 128 at this; omega⟩ : Fin 2048)))

/-! ## One trip's stores -/

/-- The mask of even rows. -/
theorem evenRows_apply : ∀ (r : Fin 16) (l : Fin 128), k0_pay206 (ix2 r l) = if r.val % 2 = 0 then 1#1 else 0#1 := by
  decide +kernel

/-- A selection by that mask takes its first operand at an even row, its second at an odd one. -/
theorem select_even {α : Type} (x y : S16x128.Idx → α) (r : Fin 16) (l : Fin 128) (h : r.val % 2 = 0) :
    select k0_pay206 x y (ix2 r l) = x (ix2 r l) := by
  unfold select
  rw [evenRows_apply, if_pos h]
  rfl
theorem select_odd {α : Type} (x y : S16x128.Idx → α) (r : Fin 16) (l : Fin 128) (h : r.val % 2 = 1) :
    select k0_pay206 x y (ix2 r l) = y (ix2 r l) := by
  unfold select
  rw [evenRows_apply, if_neg (by omega)]
  rfl

/-- The block of packed words a trip loads, as the kernel computes its place. -/
def wordOff (i : Fin 8) (h : Fin 2) (k : Fin k0_t2_loop.trips) : Fin 2 → Nat :=
  (![![k0_off18 k, k0_off19 k], ![k0_off22 k, k0_off23 k], ![k0_off24 k, k0_off25 k], ![k0_off26 k, k0_off27 k], ![k0_off28 k, k0_off29 k], ![k0_off30 k, k0_off31 k], ![k0_off32 k, k0_off33 k], ![k0_off34 k, k0_off35 k]] : Fin 8 → Fin 2 → Fin 2 → Nat) i h

theorem wordOff_eq : ∀ (i : Fin 8) (h : Fin 2) (k : Fin k0_t2_loop.trips), wordOff i h k = ![8 * k.val, 1024 * h.val + 128 * i.val] := by
  decide
theorem relOff0_eq : ∀ (i : Fin 8) (k : Fin k0_t2_loop.trips), k0_off20 k (BitVec.ofNat 32 i.val) = ![160 * k.val + i.val, 0] := by decide
theorem relOff1_eq : ∀ (i : Fin 8) (k : Fin k0_t2_loop.trips), k0_off21 k (BitVec.ofNat 32 i.val) = ![160 * k.val + 8 + i.val, 0] := by decide
theorem trips2 (k : Fin k0_t2_loop.trips) : k.val < 16 := by
  have : k0_t2_loop.trips = 16 := by decide
  omega

theorem wordOff_inb (i : Fin 8) (h : Fin 2) (k : Fin k0_t2_loop.trips) : ∀ a, wordOff i h k a + S8x128.size a ≤ S128x2048.size a := by
  have := trips2 k
  rw [wordOff_eq]
  intro a; fin_cases a
  · show 8 * k.val + 8 ≤ 128; omega
  · show 1024 * h.val + 128 * i.val + 128 ≤ 2048; omega

/-- The block as loaded. -/
def wblk (arg : Memref sig .tc .vmem S128x2048 .i32) (f : arg.view.ty.Contents (Elt F)) (i : Fin 8) (h : Fin 2) (k : Fin k0_t2_loop.trips) :
    Vec F S8x128 .i32 :=
  View.readAt (Elt F) arg.view (Rect.unit (s := S128x2048) (wordOff i h k) S8x128.size (wordOff_inb i h k)).toLoadRect f

theorem wblk_apply (arg : Memref sig .tc .vmem S128x2048 .i32) (f : arg.view.ty.Contents (Elt F)) (i : Fin 8) (h : Fin 2) (k : Fin k0_t2_loop.trips)
    (s : Fin 8) (l : Fin 128) : wblk arg f i h k (ix2 s l)
      = arg.view.read (Elt F) f (ix2 (⟨8 * k.val + s.val, by have := trips2 k; omega⟩ : Fin 128) (⟨1024 * h.val + 128 * i.val + l.val, by omega⟩ : Fin 2048)) := by
  refine congrArg (arg.view.read (Elt F) f) (funext fun a => Fin.ext ?_)
  refine (congrArg (fun o : Fin 2 → Nat => o a + 1 * ((ix2 s l : S8x128.Idx) a).val) (wordOff_eq i h k)).trans ?_
  fin_cases a
  · show 8 * k.val + 1 * s.val = 8 * k.val + s.val; omega
  · show 1024 * h.val + 128 * i.val + 1 * l.val = 1024 * h.val + 128 * i.val + l.val; omega

/-- The words a trip stores at one lane group: the low fields of its two columns, or the high ones. -/
def relVec (A B : IVec S8x128 32) (q : Fin 2) : IVec S8x128 32 :=
  match q with
  | 0 => shapeCast S8x128 (bitcast S8x128 32 (select k0_pay206 (bitcast S16x128 16 A bitcasts_S8x128_w32_S16x128_w16)
      (bitcast S16x128 16 (shli B (broadcast S8x128 16#32)) bitcasts_S8x128_w32_S16x128_w16)) bitcasts_S16x128_w16_S8x128_w32) shapeCasts_S8x128_S8x128
  | 1 => shapeCast S8x128 (bitcast S8x128 32 (select k0_pay206 (bitcast S16x128 16 (shrui B (broadcast S8x128 15#32)) bitcasts_S8x128_w32_S16x128_w16)
      (bitcast S16x128 16 (shli A (broadcast S8x128 1#32)) bitcasts_S8x128_w32_S16x128_w16)) bitcasts_S16x128_w16_S8x128_w32) shapeCasts_S8x128_S8x128

/-- A selection by the mask of even rows, packed: the first operand's low half under the second's high half. -/
theorem selectPacked (U V : IVec S8x128 32) (s : Fin 8) (l : Fin 128) :
    shapeCast S8x128 (bitcast S8x128 32 (select k0_pay206 (bitcast S16x128 16 U bitcasts_S8x128_w32_S16x128_w16)
      (bitcast S16x128 16 V bitcasts_S8x128_w32_S16x128_w16)) bitcasts_S16x128_w16_S8x128_w32) shapeCasts_S8x128_S8x128 (ix2 s l)
      = (V (ix2 s l)).extractLsb' 16 16 ++ (U (ix2 s l)).extractLsb' 0 16 := by
  rw [shapeCast_same]
  refine (bitcast_words (m := 8) (n := 128) _ bitcasts_S16x128_w16_S8x128_w32 s l).trans ?_
  have h1 : (select k0_pay206 (bitcast S16x128 16 U bitcasts_S8x128_w32_S16x128_w16) (bitcast S16x128 16 V bitcasts_S8x128_w32_S16x128_w16))
      (ix2 (⟨2 * s.val + 1, by omega⟩ : Fin 16) l) = (V (ix2 s l)).extractLsb' 16 16 := by
    rw [select_odd _ _ (⟨2 * s.val + 1, by omega⟩ : Fin 16) l (by show (2 * s.val + 1) % 2 = 1; omega)]
    refine (bitcast_halves (m := 8) (n := 128) V bitcasts_S8x128_w32_S16x128_w16 (⟨2 * s.val + 1, by omega⟩ : Fin (2 * 8)) l).trans ?_
    have e1 : (2 * s.val + 1) / 2 = s.val := by omega
    have e2 : (2 * s.val + 1) % 2 = 1 := by omega
    simp only [e1, e2, Nat.mul_one, Fin.eta]
  have h0 : (select k0_pay206 (bitcast S16x128 16 U bitcasts_S8x128_w32_S16x128_w16) (bitcast S16x128 16 V bitcasts_S8x128_w32_S16x128_w16))
      (ix2 (⟨2 * s.val, by omega⟩ : Fin 16) l) = (U (ix2 s l)).extractLsb' 0 16 := by
    rw [select_even _ _ (⟨2 * s.val, by omega⟩ : Fin 16) l (by show (2 * s.val) % 2 = 0; omega)]
    refine (bitcast_halves (m := 8) (n := 128) U bitcasts_S8x128_w32_S16x128_w16 (⟨2 * s.val, by omega⟩ : Fin (2 * 8)) l).trans ?_
    have e1 : (2 * s.val) / 2 = s.val := by omega
    have e2 : (2 * s.val) % 2 = 0 := by omega
    simp only [e1, e2, Nat.mul_zero, Fin.eta]
  exact congrArg₂ (· ++ ·) h1 h0

theorem relVec_apply (A B : IVec S8x128 32) (q : Fin 2) (s : Fin 8) (l : Fin 128) :
    relVec A B q (ix2 s l) = (if q.val = 0 then lowPair else highPair) (A (ix2 s l)) (B (ix2 s l)) := by
  match q with
  | 0 =>
    rw [if_pos (show (0 : Fin 2).val = 0 from rfl)]
    exact (congrFun (show relVec A B 0 = _ from rfl) (ix2 s l)).trans (selectPacked A (shli B (broadcast S8x128 16#32)) s l)
  | 1 =>
    rw [if_neg (by decide)]
    exact (congrFun (show relVec A B 1 = _ from rfl) (ix2 s l)).trans (selectPacked (shrui B (broadcast S8x128 15#32)) (shli A (broadcast S8x128 1#32)) s l)

/-- The place of one store of a trip, as the kernel computes it. -/
def relOff (k : Fin k0_t2_loop.trips) (j : Fin 8) (q : Fin 2) : Fin 2 → Nat :=
  match q with
  | 0 => k0_off20 k (BitVec.ofNat 32 j.val)
  | 1 => k0_off21 k (BitVec.ofNat 32 j.val)

theorem relOff_eq (k : Fin k0_t2_loop.trips) (j : Fin 8) (q : Fin 2) : relOff k j q = ![160 * k.val + 8 * q.val + j.val, 0] := by
  match q with
  | 0 => exact (relOff0_eq j k)
  | 1 => exact (relOff1_eq j k)

theorem relOff_inb (k : Fin k0_t2_loop.trips) (j : Fin 8) (q : Fin 2) : ∀ a, S8x128.size a = 0 ∨ relOff k j q a + (![20, 1] : Fin 2 → Nat) a * (S8x128.size a - 1) < S2560x128.size a := by
  have := trips2 k
  rw [relOff_eq]
  intro a; refine .inr ?_; fin_cases a
  · show 160 * k.val + 8 * q.val + j.val + 20 * 7 < 2560; omega
  · show 0 + 1 * 127 < 128; omega

/-- The rows one store of a trip writes. -/
def relRect (k : Fin k0_t2_loop.trips) (j : Fin 8) (q : Fin 2) : Rect S2560x128 :=
  ⟨(⟨relOff k j q, S8x128.size, ![20, 1], relOff_inb k j q⟩ : LoadRect S2560x128), spos_20_1⟩

/-- One store of a trip. -/
def rel (arg3 : Memref sig .tc .vmem S128x2048 .i32) (f3 : arg3.view.ty.Contents (Elt F)) (k : Fin k0_t2_loop.trips) (j : Fin 8) (q : Fin 2) :
    View.Piece (Elt F) S2560x128 .i32 :=
  ⟨relRect k j q, relVec (wblk arg3 f3 j 0 k) (wblk arg3 f3 j 1 k) q⟩

/-- A trip's stores, the last first. -/
def rels (arg3 : Memref sig .tc .vmem S128x2048 .i32) (f3 : arg3.view.ty.Contents (Elt F)) (k : Fin k0_t2_loop.trips) :
    List (View.Piece (Elt F) S2560x128 .i32) :=
  [7, 6, 5, 4, 3, 2, 1, 0].flatMap fun j : Fin 8 => [1, 0].map fun q : Fin 2 => rel arg3 f3 k j q

theorem relRect_emb (k : Fin k0_t2_loop.trips) (j : Fin 8) (q : Fin 2) (s : Fin 8) (l : Fin 128) :
    (relRect k j q).emb (ix2 s l : S8x128.Idx)
      = ix2 (⟨160 * k.val + 8 * q.val + j.val + 20 * s.val, by have := trips2 k; omega⟩ : Fin 2560) l := by
  funext a
  apply Fin.ext
  refine (congrArg (fun o : Fin 2 → Nat => o a + (![20, 1] : Fin 2 → Nat) a * ((ix2 s l : S8x128.Idx) a).val) (relOff_eq k j q)).trans ?_
  fin_cases a
  · rfl
  · show 0 + 1 * l.val = l.val; omega

/-- Each store writes the re-laid words' function of its rows. -/
theorem rel_apply (arg3 : Memref sig .tc .vmem S128x2048 .i32) (f3 : arg3.view.ty.Contents (Elt F)) (k : Fin k0_t2_loop.trips) (j : Fin 8) (q : Fin 2)
    (x : S8x128.Idx) : (rel arg3 f3 k j q).2 x = relAt (arg3.view.read (Elt F) f3) ((relRect k j q).emb x) := by
  have hk := trips2 k
  obtain ⟨s, l, rfl⟩ : ∃ s l, x = ix2 s l := ⟨x 0, x 1, by funext a; fin_cases a <;> rfl⟩
  change Fin 8 at s; change Fin 128 at l
  rw [relRect_emb]
  have hr : (160 * k.val + 8 * q.val + j.val + 20 * s.val) / 20 = 8 * k.val + s.val := by omega
  have hq : (160 * k.val + 8 * q.val + j.val + 20 * s.val) % 20 = 8 * q.val + j.val := by omega
  have hd : (8 * q.val + j.val) / 8 = q.val := by omega
  have hm : (8 * q.val + j.val) % 8 = j.val := by omega
  refine (relVec_apply _ _ q s l).trans ?_
  rw [wblk_apply, wblk_apply]
  have e : ∀ (w w' : Fin 128) (c c' d d' : Fin 2048) (q' : Nat), w.val = w'.val → c.val = c'.val → d.val = d'.val → q.val = q' →
      (if q.val = 0 then lowPair else highPair) (arg3.view.read (Elt F) f3 (ix2 w c)) (arg3.view.read (Elt F) f3 (ix2 w d))
        = (if q' = 0 then lowPair else highPair) (arg3.view.read (Elt F) f3 (ix2 w' c')) (arg3.view.read (Elt F) f3 (ix2 w' d')) := by
    intro w w' c c' d d' q' h1 h2 h3 h4
    rw [Fin.ext h1, Fin.ext h2, Fin.ext h3, h4]
  refine e _ _ _ _ _ _ _ hr.symm ?_ ?_ ?_
  · show 1024 * 0 + 128 * j.val + l.val = (160 * k.val + 8 * q.val + j.val + 20 * s.val) % 20 % 8 * 128 + l.val
    rw [hq, hm]; omega
  · show 1024 * 1 + 128 * j.val + l.val = 1024 + (160 * k.val + 8 * q.val + j.val + 20 * s.val) % 20 % 8 * 128 + l.val
    rw [hq, hm]; omega
  · show q.val = (160 * k.val + 8 * q.val + j.val + 20 * s.val) % 20 / 8
    rw [hq, hd]

/-- The re-laid words hold their function at every row of the words below `8 n`. -/
def RelHolds (X : S128x2048.Idx → BitVec 32) (n : Nat) (P : S2560x128.Idx → BitVec 32) : Prop :=
  ∀ y : S2560x128.Idx, (y 0).val < 160 * n → (y 0).val % 20 < 16 → P y = relAt X y

/-- A trip's stores take the re-laid words to the next eight words. -/
theorem relHolds_step (arg3 : Memref sig .tc .vmem S128x2048 .i32) (f3 : arg3.view.ty.Contents (Elt F))
    (arg10 : Memref sig .tc .vmem S2560x128 .i32) (f10 : arg10.view.ty.Contents (Elt F)) (k : Fin k0_t2_loop.trips)
    (h : RelHolds (arg3.view.read (Elt F) f3) k.val (arg10.view.read (Elt F) f10)) :
    RelHolds (arg3.view.read (Elt F) f3) (k.val + 1) (arg10.view.read (Elt F) (arg10.view.writes (Elt F) f10 (rels arg3 f3 k))) := by
  intro x hx hx'
  have hk := trips2 k
  by_cases hm : ∃ p ∈ rels arg3 f3 k, x ∈ p.1.set
  · refine View.read_writes_apply_of_pieces _ _ (relAt _) _ (fun p hp y => ?_) x hm
    simp only [rels, List.mem_flatMap, List.mem_map] at hp
    obtain ⟨j, -, q, -, rfl⟩ := hp
    exact rel_apply arg3 f3 k j q y
  · have hlt : (x 0).val < 160 * k.val := by
      by_contra hge
      refine hm ⟨rel arg3 f3 k (⟨(x 0).val % 20 % 8, by omega⟩ : Fin 8) (⟨(x 0).val % 20 / 8, by omega⟩ : Fin 2), ?_, ?_⟩
      · simp only [rels, List.mem_flatMap, List.mem_map]
        exact ⟨_, by generalize (⟨(x 0).val % 20 % 8, _⟩ : Fin 8) = j; revert j; decide, _, by generalize (⟨(x 0).val % 20 / 8, _⟩ : Fin 2) = j; revert j; decide, rfl⟩
      · have e := relRect_emb k (⟨(x 0).val % 20 % 8, by omega⟩ : Fin 8) (⟨(x 0).val % 20 / 8, by omega⟩ : Fin 2)
          (⟨(x 0).val / 20 - 8 * k.val, by omega⟩ : Fin 8) (x 1)
        have e' : (ix2 (⟨160 * k.val + 8 * ((x 0).val % 20 / 8) + (x 0).val % 20 % 8 + 20 * ((x 0).val / 20 - 8 * k.val), by omega⟩ : Fin 2560) (x 1) : S2560x128.Idx) = x := by
          funext a; fin_cases a
          · apply Fin.ext; show 160 * k.val + 8 * ((x 0).val % 20 / 8) + (x 0).val % 20 % 8 + 20 * ((x 0).val / 20 - 8 * k.val) = (x 0).val; omega
          · rfl
        have hm' : x ∈ (relRect k (⟨(x 0).val % 20 % 8, by omega⟩ : Fin 8) (⟨(x 0).val % 20 / 8, by omega⟩ : Fin 2)).set :=
          (congrArg (· ∈ (relRect k (⟨(x 0).val % 20 % 8, by omega⟩ : Fin 8) (⟨(x 0).val % 20 / 8, by omega⟩ : Fin 2)).set) (e.trans e')).mp (by rw [← Rect.map_emb_univ]; exact Finset.mem_map_of_mem _ (Finset.mem_univ _))
        exact hm'
    rw [View.read_writes_apply_of_forall_not_mem _ _ _ _ (fun p hp hy => hm ⟨p, hp, hy⟩)]
    exact h x hlt hx'

/-! ## The loop -/

/-- The relayout loop: before trip `k` the re-laid words hold their function at the first `8 k` words. -/
@[sl_loop] def relLoop (c : Dev nD) (i : grid0.Coords) (arg2 : Memref sig .tc .smem S5120 .i32) (harg2 : arg2.IsWhole) (arg3 : Memref sig .tc .vmem S128x2048 .i32) (harg3 : arg3.IsWhole) (arg4 : Memref sig .tc .vmem S40x2048 .f32) (harg4 : arg4.IsWhole) (arg5 : Memref sig .tc .vmem S40x2048 .f32) (harg5 : arg5.IsWhole) (arg6 : Memref sig .tc .vmem S4x192x1280 .bf16) (harg6 : arg6.IsWhole) (arg7 : Memref sig .tc .vmem S4x192x1280 .bf16) (harg7 : arg7.IsWhole) (arg8 : Memref sig .tc .vmem S192x2048 .bf16) (harg8 : arg8.IsWhole) (arg9 : Memref sig .tc .vmem S2080x2x128 .bf16) (harg9 : arg9.IsWhole) (arg10 : Memref sig .tc .vmem S2560x128 .i32) (harg10 : arg10.IsWhole) (arg11 : Memref sig .tc .vmem S10304x2x128 .bf16) (harg11 : arg11.IsWhole) (arg12 : Memref sig .tc .vmem S192x2048 .f32) (harg12 : arg12.IsWhole)
    (f3 : Buf (Elt F) (arg3.view.loc (c : Thread nD τ))) :
    LoopInvTy_k0_t2 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 where
  inv := fun n _ => iprop((arg3.view.loc (c : Thread nD τ) ↦[arg3.view.set]{fullShare} f3)
    ∗ ∃ f : Buf (Elt F) (arg10.view.loc (c : Thread nD τ)), ⌜RelHolds (arg3.view.read (Elt F) f3) n (arg10.view.read (Elt F) f)⌝ ∗ arg10.view.loc (c : Thread nD τ) ↦[arg10.view.set]{fullShare} f)
  step := fun k acc => by
    unfold k0_t2_body
    iintro ⟨H3, %f10, %hf10, H10⟩
    sl_exec
    sl_step
    isplitl [H3]; · iexact H3
    iexists _; isplitr; swap; · iexact H10
    ipureintro
    exact relHolds_step arg3 f3 arg10 f10 k hf10

end Cert.Proof.KernelIdeal.Value

end
-- ==== Proof.Unpack.lean ====
/-
  The weights as a function of the group tables, the re-laid words and the prefetched table, and the loop that writes
  them: at each word, for each of five fields, the field less its group's zero point, times the group's scale.
-/
module

public import proofs.«01_k».proof.Proof.Gen.KernelIdeal.Loops
public import proofs.«01_k».proof.Proof.Layout
public import proofs.«01_k».proof.Proof.Relayout
public import Idealize.ShloMosaic.Lib.Writes
public import Idealize.ShloMosaic.Lib.Tactic

@[expose] public section

set_option maxRecDepth 16384

noncomputable section

namespace Cert.Proof.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx Cert.Proof.Layout

variable {F : FTy → Type} [FloatOps F]

local notation "𝕄" => MT nD τ sig Unit (Elt F) ℕ (UR sig nD τ) ℕ

/-! ## The rows a table word names lie inside the group tables -/

theorem chk1_of {v : BitVec 32} (h : v.toNat ≤ 2028) : k0_chk1 v := by
  unfold k0_chk1; intro r a; fin_cases r <;> fin_cases a <;>
    simp [k0_off40, Scalar.addi, Scalar.indexCast, IntOp.addi, S8x128, S2080x2x128] <;> omega
theorem chk2_of {v : BitVec 32} (h : v.toNat ≤ 2028) : k0_chk2 v := by
  unfold k0_chk2; intro r a; fin_cases r <;> fin_cases a <;>
    simp [k0_off41, Scalar.addi, Scalar.indexCast, IntOp.addi, S8x128, S2080x2x128] <;> omega
theorem chk3_of {v : BitVec 32} (h : v.toNat ≤ 2028) : k0_chk3 v := by
  unfold k0_chk3; intro r a; fin_cases r <;> fin_cases a <;>
    simp [k0_off46, Scalar.addi, Scalar.indexCast, IntOp.addi, S8x128, S2080x2x128] <;> omega
theorem chk4_of {v : BitVec 32} (h : v.toNat ≤ 2028) : k0_chk4 v := by
  unfold k0_chk4; intro r a; fin_cases r <;> fin_cases a <;>
    simp [k0_off47, Scalar.addi, Scalar.indexCast, IntOp.addi, S8x128, S2080x2x128] <;> omega
theorem chk5_of {v : BitVec 32} (h : v.toNat ≤ 2028) : k0_chk5 v := by
  unfold k0_chk5; intro r a; fin_cases r <;> fin_cases a <;>
    simp [k0_off52, Scalar.addi, Scalar.indexCast, IntOp.addi, S8x128, S2080x2x128] <;> omega
theorem chk6_of {v : BitVec 32} (h : v.toNat ≤ 2028) : k0_chk6 v := by
  unfold k0_chk6; intro r a; fin_cases r <;> fin_cases a <;>
    simp [k0_off53, Scalar.addi, Scalar.indexCast, IntOp.addi, S8x128, S2080x2x128] <;> omega
theorem chk7_of {v : BitVec 32} (h : v.toNat ≤ 2028) : k0_chk7 v := by
  unfold k0_chk7; intro r a; fin_cases r <;> fin_cases a <;>
    simp [k0_off58, Scalar.addi, Scalar.indexCast, IntOp.addi, S8x128, S2080x2x128] <;> omega
theorem chk8_of {v : BitVec 32} (h : v.toNat ≤ 2028) : k0_chk8 v := by
  unfold k0_chk8; intro r a; fin_cases r <;> fin_cases a <;>
    simp [k0_off59, Scalar.addi, Scalar.indexCast, IntOp.addi, S8x128, S2080x2x128] <;> omega
theorem chk9_of {v : BitVec 32} (h : v.toNat ≤ 2028) : k0_chk9 v := by
  unfold k0_chk9; intro r a; fin_cases r <;> fin_cases a <;>
    simp [k0_off64, Scalar.addi, Scalar.indexCast, IntOp.addi, S8x128, S2080x2x128] <;> omega
theorem chk10_of {v : BitVec 32} (h : v.toNat ≤ 2028) : k0_chk10 v := by
  unfold k0_chk10; intro r a; fin_cases r <;> fin_cases a <;>
    simp [k0_off65, Scalar.addi, Scalar.indexCast, IntOp.addi, S8x128, S2080x2x128] <;> omega

/-- Every word of the prefetched table names a row from which the six tables of a group fit. -/
def RowsFit (X : S5120.Idx → BitVec 32) : Prop := ∀ x, (X x).toNat ≤ 2028

/-! ## The weights as a function of what they are computed from -/

/-- Field `j` of the two halves of a word, each under the exponent its place calls for. -/
def fieldWord (j : Fin 5) (v : BitVec 32) : BitVec 32 :=
  match j with
  | 0 => v &&& 0x00070007#32 ||| 0x43004300#32
  | 1 => v &&& 0x00380038#32 ||| 0x41804180#32
  | 2 => IntOp.shrui .vector v 6#32 &&& 0x00070007#32 ||| 0x43004300#32
  | 3 => IntOp.shrui .vector v 6#32 &&& 0x00380038#32 ||| 0x41804180#32
  | 4 => IntOp.shrui .vector v 12#32 &&& 0x00070007#32 ||| 0x43004300#32

/-- Row `s` of the tables at the row the table's word `t` names. -/
def tabRow (t : BitVec 32) (n : Nat) (hn : n ≤ 51) : Fin 2080 := ⟨min t.toNat 2028 + n, by omega⟩

/-- The weight of lane group `n8`, field pair `j` of word `w` of block `kb`, half `h`, lane `l`. -/
def weightAt (T : S2080x2x128.Idx → F .bf16) (P : S2560x128.Idx → BitVec 32) (X : S5120.Idx → BitVec 32) (kb : Fin 4)
    (n8 : Fin 16) (j : Fin 5) (w : Fin 128) (h : Fin 2) (l : Fin 128) : F .bf16 :=
  FloatOps.mulf (FloatOps.subf
      (FloatOps.ofBits .bf16 ((fieldWord j (P (ix2 (⟨20 * w.val + 8 * ((h.val + n8.val / 8) % 2) + n8.val % 8, by omega⟩ : Fin 2560) l))).extractLsb' (16 * h.val) 16))
      (T (ix3 (tabRow (X (ix1 (⟨(128 * kb.val + w.val) * 10 + j.val + 5 * ((h.val + n8.val / 8) % 2), by omega⟩ : Fin 5120)))
        (24 * ((h.val + n8.val / 8) % 2) + 8 * (1 + j.val % 2) + n8.val % 8) (by omega)) h l)))
    (T (ix3 (tabRow (X (ix1 (⟨(128 * kb.val + w.val) * 10 + j.val + 5 * ((h.val + n8.val / 8) % 2), by omega⟩ : Fin 5120)))
        (24 * ((h.val + n8.val / 8) % 2) + n8.val % 8) (by omega)) h l))

/-- What the weights' buffer is to hold at word row `r`, half `h`, lane `l`. -/
def weightsAt (T : S2080x2x128.Idx → F .bf16) (P : S2560x128.Idx → BitVec 32) (X : S5120.Idx → BitVec 32) (kb : Fin 4) (x : S10304x2x128.Idx) : F .bf16 :=
  if hj : (x 0).val % 644 / 128 < 5 then
    weightAt T P X kb (⟨(x 0).val / 644, by have := (x 0).isLt; change (x 0).val < 10304 at this; omega⟩ : Fin 16) ⟨(x 0).val % 644 / 128, hj⟩
      (⟨(x 0).val % 644 % 128, by omega⟩ : Fin 128) (x 1) (x 2)
  else FloatOps.ofBits .bf16 0#16

/-! ## One trip's stores -/

theorem trips3 (k : Fin k0_t3_loop.trips) : k.val < 128 := by
  have : k0_t3_loop.trips = 128 := by decide
  omega

/-- The places of the words of the prefetched table a trip reads, as the kernel computes them. -/
def idxOff (i : grid0.Coords) (k : Fin k0_t3_loop.trips) (j : Fin 5) (h : Fin 2) : Fin 1 → Nat :=
  (![![k0_off38 i k, k0_off39 i k], ![k0_off44 i k, k0_off45 i k], ![k0_off50 i k, k0_off51 i k], ![k0_off56 i k, k0_off57 i k], ![k0_off62 i k, k0_off63 i k]] : Fin 5 → Fin 2 → Fin 1 → Nat) j h

theorem idxOff_eq (i : grid0.Coords) (k : Fin k0_t3_loop.trips) (j : Fin 5) (h : Fin 2) :
    idxOff i k j h = ![(128 * (i 1).val + k.val) * 10 + j.val + 5 * h.val] := by
  obtain ⟨b, hb⟩ : ∃ b : Fin 4, (i 1).val = b.val := ⟨i 1, rfl⟩
  unfold idxOff k0_off38 k0_off39 k0_off44 k0_off45 k0_off50 k0_off51 k0_off56 k0_off57 k0_off62 k0_off63
  rw [hb]
  clear hb
  revert h j k b
  decide +kernel

theorem idxOff_inb (i : grid0.Coords) (k : Fin k0_t3_loop.trips) (j : Fin 5) (h : Fin 2) : ∀ a, idxOff i k j h a + S1.size a ≤ S5120.size a := by
  have := trips3 k
  have hb : (i 1).val < 4 := (i 1).isLt
  rw [idxOff_eq]
  intro a; fin_cases a
  show (128 * (i 1).val + k.val) * 10 + j.val + 5 * h.val + 1 ≤ 5120
  omega

/-- The words of the prefetched table a trip reads. -/
def tword (arg2 : Memref sig .tc .smem S5120 .i32) (f2 : arg2.view.ty.Contents (Elt F)) (i : grid0.Coords) (k : Fin k0_t3_loop.trips) (j : Fin 5) (h : Fin 2) : BitVec 32 :=
  (View.readAt (Elt F) arg2.view (Rect.unit (s := S5120) (idxOff i k j h) S1.size (idxOff_inb i k j h)).toLoadRect f2 : Vec F S1 .i32) (Shape.Idx.first (numel1_S1.symm ▸ Nat.one_pos))

theorem tword_eq (arg2 : Memref sig .tc .smem S5120 .i32) (f2 : arg2.view.ty.Contents (Elt F)) (i : grid0.Coords) (k : Fin k0_t3_loop.trips) (j : Fin 5) (h : Fin 2) :
    tword arg2 f2 i k j h = arg2.view.read (Elt F) f2 (ix1 (⟨(128 * (i 1).val + k.val) * 10 + j.val + 5 * h.val, by have := trips3 k; have hb : (i 1).val < 4 := (i 1).isLt; omega⟩ : Fin 5120)) := by
  refine congrArg (arg2.view.read (Elt F) f2) (funext fun a => Fin.ext ?_)
  refine (congrArg (fun o : Fin 1 → Nat => o a + 1 * ((Shape.Idx.first (numel1_S1.symm ▸ Nat.one_pos) : S1.Idx) a).val) (idxOff_eq i k j h)).trans ?_
  have h0 : ((Shape.Idx.first (numel1_S1.symm ▸ Nat.one_pos) : S1.Idx) a).val = 0 := by
    have := ((Shape.Idx.first (numel1_S1.symm ▸ Nat.one_pos) : S1.Idx) a).isLt
    fin_cases a; change _ < 1 at this; omega
  rw [h0]
  fin_cases a
  rfl

/-- The two places of the re-laid words a trip reads. -/
def wordsOff (k : Fin k0_t3_loop.trips) (h : Fin 2) : Fin 2 → Nat := (![k0_off36 k, k0_off37 k] : Fin 2 → Fin 2 → Nat) h
theorem wordsOff_eq : ∀ (k : Fin k0_t3_loop.trips) (h : Fin 2), wordsOff k h = ![20 * k.val + 8 * h.val, 0] := by decide +kernel
theorem wordsOff_inb (k : Fin k0_t3_loop.trips) (h : Fin 2) : ∀ a, wordsOff k h a + S8x128.size a ≤ S2560x128.size a := by
  have := trips3 k
  rw [wordsOff_eq]
  intro a; fin_cases a
  · show 20 * k.val + 8 * h.val + 8 ≤ 2560; omega
  · show 0 + 128 ≤ 128; omega

/-- The re-laid words a trip reads. -/
def pwords (arg10 : Memref sig .tc .vmem S2560x128 .i32) (f10 : arg10.view.ty.Contents (Elt F)) (k : Fin k0_t3_loop.trips) (h : Fin 2) : Vec F S8x128 .i32 :=
  View.readAt (Elt F) arg10.view (Rect.unit (s := S2560x128) (wordsOff k h) S8x128.size (wordsOff_inb k h)).toLoadRect f10

theorem pwords_apply (arg10 : Memref sig .tc .vmem S2560x128 .i32) (f10 : arg10.view.ty.Contents (Elt F)) (k : Fin k0_t3_loop.trips) (h : Fin 2) (s : Fin 8) (l : Fin 128) :
    pwords arg10 f10 k h (ix2 s l) = arg10.view.read (Elt F) f10 (ix2 (⟨20 * k.val + 8 * h.val + s.val, by have := trips3 k; omega⟩ : Fin 2560) l) := by
  refine congrArg (arg10.view.read (Elt F) f10) (funext fun a => Fin.ext ?_)
  refine (congrArg (fun o : Fin 2 → Nat => o a + 1 * ((ix2 s l : S8x128.Idx) a).val) (wordsOff_eq k h)).trans ?_
  fin_cases a
  · show 20 * k.val + 8 * h.val + 1 * s.val = 20 * k.val + 8 * h.val + s.val; omega
  · show 0 + 1 * l.val = l.val; omega

/-- The fields of a block of words, as the kernel computes them. -/
def fieldVec (j : Fin 5) (P : IVec S8x128 32) : IVec S8x128 32 :=
  match j with
  | 0 => ori (andi P (broadcast S8x128 0x00070007#32)) (broadcast S8x128 0x43004300#32)
  | 1 => ori (andi P (broadcast S8x128 0x00380038#32)) (broadcast S8x128 0x41804180#32)
  | 2 => ori (andi (shrui P (broadcast S8x128 6#32)) (broadcast S8x128 0x00070007#32)) (broadcast S8x128 0x43004300#32)
  | 3 => ori (andi (shrui P (broadcast S8x128 6#32)) (broadcast S8x128 0x00380038#32)) (broadcast S8x128 0x41804180#32)
  | 4 => ori (andi (shrui P (broadcast S8x128 12#32)) (broadcast S8x128 0x00070007#32)) (broadcast S8x128 0x43004300#32)

theorem fieldVec_apply (j : Fin 5) (P : IVec S8x128 32) (x : S8x128.Idx) : fieldVec j P x = fieldWord j (P x) := by
  fin_cases j <;> rfl

theorem rowInb (v c : BitVec 32) (hv : v.toNat ≤ 2028) (hc : c.toNat ≤ 40) : ∀ a, k0_off40 v c a + S8x2x128.size a ≤ S2080x2x128.size a := by
  intro a; fin_cases a
  · show (v + c).toNat + 8 ≤ 2080
    rw [BitVec.toNat_add]; omega
  · show 0 + 2 ≤ 2; omega
  · show 0 + 128 ≤ 128; omega

theorem toNat_small (n : Nat) (h : n < 4294967296) : (BitVec.ofNat 32 n).toNat = n := by
  rw [BitVec.toNat_ofNat]; exact Nat.mod_eq_of_lt h

/-- Eight rows of the group tables, their halves interleaved. -/
def rowVec (arg9 : Memref sig .tc .vmem S2080x2x128 .bf16) (f9 : arg9.view.ty.Contents (Elt F)) (v c : BitVec 32) (hv : v.toNat ≤ 2028) (hc : c.toNat ≤ 40) : FVec F S16x128 .bf16 :=
  interleaveRows S16x128
    (shapeCast S8x128 (rowsOfParity 0 S8x1x128 (View.readAt (Elt F) arg9.view (Rect.unit (s := S2080x2x128) (k0_off40 v c) S8x2x128.size (rowInb v c hv hc)).toLoadRect f9 : Vec F S8x2x128 .bf16) bitcasts_S8x2x128_w16_S8x1x128_w32) shapeCasts_S8x1x128_S8x128)
    (shapeCast S8x128 (rowsOfParity 1 S8x1x128 (View.readAt (Elt F) arg9.view (Rect.unit (s := S2080x2x128) (k0_off40 v c) S8x2x128.size (rowInb v c hv hc)).toLoadRect f9 : Vec F S8x2x128 .bf16) bitcasts_S8x2x128_w16_S8x1x128_w32) shapeCasts_S8x1x128_S8x128)
    bitcasts_S16x128_w16_S8x128_w32

theorem rowVec_apply (arg9 : Memref sig .tc .vmem S2080x2x128 .bf16) (f9 : arg9.view.ty.Contents (Elt F)) (v c : BitVec 32) (hv : v.toNat ≤ 2028) (hc : c.toNat ≤ 40)
    (n : Nat) (hn : n = c.toNat) (s : Fin 8) (h : Fin 2) (l : Fin 128) :
    rowVec arg9 f9 v c hv hc (ix2 (⟨2 * s.val + h.val, by omega⟩ : Fin 16) l) = arg9.view.read (Elt F) f9 (ix3 (tabRow v (n + s.val) (by omega)) h l) := by
  have key : (View.readAt (Elt F) arg9.view (Rect.unit (s := S2080x2x128) (k0_off40 v c) S8x2x128.size (rowInb v c hv hc)).toLoadRect f9 : Vec F S8x2x128 .bf16) (ix3 s h l)
      = arg9.view.read (Elt F) f9 (ix3 (tabRow v (n + s.val) (by omega)) h l) := by
    refine congrArg (arg9.view.read (Elt F) f9) (funext fun a => Fin.ext ?_)
    show k0_off40 v c a + 1 * ((ix3 s h l : S8x2x128.Idx) a).val = _
    fin_cases a
    · show (v + c).toNat + 1 * s.val = min v.toNat 2028 + (n + s.val)
      rw [BitVec.toNat_add]; omega
    · show 0 + 1 * h.val = h.val; omega
    · show 0 + 1 * l.val = l.val; omega
  unfold rowVec
  refine (interleaveRows_two (m := 8) (n := 128) _ _ bitcasts_S16x128_w16_S8x128_w32 (⟨2 * s.val + h.val, by omega⟩ : Fin (2 * 8)) l).trans ?_
  have hs : (⟨(2 * s.val + h.val) / 2, by omega⟩ : Fin 8) = s := Fin.ext (by show (2 * s.val + h.val) / 2 = s.val; omega)
  match h, hs, key with
  | 0, hs, key =>
    rw [if_pos (by show (2 * s.val + 0) % 2 = 0; omega)]
    refine (shapeCast_mid_drop (m := 8) (n := 128) _ shapeCasts_S8x1x128_S8x128 _ l).trans ?_
    refine (rowsOfParity_three (m := 8) (n := 128) 0 _ bitcasts_S8x2x128_w16_S8x1x128_w32 _ l).trans ?_
    rw [← key]
    exact congrArg (fun s' : Fin 8 => (View.readAt (Elt F) arg9.view (Rect.unit (s := S2080x2x128) (k0_off40 v c) S8x2x128.size (rowInb v c hv hc)).toLoadRect f9 : Vec F S8x2x128 .bf16) (ix3 s' 0 l)) hs
  | 1, hs, key =>
    rw [if_neg (by show ¬ (2 * s.val + 1) % 2 = 0; omega)]
    refine (shapeCast_mid_drop (m := 8) (n := 128) _ shapeCasts_S8x1x128_S8x128 _ l).trans ?_
    refine (rowsOfParity_three (m := 8) (n := 128) 1 _ bitcasts_S8x2x128_w16_S8x1x128_w32 _ l).trans ?_
    rw [← key]
    exact congrArg (fun s' : Fin 8 => (View.readAt (Elt F) arg9.view (Rect.unit (s := S2080x2x128) (k0_off40 v c) S8x2x128.size (rowInb v c hv hc)).toLoadRect f9 : Vec F S8x2x128 .bf16) (ix3 s' 1 l)) hs

section
variable (arg2 : Memref sig .tc .smem S5120 .i32) (f2 : arg2.view.ty.Contents (Elt F)) (h2 : RowsFit (arg2.view.read (Elt F) f2))
  (arg9 : Memref sig .tc .vmem S2080x2x128 .bf16) (f9 : arg9.view.ty.Contents (Elt F))
  (arg10 : Memref sig .tc .vmem S2560x128 .i32) (f10 : arg10.view.ty.Contents (Elt F)) (i : grid0.Coords)

/-- Field `j` of a trip's words, or the field five further, less the zero point and times the scale of its group. -/
def deq (k : Fin k0_t3_loop.trips) (j : Fin 5) (h : Fin 2) : FVec F S16x128 .bf16 :=
  mulf (subf (bitcastToFloat .bf16 (bitcast S16x128 16 (fieldVec j (pwords arg10 f10 k h)) bitcasts_S8x128_w32_S16x128_w16))
      (rowVec arg9 f9 (tword arg2 f2 i k j h) (BitVec.ofNat 32 (24 * h.val + 8 * (1 + j.val % 2))) (h2 _) (by rw [toNat_small _ (by omega)]; omega)))
    (rowVec arg9 f9 (tword arg2 f2 i k j h) (BitVec.ofNat 32 (24 * h.val)) (h2 _) (by rw [toNat_small _ (by omega)]; omega))

/-- The field's value at one place, over what the buffers hold. -/
theorem deq_apply (k : Fin k0_t3_loop.trips) (j : Fin 5) (hf : Fin 2) (s : Fin 8) (h : Fin 2) (l : Fin 128) :
    deq arg2 f2 h2 arg9 f9 arg10 f10 i k j hf (ix2 (⟨2 * s.val + h.val, by omega⟩ : Fin 16) l)
      = FloatOps.mulf (FloatOps.subf
          (FloatOps.ofBits .bf16 ((fieldWord j (arg10.view.read (Elt F) f10 (ix2 (⟨20 * k.val + 8 * hf.val + s.val, by have := trips3 k; omega⟩ : Fin 2560) l))).extractLsb' (16 * h.val) 16))
          (arg9.view.read (Elt F) f9 (ix3 (tabRow (arg2.view.read (Elt F) f2 (ix1 (⟨(128 * (i 1).val + k.val) * 10 + j.val + 5 * hf.val, by have := trips3 k; have hb : (i 1).val < 4 := (i 1).isLt; omega⟩ : Fin 5120)))
            (24 * hf.val + 8 * (1 + j.val % 2) + s.val) (by omega)) h l)))
        (arg9.view.read (Elt F) f9 (ix3 (tabRow (arg2.view.read (Elt F) f2 (ix1 (⟨(128 * (i 1).val + k.val) * 10 + j.val + 5 * hf.val, by have := trips3 k; have hb : (i 1).val < 4 := (i 1).isLt; omega⟩ : Fin 5120)))
            (24 * hf.val + s.val) (by omega)) h l)) := by
  have e1 := rowVec_apply arg9 f9 (tword arg2 f2 i k j hf) (BitVec.ofNat 32 (24 * hf.val + 8 * (1 + j.val % 2))) (h2 _) (by rw [toNat_small _ (by omega)]; omega)
    (24 * hf.val + 8 * (1 + j.val % 2)) (toNat_small _ (by omega)).symm s h l
  have e2 := rowVec_apply arg9 f9 (tword arg2 f2 i k j hf) (BitVec.ofNat 32 (24 * hf.val)) (h2 _) (by rw [toNat_small _ (by omega)]; omega)
    (24 * hf.val) (toNat_small _ (by omega)).symm s h l
  have e3 : bitcast S16x128 16 (fieldVec j (pwords arg10 f10 k hf)) bitcasts_S8x128_w32_S16x128_w16 (ix2 (⟨2 * s.val + h.val, by omega⟩ : Fin 16) l)
      = (fieldWord j (arg10.view.read (Elt F) f10 (ix2 (⟨20 * k.val + 8 * hf.val + s.val, by have := trips3 k; omega⟩ : Fin 2560) l))).extractLsb' (16 * h.val) 16 := by
    refine (bitcast_halves (m := 8) (n := 128) _ bitcasts_S8x128_w32_S16x128_w16 (⟨2 * s.val + h.val, by omega⟩ : Fin (2 * 8)) l).trans ?_
    have hs : (⟨(2 * s.val + h.val) / 2, by omega⟩ : Fin 8) = s := Fin.ext (by show (2 * s.val + h.val) / 2 = s.val; omega)
    have hh : (2 * s.val + h.val) % 2 = h.val := by omega
    rw [← pwords_apply arg10 f10 k hf s l, ← fieldVec_apply]
    show (fieldVec j (pwords arg10 f10 k hf) (ix2 (⟨(2 * s.val + h.val) / 2, by omega⟩ : Fin 8) l)).extractLsb' (16 * ((2 * s.val + h.val) % 2)) 16 = _
    rw [hs, hh]
  have e1' := e1.trans (congrArg (fun t => arg9.view.read (Elt F) f9 (ix3 (tabRow t (24 * hf.val + 8 * (1 + j.val % 2) + s.val) (by omega)) h l)) (tword_eq arg2 f2 i k j hf))
  have e2' := e2.trans (congrArg (fun t => arg9.view.read (Elt F) f9 (ix3 (tabRow t (24 * hf.val + s.val) (by omega)) h l)) (tword_eq arg2 f2 i k j hf))
  exact congrArg₂ FloatOps.mulf (congrArg₂ FloatOps.subf (congrArg (FloatOps.ofBits .bf16) e3) e1') e2'

/-- The places of a trip's stores, as the kernel computes them. -/
def stOff (k : Fin k0_t3_loop.trips) (j : Fin 5) (q : Fin 2) : Fin 3 → Nat := (![![k0_off42 k, k0_off43 k], ![k0_off48 k, k0_off49 k], ![k0_off54 k, k0_off55 k], ![k0_off60 k, k0_off61 k], ![k0_off66 k, k0_off67 k]] : Fin 5 → Fin 2 → Fin 3 → Nat) j q
theorem stOff_eq : ∀ (k : Fin k0_t3_loop.trips) (j : Fin 5) (q : Fin 2), stOff k j q = ![5152 * q.val + 128 * j.val + k.val, 0, 0] := by decide +kernel

theorem stOff_inb (k : Fin k0_t3_loop.trips) (j : Fin 5) (q : Fin 2) : ∀ a, S8x2x128.size a = 0 ∨ stOff k j q a + (![644, 1, 1] : Fin 3 → Nat) a * (S8x2x128.size a - 1) < S10304x2x128.size a := by
  have := trips3 k
  rw [stOff_eq]
  intro a; refine .inr ?_; fin_cases a
  · show 5152 * q.val + 128 * j.val + k.val + 644 * 7 < 10304; omega
  · show 0 + 1 * 1 < 2; omega
  · show 0 + 1 * 127 < 128; omega

/-- The rows one store of a trip writes. -/
def stRect (k : Fin k0_t3_loop.trips) (j : Fin 5) (q : Fin 2) : Rect S10304x2x128 :=
  ⟨(⟨stOff k j q, S8x2x128.size, ![644, 1, 1], stOff_inb k j q⟩ : LoadRect S10304x2x128), spos_644_1_1⟩

/-- The values one store of a trip writes: a selection of the two fields, row by row. -/
def stSel (k : Fin k0_t3_loop.trips) (j : Fin 5) (q : Fin 2) : FVec F S16x128 .bf16 :=
  match q with
  | 0 => select k0_pay206 (deq arg2 f2 h2 arg9 f9 arg10 f10 i k j 0) (deq arg2 f2 h2 arg9 f9 arg10 f10 i k j 1)
  | 1 => select k0_pay206 (deq arg2 f2 h2 arg9 f9 arg10 f10 i k j 1) (deq arg2 f2 h2 arg9 f9 arg10 f10 i k j 0)

/-- One store of a trip. -/
def st (k : Fin k0_t3_loop.trips) (j : Fin 5) (q : Fin 2) : View.Piece (Elt F) S10304x2x128 .bf16 :=
  ⟨stRect k j q, interleaveRows S8x2x128
    (shapeCast S8x1x128 (rowsOfParity 0 S8x128 (stSel arg2 f2 h2 arg9 f9 arg10 f10 i k j q) bitcasts_S16x128_w16_S8x128_w32) shapeCasts_S8x128_S8x1x128)
    (shapeCast S8x1x128 (rowsOfParity 1 S8x128 (stSel arg2 f2 h2 arg9 f9 arg10 f10 i k j q) bitcasts_S16x128_w16_S8x128_w32) shapeCasts_S8x128_S8x1x128) bitcasts_S8x2x128_w16_S8x1x128_w32⟩

/-- A trip's stores, the last first. -/
def sts (k : Fin k0_t3_loop.trips) : List (View.Piece (Elt F) S10304x2x128 .bf16) :=
  [4, 3, 2, 1, 0].flatMap fun j : Fin 5 => [1, 0].map fun q : Fin 2 => st arg2 f2 h2 arg9 f9 arg10 f10 i k j q

theorem stRect_emb (k : Fin k0_t3_loop.trips) (j : Fin 5) (q : Fin 2) (s : Fin 8) (h : Fin 2) (l : Fin 128) :
    (stRect k j q).emb (ix3 s h l : S8x2x128.Idx)
      = ix3 (⟨5152 * q.val + 128 * j.val + k.val + 644 * s.val, by have := trips3 k; omega⟩ : Fin 10304) h l := by
  funext a
  apply Fin.ext
  refine (congrArg (fun o : Fin 3 → Nat => o a + (![644, 1, 1] : Fin 3 → Nat) a * ((ix3 s h l : S8x2x128.Idx) a).val) (stOff_eq k j q)).trans ?_
  fin_cases a
  · rfl
  · show 0 + 1 * h.val = h.val; omega
  · show 0 + 1 * l.val = l.val; omega

theorem stSel_apply (k : Fin k0_t3_loop.trips) (j : Fin 5) (q : Fin 2) (s : Fin 8) (h : Fin 2) (l : Fin 128) :
    stSel arg2 f2 h2 arg9 f9 arg10 f10 i k j q (ix2 (⟨2 * s.val + h.val, by omega⟩ : Fin 16) l)
      = deq arg2 f2 h2 arg9 f9 arg10 f10 i k j (⟨(h.val + q.val) % 2, by omega⟩ : Fin 2) (ix2 (⟨2 * s.val + h.val, by omega⟩ : Fin 16) l) := by
  match q, h with
  | 0, 0 => exact select_even _ _ _ l (by show (2 * s.val + 0) % 2 = 0; omega)
  | 0, 1 => exact select_odd _ _ _ l (by show (2 * s.val + 1) % 2 = 1; omega)
  | 1, 0 => exact select_even _ _ _ l (by show (2 * s.val + 0) % 2 = 0; omega)
  | 1, 1 => exact select_odd _ _ _ l (by show (2 * s.val + 1) % 2 = 1; omega)

/-- Each store writes the weights' function of its rows. -/
theorem st_apply (k : Fin k0_t3_loop.trips) (j : Fin 5) (q : Fin 2) (x : S8x2x128.Idx) :
    (st arg2 f2 h2 arg9 f9 arg10 f10 i k j q).2 x
      = weightsAt (arg9.view.read (Elt F) f9) (arg10.view.read (Elt F) f10) (arg2.view.read (Elt F) f2) (i 1) ((stRect k j q).emb x) := by
  have hk := trips3 k
  obtain ⟨s, h, l, rfl⟩ : ∃ s h l, x = ix3 s h l := ⟨x 0, x 1, x 2, by funext a; fin_cases a <;> rfl⟩
  change Fin 8 at s; change Fin 2 at h; change Fin 128 at l
  rw [stRect_emb]
  have hn : (5152 * q.val + 128 * j.val + k.val + 644 * s.val) / 644 = 8 * q.val + s.val := by omega
  have hr : (5152 * q.val + 128 * j.val + k.val + 644 * s.val) % 644 = 128 * j.val + k.val := by omega
  have hj : (128 * j.val + k.val) / 128 = j.val := by omega
  have hw : (128 * j.val + k.val) % 128 = k.val := by omega
  have hlhs : (st arg2 f2 h2 arg9 f9 arg10 f10 i k j q).2 (ix3 s h l : S8x2x128.Idx)
      = stSel arg2 f2 h2 arg9 f9 arg10 f10 i k j q (ix2 (⟨2 * s.val + h.val, by omega⟩ : Fin 16) l) := by
    show interleaveRows S8x2x128 _ _ bitcasts_S8x2x128_w16_S8x1x128_w32 (ix3 s h l) = _
    rw [interleaveRows_three (m := 8) (n := 128), shapeCast_mid_add (m := 8) (n := 128), shapeCast_mid_add (m := 8) (n := 128)]
    match h with
    | 0 => rw [if_pos rfl]; exact rowsOfParity_two (m := 8) (n := 128) 0 _ bitcasts_S16x128_w16_S8x128_w32 s l
    | 1 => rw [if_neg (by decide)]; exact rowsOfParity_two (m := 8) (n := 128) 1 _ bitcasts_S16x128_w16_S8x128_w32 s l
  rw [hlhs, stSel_apply, deq_apply]
  unfold weightsAt
  have hj5 : (5152 * q.val + 128 * j.val + k.val + 644 * s.val) % 644 / 128 < 5 := by rw [hr, hj]; exact j.isLt
  refine Eq.trans ?_ (dif_pos (show ((ix3 (⟨5152 * q.val + 128 * j.val + k.val + 644 * s.val, by omega⟩ : Fin 10304) h l : S10304x2x128.Idx) 0).val % 644 / 128 < 5 from hj5)).symm
  have ew : ∀ (n8 n8' : Fin 16) (j' : Fin 5) (w w' : Fin 128), n8.val = n8'.val → j.val = j'.val → w.val = w'.val →
      weightAt (arg9.view.read (Elt F) f9) (arg10.view.read (Elt F) f10) (arg2.view.read (Elt F) f2) (i 1) n8 j w h l
        = weightAt (arg9.view.read (Elt F) f9) (arg10.view.read (Elt F) f10) (arg2.view.read (Elt F) f2) (i 1) n8' j' w' h l := by
    intro n8 n8' j' w w' h1 h2 h3
    rw [Fin.ext h1, Fin.ext h2, Fin.ext h3]
  refine Eq.trans ?_ (ew (⟨8 * q.val + s.val, by omega⟩ : Fin 16) _ _ (⟨k.val, hk⟩ : Fin 128) _ hn.symm (by show j.val = _ % 644 / 128; rw [hr, hj]) (by show k.val = _ % 644 % 128; rw [hr, hw]))
  have e8 : (8 * q.val + s.val) / 8 = q.val := by omega
  have em : (8 * q.val + s.val) % 8 = s.val := by omega
  unfold weightAt
  simp only [e8, em]

/-- The weights hold their function at every row of the words below `n`. -/
def WeightsHold (T : S2080x2x128.Idx → F .bf16) (P : S2560x128.Idx → BitVec 32) (X : S5120.Idx → BitVec 32) (kb : Fin 4) (n : Nat) (W : S10304x2x128.Idx → F .bf16) : Prop :=
  ∀ x : S10304x2x128.Idx, (x 0).val % 644 / 128 < 5 → (x 0).val % 644 % 128 < n → W x = weightsAt T P X kb x

/-- A trip's stores take the weights to the next word. -/
theorem weightsHold_step (arg11 : Memref sig .tc .vmem S10304x2x128 .bf16) (f11 : arg11.view.ty.Contents (Elt F)) (k : Fin k0_t3_loop.trips)
    (h : WeightsHold (arg9.view.read (Elt F) f9) (arg10.view.read (Elt F) f10) (arg2.view.read (Elt F) f2) (i 1) k.val (arg11.view.read (Elt F) f11)) :
    WeightsHold (arg9.view.read (Elt F) f9) (arg10.view.read (Elt F) f10) (arg2.view.read (Elt F) f2) (i 1) (k.val + 1)
      (arg11.view.read (Elt F) (arg11.view.writes (Elt F) f11 (sts arg2 f2 h2 arg9 f9 arg10 f10 i k))) := by
  intro x hx hx'
  have hk := trips3 k
  have hx0 : (x 0).val < 10304 := (x 0).isLt
  by_cases hm : ∃ p ∈ sts arg2 f2 h2 arg9 f9 arg10 f10 i k, x ∈ p.1.set
  · refine View.read_writes_apply_of_pieces _ _ (weightsAt _ _ _ _) _ (fun p hp y => ?_) x hm
    simp only [sts, List.mem_flatMap, List.mem_map] at hp
    obtain ⟨j, -, q, -, rfl⟩ := hp
    exact st_apply arg2 f2 h2 arg9 f9 arg10 f10 i k j q y
  · have hlt : (x 0).val % 644 % 128 < k.val := by
      by_contra hge
      refine hm ⟨st arg2 f2 h2 arg9 f9 arg10 f10 i k (⟨(x 0).val % 644 / 128, hx⟩ : Fin 5) (⟨(x 0).val / 5152, by omega⟩ : Fin 2), ?_, ?_⟩
      · simp only [sts, List.mem_flatMap, List.mem_map]
        exact ⟨_, by generalize (⟨(x 0).val % 644 / 128, _⟩ : Fin 5) = j; revert j; decide, _, by generalize (⟨(x 0).val / 5152, _⟩ : Fin 2) = j; revert j; decide, rfl⟩
      · have e := stRect_emb k (⟨(x 0).val % 644 / 128, hx⟩ : Fin 5) (⟨(x 0).val / 5152, by omega⟩ : Fin 2)
          (⟨(x 0).val / 644 % 8, by omega⟩ : Fin 8) (x 1) (x 2)
        have e' : (ix3 (⟨5152 * ((x 0).val / 5152) + 128 * ((x 0).val % 644 / 128) + k.val + 644 * ((x 0).val / 644 % 8), by omega⟩ : Fin 10304) (x 1) (x 2) : S10304x2x128.Idx) = x := by
          funext a; fin_cases a
          · apply Fin.ext; show 5152 * ((x 0).val / 5152) + 128 * ((x 0).val % 644 / 128) + k.val + 644 * ((x 0).val / 644 % 8) = (x 0).val; omega
          · rfl
          · rfl
        have hm' : x ∈ (stRect k (⟨(x 0).val % 644 / 128, hx⟩ : Fin 5) (⟨(x 0).val / 5152, by omega⟩ : Fin 2)).set :=
          (congrArg (· ∈ (stRect k (⟨(x 0).val % 644 / 128, hx⟩ : Fin 5) (⟨(x 0).val / 5152, by omega⟩ : Fin 2)).set) (e.trans e')).mp (by rw [← Rect.map_emb_univ]; exact Finset.mem_map_of_mem _ (Finset.mem_univ _))
        exact hm'
    rw [View.read_writes_apply_of_forall_not_mem _ _ _ _ (fun p hp hy => hm ⟨p, hp, hy⟩)]
    exact h x hx hlt

theorem weightsHold_of (arg11 : Memref sig .tc .vmem S10304x2x128 .bf16) (f11 : arg11.view.ty.Contents (Elt F)) (k : Fin k0_t3_loop.trips)
    (L : List (View.Piece (Elt F) S10304x2x128 .bf16)) (hL : L = sts arg2 f2 h2 arg9 f9 arg10 f10 i k)
    (h : WeightsHold (arg9.view.read (Elt F) f9) (arg10.view.read (Elt F) f10) (arg2.view.read (Elt F) f2) (i 1) k.val (arg11.view.read (Elt F) f11)) :
    WeightsHold (arg9.view.read (Elt F) f9) (arg10.view.read (Elt F) f10) (arg2.view.read (Elt F) f2) (i 1) (k.val + 1)
      (arg11.view.read (Elt F) (arg11.view.writes (Elt F) f11 L)) :=
  hL ▸ weightsHold_step arg2 f2 h2 arg9 f9 arg10 f10 i arg11 f11 k h

end

/-! ## The loop -/

set_option maxHeartbeats 2000000 in
/-- The unpacking loop: before trip `k` the weights hold their function at the first `k` words. -/
@[sl_loop] def weightLoop (c : Dev nD) (i : grid0.Coords) (arg2 : Memref sig .tc .smem S5120 .i32) (harg2 : arg2.IsWhole) (arg3 : Memref sig .tc .vmem S128x2048 .i32) (harg3 : arg3.IsWhole) (arg4 : Memref sig .tc .vmem S40x2048 .f32) (harg4 : arg4.IsWhole) (arg5 : Memref sig .tc .vmem S40x2048 .f32) (harg5 : arg5.IsWhole) (arg6 : Memref sig .tc .vmem S4x192x1280 .bf16) (harg6 : arg6.IsWhole) (arg7 : Memref sig .tc .vmem S4x192x1280 .bf16) (harg7 : arg7.IsWhole) (arg8 : Memref sig .tc .vmem S192x2048 .bf16) (harg8 : arg8.IsWhole) (arg9 : Memref sig .tc .vmem S2080x2x128 .bf16) (harg9 : arg9.IsWhole) (arg10 : Memref sig .tc .vmem S2560x128 .i32) (harg10 : arg10.IsWhole) (arg11 : Memref sig .tc .vmem S10304x2x128 .bf16) (harg11 : arg11.IsWhole) (arg12 : Memref sig .tc .vmem S192x2048 .f32) (harg12 : arg12.IsWhole) (arg1 : BitVec 32)
    (f2 : Buf (Elt F) (arg2.view.loc (c : Thread nD τ))) (h2 : RowsFit (arg2.view.read (Elt F) f2))
    (f9 : Buf (Elt F) (arg9.view.loc (c : Thread nD τ))) (f10 : Buf (Elt F) (arg10.view.loc (c : Thread nD τ))) :
    LoopInvTy_k0_t3 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg1 where
  inv := fun n _ => iprop((arg2.view.loc (c : Thread nD τ) ↦[arg2.view.set]{fullShare.right} f2)
    ∗ (arg9.view.loc (c : Thread nD τ) ↦[arg9.view.set]{fullShare} f9)
    ∗ (arg10.view.loc (c : Thread nD τ) ↦[arg10.view.set]{fullShare} f10)
    ∗ ∃ f : Buf (Elt F) (arg11.view.loc (c : Thread nD τ)), ⌜0 < n → WeightsHold (arg9.view.read (Elt F) f9) (arg10.view.read (Elt F) f10) (arg2.view.read (Elt F) f2) (i 1) n (arg11.view.read (Elt F) f)⌝
      ∗ arg11.view.loc (c : Thread nD τ) ↦[arg11.view.set]{fullShare} f)
  step := fun k acc => by
    unfold k0_t3_body
    iintro ⟨H2, H9, H10, %f11, %hf11, H11⟩
    sl_exec (disch := (first | with_reducible apply chk1_of | with_reducible apply chk2_of | with_reducible apply chk3_of | with_reducible apply chk4_of | with_reducible apply chk5_of | with_reducible apply chk6_of | with_reducible apply chk7_of | with_reducible apply chk8_of | with_reducible apply chk9_of | with_reducible apply chk10_of) <;> exact h2 _)
    sl_step
    isplitl [H2]; · iexact H2
    isplitl [H9]; · iexact H9
    isplitl [H10]; · iexact H10
    iexists _; isplitr; swap; · iexact H11
    ipureintro
    intro _
    refine weightsHold_of arg2 f2 h2 arg9 f9 arg10 f10 i arg11 f11 k _ ?_ (fun x hx hlt => hf11 (by omega) x hx hlt)
    show _ = [st arg2 f2 h2 arg9 f9 arg10 f10 i k 4 1, st arg2 f2 h2 arg9 f9 arg10 f10 i k 4 0, st arg2 f2 h2 arg9 f9 arg10 f10 i k 3 1, st arg2 f2 h2 arg9 f9 arg10 f10 i k 3 0, st arg2 f2 h2 arg9 f9 arg10 f10 i k 2 1, st arg2 f2 h2 arg9 f9 arg10 f10 i k 2 0, st arg2 f2 h2 arg9 f9 arg10 f10 i k 1 1, st arg2 f2 h2 arg9 f9 arg10 f10 i k 1 0, st arg2 f2 h2 arg9 f9 arg10 f10 i k 0 1, st arg2 f2 h2 arg9 f9 arg10 f10 i k 0 0]
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    as_aux_lemma => rfl

end Cert.Proof.KernelIdeal.Value

end
-- ==== Proof.Point.lean ====
/-
  `KernelIdeal`: what the body computes at one grid point: the tests that choose its branches, the products of a block, and the
  accumulator and the output block it leaves, as contents and as the stores that write them.
-/
module

public import proofs.«01_k».proof.Proof.Gen.KernelIdeal.Loops
public import proofs.«01_k».proof.Proof.Layout
public import proofs.«01_k».proof.Proof.Unpack
public import Idealize.ShloMosaic.Lib.Writes
public import Idealize.ShloMosaic.Lib.Tactic

@[expose] public section

set_option maxRecDepth 16384

noncomputable section

namespace Cert.Proof.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx Cert.Proof.Layout

variable {F : FTy → Type} [FloatOps F]

local notation "𝕄" => MT nD τ sig Unit (Elt F) ℕ (UR sig nD τ) ℕ

theorem count1 : Scf.trips k0_t1_loop.lb k0_t1_loop.ub k0_t1_loop.st = 5 := by decide
theorem count2 : Scf.trips k0_t2_loop.lb k0_t2_loop.ub k0_t2_loop.st = 16 := by decide
theorem count3 : Scf.trips k0_t3_loop.lb k0_t3_loop.ub k0_t3_loop.st = 128 := by decide

/-! ## Before the first trip a loop's invariant says nothing -/

/-- Before the first group the tables hold nothing in particular. -/
@[simp] theorem tabHolds_zero (S Z : S40x2048.Idx → F .f32) (T : S2080x2x128.Idx → F .bf16) : TabHolds S Z 0 T :=
  fun x h _ => absurd h (by omega)
/-- Before the first trip the re-laid words hold nothing in particular. -/
@[simp] theorem relHolds_zero (X : S128x2048.Idx → BitVec 32) (P : S2560x128.Idx → BitVec 32) : RelHolds X 0 P :=
  fun y h _ => absurd h (by omega)
/-- Before the first word the weights hold nothing in particular. -/
@[simp] theorem weightsHold_zero (c : Dev nD) (i : grid0.Coords) (arg2 : Memref sig .tc .smem S5120 .i32) (arg9 : Memref sig .tc .vmem S2080x2x128 .bf16) (arg10 : Memref sig .tc .vmem S2560x128 .i32) (arg11 : Memref sig .tc .vmem S10304x2x128 .bf16)
    (f2 : Buf (Elt F) (arg2.view.loc (c : Thread nD τ))) (f9 : Buf (Elt F) (arg9.view.loc (c : Thread nD τ))) (f10 : Buf (Elt F) (arg10.view.loc (c : Thread nD τ))) (f11 : Buf (Elt F) (arg11.view.loc (c : Thread nD τ))) :
    WeightsHold (arg9.view.read (Elt F) f9) (arg10.view.read (Elt F) f10) (arg2.view.read (Elt F) f2) (i 1) 0 (arg11.view.read (Elt F) f11) :=
  fun x _ h => absurd h (by omega)

/-- The test for the first step of the reduction. -/
abbrev isFirst (v : BitVec 32) : BitVec 1 := Scalar.cmpi .ne (Scalar.extui (Scalar.cmpi .eq v 0#32) : BitVec 32) 0#32
/-- The test for a later step of the reduction. -/
abbrev isLater (v : BitVec 32) : BitVec 1 := Scalar.cmpi .ne (Scalar.extui (Scalar.cmpi .sgt v 0#32) : BitVec 32) 0#32
/-- The test for the last step of the reduction. -/
abbrev isLast (v : BitVec 32) : BitVec 1 := Scalar.cmpi .ne (Scalar.extui (Scalar.cmpi .eq v 3#32) : BitVec 32) 0#32

/-- The three tests, by the reduction coordinate. -/
theorem branches : ∀ j : Fin 4,
    (isFirst (BitVec.ofNat 32 j.val) = 1#1 ↔ j.val = 0) ∧ (isLater (BitVec.ofNat 32 j.val) = 1#1 ↔ j.val ≠ 0)
      ∧ (isLast (BitVec.ofNat 32 j.val) = 1#1 ↔ j.val = 3) := by decide

/-! ## The accumulator after one point -/

theorem wInb (o : Nat) (h : o + 640 ≤ 10304) : ∀ a, (![o, 0, 0] : Fin 3 → Nat) a + S640x2x128.size a ≤ S10304x2x128.size a := by
  intro a; fin_cases a <;> simp [S640x2x128, S10304x2x128, h]

/-- The 640 rows of the weights from row `o`. -/
def wRows (W : S10304x2x128.Idx → F .bf16) (o : Nat) (h : o + 640 ≤ 10304) : Vec F S640x2x128 .bf16 :=
  fun x => W ((Rect.unit (s := S10304x2x128) ![o, 0, 0] S640x2x128.size (wInb o h)).toLoadRect.idx x)

/-- The block of the activations at this point. -/
def xRows (X : S4x192x1280.Idx → F .bf16) (i : grid0.Coords) : Vec F S1x192x1280 .bf16 :=
  fun x => X ((Rect.unit (s := S4x192x1280) (k0_off68 i) S1x192x1280.size (k0_off68_inb i)).toLoadRect.idx x)

/-- The activations that a chunk of columns meets: the first layout in the left half of a tile, the second in the right. -/
def xSide (c : Fin 8) (X6 X7 : S4x192x1280.Idx → F .bf16) : S4x192x1280.Idx → F .bf16 :=
  (![X6, X6, X6, X6, X7, X7, X7, X7] : Fin 8 → S4x192x1280.Idx → F .bf16) c

/-- The product of one chunk of 256 columns at this point. -/
def chunk (i : grid0.Coords) (X6 X7 : S4x192x1280.Idx → F .bf16) (W : S10304x2x128.Idx → F .bf16) (c : Fin 8) : FVec F S192x256 .f32 :=
  k0_pay213 (wRows W (1288 * c.val) (by omega)) (wRows W (1288 * c.val + 644) (by omega)) (xRows (xSide c X6 X7) i)

/-- The chunks' product at a column of the tile. -/
def prodAt (i : grid0.Coords) (X6 X7 : S4x192x1280.Idx → F .bf16) (W : S10304x2x128.Idx → F .bf16) (x : S192x2048.Idx) : F .f32 :=
  chunk i X6 X7 W (⟨(x 1).val / 256, Nat.div_lt_of_lt_mul (x 1).isLt⟩ : Fin 8) (ix2 (⟨(x 0).val, (x 0).isLt⟩ : Fin 192) (⟨(x 1).val % 256, Nat.mod_lt _ (by decide)⟩ : Fin 256))

/-- The accumulator after a point: the products at the first block, the products added to it at a later one. -/
def accNext (i : grid0.Coords) (X6 X7 : S4x192x1280.Idx → F .bf16) (W : S10304x2x128.Idx → F .bf16) (A : S192x2048.Idx → F .f32) (x : S192x2048.Idx) : F .f32 :=
  if (i 1).val = 0 then prodAt i X6 X7 W x else FloatOps.addf (A x) (prodAt i X6 X7 W x)

/-- The output block after a point: the accumulator rounded at the last block, unchanged before it. -/
def outNext (i : grid0.Coords) (O : S192x2048.Idx → F .bf16) (A : S192x2048.Idx → F .f32) : S192x2048.Idx → F .bf16 :=
  if (i 1).val = 3 then k0_pay6 A else O

theorem accNext_first (i : grid0.Coords) (X6 X7 : S4x192x1280.Idx → F .bf16) (W : S10304x2x128.Idx → F .bf16) (A : S192x2048.Idx → F .f32) (h : (i 1).val = 0) :
    accNext i X6 X7 W A = prodAt i X6 X7 W := funext fun x => if_pos h
theorem accNext_later (i : grid0.Coords) (X6 X7 : S4x192x1280.Idx → F .bf16) (W : S10304x2x128.Idx → F .bf16) (A : S192x2048.Idx → F .f32) (h : ¬ (i 1).val = 0) :
    accNext i X6 X7 W A = fun x => FloatOps.addf (A x) (prodAt i X6 X7 W x) := funext fun x => if_neg h
theorem outNext_last (i : grid0.Coords) (O : S192x2048.Idx → F .bf16) (A : S192x2048.Idx → F .f32) (h : (i 1).val = 3) : outNext i O A = k0_pay6 A := if_pos h
theorem outNext_early (i : grid0.Coords) (O : S192x2048.Idx → F .bf16) (A : S192x2048.Idx → F .f32) (h : ¬ (i 1).val = 3) : outNext i O A = O := if_neg h

theorem aInb (c : Fin 8) : ∀ a, (![0, 256 * c.val] : Fin 2 → Nat) a + S192x256.size a ≤ S192x2048.size a := by
  intro a; fin_cases a
  · exact Nat.le_refl _
  · show 256 * c.val + 256 ≤ 2048; omega

section
variable (arg12 : Memref sig .tc .vmem S192x2048 .f32) (f12 : arg12.view.ty.Contents (Elt F))
  (arg11 : Memref sig .tc .vmem S10304x2x128 .bf16) (f11 : arg11.view.ty.Contents (Elt F))
  (arg6 : Memref sig .tc .vmem S4x192x1280 .bf16) (f6 : arg6.view.ty.Contents (Elt F))
  (arg7 : Memref sig .tc .vmem S4x192x1280 .bf16) (f7 : arg7.view.ty.Contents (Elt F)) (i : grid0.Coords)

/-- The columns of a chunk. -/
def accRect (c : Fin 8) : Rect S192x2048 := Rect.unit ![0, 256 * c.val] S192x256.size (aInb c)

/-- What the accumulator holds at a chunk's columns. -/
def accOld (c : Fin 8) : FVec F S192x256 .f32 := arg12.view.readAt (Elt F) (accRect c).toLoadRect f12

/-- The store of a chunk at the first block. -/
def acc0 (c : Fin 8) : View.Piece (Elt F) S192x2048 .f32 :=
  ⟨accRect c, shapeCast S192x256 (chunk i (arg6.view.read (Elt F) f6) (arg7.view.read (Elt F) f7) (arg11.view.read (Elt F) f11) c) shapeCasts_S192x256_S192x256⟩
/-- The store of a chunk at a later block. -/
def accN (c : Fin 8) : View.Piece (Elt F) S192x2048 .f32 :=
  ⟨accRect c, shapeCast S192x256 (addf (accOld arg12 f12 c) (chunk i (arg6.view.read (Elt F) f6) (arg7.view.read (Elt F) f7) (arg11.view.read (Elt F) f11) c)) shapeCasts_S192x256_S192x256⟩

theorem accRect_emb (c : Fin 8) (m : Fin 192) (n : Fin 256) : (accRect c).emb (ix2 m n) = ix2 m (⟨256 * c.val + n.val, by omega⟩ : Fin 2048) := by
  funext a
  fin_cases a <;> apply Fin.ext
  · show 0 + 1 * m.val = m.val; omega
  · show 256 * c.val + 1 * n.val = 256 * c.val + n.val; omega

/-- The eight stores of a piece family over the chunks leave, at each column, the family's value there. -/
theorem accs_read (P : Fin 8 → S192x256.Idx → F .f32) (v : S192x2048.Idx → F .f32)
    (hv : ∀ (c : Fin 8) (m : Fin 192) (n : Fin 256), P c (ix2 m n) = v (ix2 m (⟨256 * c.val + n.val, by omega⟩ : Fin 2048))) :
    arg12.view.read (Elt F) (arg12.view.writes (Elt F) f12 ([7, 6, 5, 4, 3, 2, 1, 0].map fun c : Fin 8 => (⟨accRect c, P c⟩ : View.Piece (Elt F) S192x2048 .f32))) = v := by
  funext x
  refine View.read_writes_apply_of_pieces arg12.view f12 v _ ?_ x ?_
  · intro p hp y
    obtain ⟨c, -, rfl⟩ := List.mem_map.mp hp
    have e : y = ix2 (y 0) (y 1) := eq_ix2 y
    rw [e]
    exact (hv c (y 0) (y 1)).trans (congrArg v (accRect_emb c (y 0) (y 1)).symm)
  · refine ⟨⟨accRect (⟨(x 1).val / 256, Nat.div_lt_of_lt_mul (x 1).isLt⟩ : Fin 8), P _⟩, List.mem_map.mpr ⟨(⟨(x 1).val / 256, Nat.div_lt_of_lt_mul (x 1).isLt⟩ : Fin 8), ?_, rfl⟩, ?_⟩
    · generalize (⟨(x 1).val / 256, Nat.div_lt_of_lt_mul (x 1).isLt⟩ : Fin 8) = c
      revert c; decide
    · have e := accRect_emb (⟨(x 1).val / 256, Nat.div_lt_of_lt_mul (x 1).isLt⟩ : Fin 8) (⟨(x 0).val, (x 0).isLt⟩ : Fin 192) (⟨(x 1).val % 256, Nat.mod_lt _ (by decide)⟩ : Fin 256)
      have e' : ix2 (⟨(x 0).val, (x 0).isLt⟩ : Fin 192) (⟨256 * ((x 1).val / 256) + (x 1).val % 256, by have := (x 1).isLt; have h : S192x2048.size 1 = 2048 := rfl; omega⟩ : Fin 2048) = x := by
        funext a; fin_cases a
        · rfl
        · apply Fin.ext; show 256 * ((x 1).val / 256) + (x 1).val % 256 = (x 1).val; omega
      exact (congrArg (· ∈ (accRect (⟨(x 1).val / 256, Nat.div_lt_of_lt_mul (x 1).isLt⟩ : Fin 8)).set) (e.trans e')).mp
        (by rw [← Rect.map_emb_univ]; exact Finset.mem_map_of_mem _ (Finset.mem_univ _))

/-- The chunks' product at a column given by its chunk. -/
theorem prodAt_mk (X6 X7 : S4x192x1280.Idx → F .bf16) (W : S10304x2x128.Idx → F .bf16) (c : Fin 8) (m : Fin 192) (n : Fin 256) :
    prodAt i X6 X7 W (ix2 m (⟨256 * c.val + n.val, by omega⟩ : Fin 2048)) = chunk i X6 X7 W c (ix2 m n) := by
  have e1 : (⟨(256 * c.val + n.val) / 256, by omega⟩ : Fin 8) = c := Fin.ext (by show (256 * c.val + n.val) / 256 = c.val; omega)
  have e2 : (⟨(256 * c.val + n.val) % 256, Nat.mod_lt _ (by decide)⟩ : Fin 256) = n := Fin.ext (by show (256 * c.val + n.val) % 256 = n.val; omega)
  show chunk i X6 X7 W (⟨(256 * c.val + n.val) / 256, by omega⟩ : Fin 8) (ix2 m (⟨(256 * c.val + n.val) % 256, Nat.mod_lt _ (by decide)⟩ : Fin 256)) = _
  rw [e1, e2]

/-- The accumulator after the stores of the first block. -/
theorem accs0_read (L : List (View.Piece (Elt F) S192x2048 .f32)) (hL : L = [7, 6, 5, 4, 3, 2, 1, 0].map (acc0 arg11 f11 arg6 f6 arg7 f7 i)) :
    arg12.view.read (Elt F) (arg12.view.writes (Elt F) f12 L) = prodAt i (arg6.view.read (Elt F) f6) (arg7.view.read (Elt F) f7) (arg11.view.read (Elt F) f11) := by
  rw [hL]
  refine accs_read arg12 f12 (fun c => shapeCast S192x256 (chunk i (arg6.view.read (Elt F) f6) (arg7.view.read (Elt F) f7) (arg11.view.read (Elt F) f11) c) shapeCasts_S192x256_S192x256) _ ?_
  intro c m n
  rw [shapeCast_same]
  exact (prodAt_mk i _ _ _ c m n).symm

/-- The accumulator after the stores of a later block. -/
theorem accsN_read (L : List (View.Piece (Elt F) S192x2048 .f32)) (hL : L = [7, 6, 5, 4, 3, 2, 1, 0].map (accN arg12 f12 arg11 f11 arg6 f6 arg7 f7 i)) :
    arg12.view.read (Elt F) (arg12.view.writes (Elt F) f12 L)
      = fun x => FloatOps.addf (arg12.view.read (Elt F) f12 x) (prodAt i (arg6.view.read (Elt F) f6) (arg7.view.read (Elt F) f7) (arg11.view.read (Elt F) f11) x) := by
  rw [hL]
  refine accs_read arg12 f12 (fun c => shapeCast S192x256 (addf (accOld arg12 f12 c) (chunk i (arg6.view.read (Elt F) f6) (arg7.view.read (Elt F) f7) (arg11.view.read (Elt F) f11) c)) shapeCasts_S192x256_S192x256) _ ?_
  intro c m n
  rw [shapeCast_same]
  show FloatOps.addf (arg12.view.read (Elt F) f12 ((accRect c).emb (ix2 m n))) (chunk i _ _ _ c (ix2 m n)) = FloatOps.addf _ _
  rw [accRect_emb, prodAt_mk]

theorem oInb : ∀ a, (![0, 0] : Fin 2 → Nat) a + S192x2048.size a ≤ S192x2048.size a := by
  intro a; fin_cases a <;> exact Nat.le_refl _

/-- The whole output block as a rectangle of itself. -/
def outRect : Rect S192x2048 := Rect.unit ![0, 0] S192x2048.size oInb

theorem outRect_emb (x : S192x2048.Idx) : outRect.emb x = x := by
  funext a
  fin_cases a <;> apply Fin.ext
  · show 0 + 1 * (x 0).val = (x 0).val; omega
  · show 0 + 1 * (x 1).val = (x 1).val; omega

/-- The accumulator loaded back whole after the stores of a later block. -/
theorem accsN_cov (L : List (View.Piece (Elt F) S192x2048 .f32)) (hL : L = [7, 6, 5, 4, 3, 2, 1, 0].map (accN arg12 f12 arg11 f11 arg6 f6 arg7 f7 i)) :
    arg12.view.readCov L outRect.toLoadRect
      = fun x => FloatOps.addf (arg12.view.read (Elt F) f12 x) (prodAt i (arg6.view.read (Elt F) f6) (arg7.view.read (Elt F) f7) (arg11.view.read (Elt F) f11) x) := by
  rw [hL]
  funext y
  refine (congrArg (arg12.view.read (Elt F) _) (outRect_emb y)).trans ?_
  refine congrFun (accs_read arg12 arg12.view.junk (fun c => shapeCast S192x256 (addf (accOld arg12 f12 c) (chunk i (arg6.view.read (Elt F) f6) (arg7.view.read (Elt F) f7) (arg11.view.read (Elt F) f11) c)) shapeCasts_S192x256_S192x256)
    (fun x => FloatOps.addf (arg12.view.read (Elt F) f12 x) (prodAt i (arg6.view.read (Elt F) f6) (arg7.view.read (Elt F) f7) (arg11.view.read (Elt F) f11) x)) ?_) y
  intro c m n
  rw [shapeCast_same]
  show FloatOps.addf (arg12.view.read (Elt F) f12 ((accRect c).emb (ix2 m n))) (chunk i _ _ _ c (ix2 m n)) = FloatOps.addf _ _
  rw [accRect_emb, prodAt_mk]

/-- The output block after the last block's store. -/
theorem out_read (arg8 : Memref sig .tc .vmem S192x2048 .bf16) (f8 : arg8.view.ty.Contents (Elt F)) (V : S192x2048.Idx → F .f32)
    (hV : V = fun x => FloatOps.addf (arg12.view.read (Elt F) f12 x) (prodAt i (arg6.view.read (Elt F) f6) (arg7.view.read (Elt F) f7) (arg11.view.read (Elt F) f11) x)) :
    arg8.view.read (Elt F) (arg8.view.writes (Elt F) f8 [⟨outRect, k0_pay6 V⟩])
      = k0_pay6 fun x => FloatOps.addf (arg12.view.read (Elt F) f12 x) (prodAt i (arg6.view.read (Elt F) f6) (arg7.view.read (Elt F) f7) (arg11.view.read (Elt F) f11) x) := by
  rw [hV]
  funext x
  exact (congrArg (arg8.view.read (Elt F) _) (outRect_emb x).symm).trans (View.read_writes_cons_emb arg8.view f8 outRect _ [] x)

end

end Cert.Proof.KernelIdeal.Value

end
-- ==== Proof.BodyFirst.lean ====
/-
  `KernelIdeal`: the body at the first block of a tile, with what each buffer holds after it.
-/
module

public import proofs.«01_k».proof.Proof.Gen.KernelIdeal.Loops
public import proofs.«01_k».proof.Proof.Layout
public import proofs.«01_k».proof.Proof.Unpack
public import proofs.«01_k».proof.Proof.Point
public import Idealize.ShloMosaic.Lib.Writes
public import Idealize.ShloMosaic.Lib.Tactic

@[expose] public section

set_option maxRecDepth 16384

noncomputable section

namespace Cert.Proof.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx Cert.Proof.Layout

variable {F : FTy → Type} [FloatOps F]

local notation "𝕄" => MT nD τ sig Unit (Elt F) ℕ (UR sig nD τ) ℕ

set_option maxHeartbeats 4000000 in
set_option pp.maxSteps 300 in
/-- The body at the first block: the group tables written, the accumulator set to the block's products. -/
theorem kernelRun_first (c : Dev nD) (i : grid0.Coords) (arg2 : Memref sig .tc .smem S5120 .i32) (harg2 : arg2.IsWhole) (arg3 : Memref sig .tc .vmem S128x2048 .i32) (harg3 : arg3.IsWhole) (arg4 : Memref sig .tc .vmem S40x2048 .f32) (harg4 : arg4.IsWhole) (arg5 : Memref sig .tc .vmem S40x2048 .f32) (harg5 : arg5.IsWhole) (arg6 : Memref sig .tc .vmem S4x192x1280 .bf16) (harg6 : arg6.IsWhole) (arg7 : Memref sig .tc .vmem S4x192x1280 .bf16) (harg7 : arg7.IsWhole) (arg8 : Memref sig .tc .vmem S192x2048 .bf16) (harg8 : arg8.IsWhole) (arg9 : Memref sig .tc .vmem S2080x2x128 .bf16) (harg9 : arg9.IsWhole) (arg10 : Memref sig .tc .vmem S2560x128 .i32) (harg10 : arg10.IsWhole) (arg11 : Memref sig .tc .vmem S10304x2x128 .bf16) (harg11 : arg11.IsWhole) (arg12 : Memref sig .tc .vmem S192x2048 .f32) (harg12 : arg12.IsWhole)

    (h0 : (i 1).val = 0)
    (X2 : S5120.Idx → BitVec 32) (hX2 : RowsFit X2) (X3 : S128x2048.Idx → BitVec 32) (X4 : S40x2048.Idx → F .f32) (X5 : S40x2048.Idx → F .f32)
    (X6 : S4x192x1280.Idx → F .bf16) (X7 : S4x192x1280.Idx → F .bf16) (X8 : S192x2048.Idx → F .bf16) (X9 : S2080x2x128.Idx → F .bf16)
    (X12 : S192x2048.Idx → F .f32) (K : PUnit → sProp 𝕄) :
    iprop(owns (c : Thread nD τ) arg2 fullShare.right X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg8 fullShare X8
        ∗ owns (c : Thread nD τ) arg9 fullShare X9
        ∗ (∃ d, owns (c : Thread nD τ) arg10 fullShare d)
        ∗ (∃ d, owns (c : Thread nD τ) arg11 fullShare d)
        ∗ owns (c : Thread nD τ) arg12 fullShare X12
        ∗ (iprop(∃ (T : S2080x2x128.Idx → F .bf16) (P : S2560x128.Idx → BitVec 32) (W : S10304x2x128.Idx → F .bf16),
          ⌜RelHolds X3 16 P ∧ WeightsHold T P X2 (i 1) 128 W ∧ ((i 1).val = 0 → TabHolds X4 X5 5 T) ∧ (¬ (i 1).val = 0 → T = X9)⌝
        ∗ owns (c : Thread nD τ) arg2 fullShare.right X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg9 fullShare T
        ∗ owns (c : Thread nD τ) arg10 fullShare P
        ∗ owns (c : Thread nD τ) arg11 fullShare W
        ∗ owns (c : Thread nD τ) arg12 fullShare (accNext i X6 X7 W X12)
        ∗ owns (c : Thread nD τ) arg8 fullShare (outNext i X8 (accNext i X6 X7 W X12))) -∗ K ⟨⟩))
      ⊢ wp frame (wpE (defs₀ (F := F)) 𝒱₀ c none) Set.univ (cc0__body i arg2 harg2 arg3 harg3 arg4 harg4 arg5 harg5 arg6 harg6 arg7 harg7 arg8 harg8 arg9 harg9 arg10 harg10 arg11 harg11 arg12 harg12) K := by
  have hb := branches (i 1)
  simp only [cc0__body_eq_skeleton]; unfold cc0__body_skel
  unfold owns
  have e1 : k0_cond1 i = 1#1 := hb.1.mpr h0
  have e2 : isFirst (BitVec.ofNat 32 (i 1).val) = 1#1 := hb.1.mpr h0
  have e3 : ¬ isLater (BitVec.ofNat 32 (i 1).val) = 1#1 := fun h => hb.2.1.mp h h0
  have e4 : ¬ k0_cond18 i = 1#1 := fun h => absurd (h0.symm.trans (hb.2.2.mp h)) (by decide)
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, Hk⟩
  subst hf2; subst hf3; subst hf4; subst hf5; subst hf6; subst hf7; subst hf8; subst hf9; subst hf12
  have z1 : TabHolds (arg4.view.read (Elt F) f4) (arg5.view.read (Elt F) f5) 0 (arg9.view.read (Elt F) f9) := tabHolds_zero _ _ _
  have z2 : RelHolds (arg3.view.read (Elt F) f3) 0 (arg10.view.read (Elt F) f10) := relHolds_zero _ _
  sl_exec (disch := first | sl_exact e1 | sl_exact e2 | sl_exact e3 | sl_exact e4)
  sl_step
  iapply Hk
  iexists (arg9.view.read (Elt F) fL0), (arg10.view.read (Elt F) fL1), (arg11.view.read (Elt F) fL2)
  isplitr
  · ipureintro
    exact ⟨count2 ▸ hL5, count3 ▸ hL10 (by decide), fun _ => count1 ▸ hL2, fun h => absurd h0 h⟩
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro
    refine (accs0_read arg12 f12 arg11 fL2 arg6 f6 arg7 f7 i _ ?_).trans (accNext_first i _ _ _ _ h0).symm
    show _ = [acc0 arg11 fL2 arg6 f6 arg7 f7 i 7, acc0 arg11 fL2 arg6 f6 arg7 f7 i 6, acc0 arg11 fL2 arg6 f6 arg7 f7 i 5, acc0 arg11 fL2 arg6 f6 arg7 f7 i 4, acc0 arg11 fL2 arg6 f6 arg7 f7 i 3, acc0 arg11 fL2 arg6 f6 arg7 f7 i 2, acc0 arg11 fL2 arg6 f6 arg7 f7 i 1, acc0 arg11 fL2 arg6 f6 arg7 f7 i 0]
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    as_aux_lemma => rfl
  iexists _; isplitr; swap; · iexact H8
  ipureintro
  exact (outNext_early i _ _ (fun h => absurd (h0.symm.trans h) (by decide))).symm
end Cert.Proof.KernelIdeal.Value

end
-- ==== Proof.BodyMiddle.lean ====
/-
  `KernelIdeal`: the body at a middle block of a tile, with what each buffer holds after it.
-/
module

public import proofs.«01_k».proof.Proof.Gen.KernelIdeal.Loops
public import proofs.«01_k».proof.Proof.Layout
public import proofs.«01_k».proof.Proof.Unpack
public import proofs.«01_k».proof.Proof.Point
public import Idealize.ShloMosaic.Lib.Writes
public import Idealize.ShloMosaic.Lib.Tactic

@[expose] public section

set_option maxRecDepth 16384

noncomputable section

namespace Cert.Proof.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx Cert.Proof.Layout

variable {F : FTy → Type} [FloatOps F]

local notation "𝕄" => MT nD τ sig Unit (Elt F) ℕ (UR sig nD τ) ℕ

set_option maxHeartbeats 4000000 in
set_option pp.maxSteps 300 in
/-- The body at a middle block: the tables kept, the accumulator advanced. -/
theorem kernelRun_middle (c : Dev nD) (i : grid0.Coords) (arg2 : Memref sig .tc .smem S5120 .i32) (harg2 : arg2.IsWhole) (arg3 : Memref sig .tc .vmem S128x2048 .i32) (harg3 : arg3.IsWhole) (arg4 : Memref sig .tc .vmem S40x2048 .f32) (harg4 : arg4.IsWhole) (arg5 : Memref sig .tc .vmem S40x2048 .f32) (harg5 : arg5.IsWhole) (arg6 : Memref sig .tc .vmem S4x192x1280 .bf16) (harg6 : arg6.IsWhole) (arg7 : Memref sig .tc .vmem S4x192x1280 .bf16) (harg7 : arg7.IsWhole) (arg8 : Memref sig .tc .vmem S192x2048 .bf16) (harg8 : arg8.IsWhole) (arg9 : Memref sig .tc .vmem S2080x2x128 .bf16) (harg9 : arg9.IsWhole) (arg10 : Memref sig .tc .vmem S2560x128 .i32) (harg10 : arg10.IsWhole) (arg11 : Memref sig .tc .vmem S10304x2x128 .bf16) (harg11 : arg11.IsWhole) (arg12 : Memref sig .tc .vmem S192x2048 .f32) (harg12 : arg12.IsWhole)

    (h0 : ¬ (i 1).val = 0) (h3 : ¬ (i 1).val = 3)
    (X2 : S5120.Idx → BitVec 32) (hX2 : RowsFit X2) (X3 : S128x2048.Idx → BitVec 32) (X4 : S40x2048.Idx → F .f32) (X5 : S40x2048.Idx → F .f32)
    (X6 : S4x192x1280.Idx → F .bf16) (X7 : S4x192x1280.Idx → F .bf16) (X8 : S192x2048.Idx → F .bf16) (X9 : S2080x2x128.Idx → F .bf16)
    (X12 : S192x2048.Idx → F .f32) (K : PUnit → sProp 𝕄) :
    iprop(owns (c : Thread nD τ) arg2 fullShare.right X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg8 fullShare X8
        ∗ owns (c : Thread nD τ) arg9 fullShare X9
        ∗ (∃ d, owns (c : Thread nD τ) arg10 fullShare d)
        ∗ (∃ d, owns (c : Thread nD τ) arg11 fullShare d)
        ∗ owns (c : Thread nD τ) arg12 fullShare X12
        ∗ (iprop(∃ (T : S2080x2x128.Idx → F .bf16) (P : S2560x128.Idx → BitVec 32) (W : S10304x2x128.Idx → F .bf16),
          ⌜RelHolds X3 16 P ∧ WeightsHold T P X2 (i 1) 128 W ∧ ((i 1).val = 0 → TabHolds X4 X5 5 T) ∧ (¬ (i 1).val = 0 → T = X9)⌝
        ∗ owns (c : Thread nD τ) arg2 fullShare.right X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg9 fullShare T
        ∗ owns (c : Thread nD τ) arg10 fullShare P
        ∗ owns (c : Thread nD τ) arg11 fullShare W
        ∗ owns (c : Thread nD τ) arg12 fullShare (accNext i X6 X7 W X12)
        ∗ owns (c : Thread nD τ) arg8 fullShare (outNext i X8 (accNext i X6 X7 W X12))) -∗ K ⟨⟩))
      ⊢ wp frame (wpE (defs₀ (F := F)) 𝒱₀ c none) Set.univ (cc0__body i arg2 harg2 arg3 harg3 arg4 harg4 arg5 harg5 arg6 harg6 arg7 harg7 arg8 harg8 arg9 harg9 arg10 harg10 arg11 harg11 arg12 harg12) K := by
  have hb := branches (i 1)
  simp only [cc0__body_eq_skeleton]; unfold cc0__body_skel
  unfold owns
  have e1 : ¬ k0_cond1 i = 1#1 := fun h => h0 (hb.1.mp h)
  have e2 : ¬ isFirst (BitVec.ofNat 32 (i 1).val) = 1#1 := fun h => h0 (hb.1.mp h)
  have e3 : isLater (BitVec.ofNat 32 (i 1).val) = 1#1 := hb.2.1.mpr h0
  have e4 : ¬ k0_cond18 i = 1#1 := fun h => h3 (hb.2.2.mp h)
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, Hk⟩
  subst hf2; subst hf3; subst hf4; subst hf5; subst hf6; subst hf7; subst hf8; subst hf9; subst hf12
  have z2 : RelHolds (arg3.view.read (Elt F) f3) 0 (arg10.view.read (Elt F) f10) := relHolds_zero _ _
  sl_exec (disch := first | sl_exact e1 | sl_exact e2 | sl_exact e3 | sl_exact e4)
  sl_step
  iapply Hk
  iexists (arg9.view.read (Elt F) f9), (arg10.view.read (Elt F) fL0), (arg11.view.read (Elt F) fL1)
  isplitr
  · ipureintro
    exact ⟨count2 ▸ hL1, count3 ▸ hL6 (by decide), fun h => absurd h h0, fun _ => rfl⟩
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro
    refine (accsN_read arg12 f12 arg11 fL1 arg6 f6 arg7 f7 i _ ?_).trans (accNext_later i _ _ _ _ h0).symm
    show _ = [accN arg12 f12 arg11 fL1 arg6 f6 arg7 f7 i 7, accN arg12 f12 arg11 fL1 arg6 f6 arg7 f7 i 6, accN arg12 f12 arg11 fL1 arg6 f6 arg7 f7 i 5, accN arg12 f12 arg11 fL1 arg6 f6 arg7 f7 i 4, accN arg12 f12 arg11 fL1 arg6 f6 arg7 f7 i 3, accN arg12 f12 arg11 fL1 arg6 f6 arg7 f7 i 2, accN arg12 f12 arg11 fL1 arg6 f6 arg7 f7 i 1, accN arg12 f12 arg11 fL1 arg6 f6 arg7 f7 i 0]
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    as_aux_lemma => rfl
  iexists _; isplitr; swap; · iexact H8
  ipureintro
  exact (outNext_early i _ _ h3).symm

end Cert.Proof.KernelIdeal.Value

end
-- ==== Proof.BodyLast.lean ====
/-
  `KernelIdeal`: the body at the last block of a tile, with what each buffer holds after it.
-/
module

public import proofs.«01_k».proof.Proof.Gen.KernelIdeal.Loops
public import proofs.«01_k».proof.Proof.Layout
public import proofs.«01_k».proof.Proof.Unpack
public import proofs.«01_k».proof.Proof.Point
public import Idealize.ShloMosaic.Lib.Writes
public import Idealize.ShloMosaic.Lib.Tactic

@[expose] public section

set_option maxRecDepth 16384

noncomputable section

namespace Cert.Proof.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx Cert.Proof.Layout

variable {F : FTy → Type} [FloatOps F]

local notation "𝕄" => MT nD τ sig Unit (Elt F) ℕ (UR sig nD τ) ℕ

set_option maxHeartbeats 4000000 in
set_option pp.maxSteps 300 in
/-- The body at the last block: the tables kept, the accumulator advanced, the output block written. -/
theorem kernelRun_last (c : Dev nD) (i : grid0.Coords) (arg2 : Memref sig .tc .smem S5120 .i32) (harg2 : arg2.IsWhole) (arg3 : Memref sig .tc .vmem S128x2048 .i32) (harg3 : arg3.IsWhole) (arg4 : Memref sig .tc .vmem S40x2048 .f32) (harg4 : arg4.IsWhole) (arg5 : Memref sig .tc .vmem S40x2048 .f32) (harg5 : arg5.IsWhole) (arg6 : Memref sig .tc .vmem S4x192x1280 .bf16) (harg6 : arg6.IsWhole) (arg7 : Memref sig .tc .vmem S4x192x1280 .bf16) (harg7 : arg7.IsWhole) (arg8 : Memref sig .tc .vmem S192x2048 .bf16) (harg8 : arg8.IsWhole) (arg9 : Memref sig .tc .vmem S2080x2x128 .bf16) (harg9 : arg9.IsWhole) (arg10 : Memref sig .tc .vmem S2560x128 .i32) (harg10 : arg10.IsWhole) (arg11 : Memref sig .tc .vmem S10304x2x128 .bf16) (harg11 : arg11.IsWhole) (arg12 : Memref sig .tc .vmem S192x2048 .f32) (harg12 : arg12.IsWhole)

    (h0 : ¬ (i 1).val = 0) (h3 : (i 1).val = 3)
    (X2 : S5120.Idx → BitVec 32) (hX2 : RowsFit X2) (X3 : S128x2048.Idx → BitVec 32) (X4 : S40x2048.Idx → F .f32) (X5 : S40x2048.Idx → F .f32)
    (X6 : S4x192x1280.Idx → F .bf16) (X7 : S4x192x1280.Idx → F .bf16) (X8 : S192x2048.Idx → F .bf16) (X9 : S2080x2x128.Idx → F .bf16)
    (X12 : S192x2048.Idx → F .f32) (K : PUnit → sProp 𝕄) :
    iprop(owns (c : Thread nD τ) arg2 fullShare.right X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg8 fullShare X8
        ∗ owns (c : Thread nD τ) arg9 fullShare X9
        ∗ (∃ d, owns (c : Thread nD τ) arg10 fullShare d)
        ∗ (∃ d, owns (c : Thread nD τ) arg11 fullShare d)
        ∗ owns (c : Thread nD τ) arg12 fullShare X12
        ∗ (iprop(∃ (T : S2080x2x128.Idx → F .bf16) (P : S2560x128.Idx → BitVec 32) (W : S10304x2x128.Idx → F .bf16),
          ⌜RelHolds X3 16 P ∧ WeightsHold T P X2 (i 1) 128 W ∧ ((i 1).val = 0 → TabHolds X4 X5 5 T) ∧ (¬ (i 1).val = 0 → T = X9)⌝
        ∗ owns (c : Thread nD τ) arg2 fullShare.right X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg9 fullShare T
        ∗ owns (c : Thread nD τ) arg10 fullShare P
        ∗ owns (c : Thread nD τ) arg11 fullShare W
        ∗ owns (c : Thread nD τ) arg12 fullShare (accNext i X6 X7 W X12)
        ∗ owns (c : Thread nD τ) arg8 fullShare (outNext i X8 (accNext i X6 X7 W X12))) -∗ K ⟨⟩))
      ⊢ wp frame (wpE (defs₀ (F := F)) 𝒱₀ c none) Set.univ (cc0__body i arg2 harg2 arg3 harg3 arg4 harg4 arg5 harg5 arg6 harg6 arg7 harg7 arg8 harg8 arg9 harg9 arg10 harg10 arg11 harg11 arg12 harg12) K := by
  have hb := branches (i 1)
  simp only [cc0__body_eq_skeleton]; unfold cc0__body_skel
  unfold owns
  have e1 : ¬ k0_cond1 i = 1#1 := fun h => h0 (hb.1.mp h)
  have e2 : ¬ isFirst (BitVec.ofNat 32 (i 1).val) = 1#1 := fun h => h0 (hb.1.mp h)
  have e3 : isLater (BitVec.ofNat 32 (i 1).val) = 1#1 := hb.2.1.mpr h0
  have e4 : k0_cond18 i = 1#1 := hb.2.2.mpr h3
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, Hk⟩
  subst hf2; subst hf3; subst hf4; subst hf5; subst hf6; subst hf7; subst hf8; subst hf9; subst hf12
  have z2 : RelHolds (arg3.view.read (Elt F) f3) 0 (arg10.view.read (Elt F) f10) := relHolds_zero _ _
  sl_exec (disch := first | sl_exact e1 | sl_exact e2 | sl_exact e3 | sl_exact e4)
  sl_step
  iapply Hk
  iexists (arg9.view.read (Elt F) f9), (arg10.view.read (Elt F) fL0), (arg11.view.read (Elt F) fL1)
  isplitr
  · ipureintro
    exact ⟨count2 ▸ hL1, count3 ▸ hL6 (by decide), fun h => absurd h h0, fun _ => rfl⟩
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro
    refine (accsN_read arg12 f12 arg11 fL1 arg6 f6 arg7 f7 i _ ?_).trans (accNext_later i _ _ _ _ h0).symm
    show _ = [accN arg12 f12 arg11 fL1 arg6 f6 arg7 f7 i 7, accN arg12 f12 arg11 fL1 arg6 f6 arg7 f7 i 6, accN arg12 f12 arg11 fL1 arg6 f6 arg7 f7 i 5, accN arg12 f12 arg11 fL1 arg6 f6 arg7 f7 i 4, accN arg12 f12 arg11 fL1 arg6 f6 arg7 f7 i 3, accN arg12 f12 arg11 fL1 arg6 f6 arg7 f7 i 2, accN arg12 f12 arg11 fL1 arg6 f6 arg7 f7 i 1, accN arg12 f12 arg11 fL1 arg6 f6 arg7 f7 i 0]
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    as_aux_lemma => rfl
  iexists _; isplitr; swap; · iexact H8
  ipureintro
  have hl : kernelRun_last.sl.H12_8 c i arg6 arg7 arg11 arg12 f6 f7 f12 fL1 = [7, 6, 5, 4, 3, 2, 1, 0].map (accN arg12 f12 arg11 fL1 arg6 f6 arg7 f7 i) := by
    show _ = [accN arg12 f12 arg11 fL1 arg6 f6 arg7 f7 i 7, accN arg12 f12 arg11 fL1 arg6 f6 arg7 f7 i 6, accN arg12 f12 arg11 fL1 arg6 f6 arg7 f7 i 5, accN arg12 f12 arg11 fL1 arg6 f6 arg7 f7 i 4, accN arg12 f12 arg11 fL1 arg6 f6 arg7 f7 i 3, accN arg12 f12 arg11 fL1 arg6 f6 arg7 f7 i 2, accN arg12 f12 arg11 fL1 arg6 f6 arg7 f7 i 1, accN arg12 f12 arg11 fL1 arg6 f6 arg7 f7 i 0]
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    refine congrArg₂ List.cons (by as_aux_lemma => rfl) ?_
    as_aux_lemma => rfl
  refine (out_read arg12 f12 arg11 fL1 arg6 f6 arg7 f7 i arg8 f8 (kernelRun_last.sl.v133_7 c i arg6 arg7 arg11 arg12 f6 f7 f12 fL1) ?_).trans ((congrArg k0_pay6 (accNext_later i _ _ _ _ h0).symm).trans (outNext_last i _ _ h3).symm)
  unfold kernelRun_last.sl.v133_7
  exact accsN_cov arg12 f12 arg11 fL1 arg6 f6 arg7 f7 i _ hl

end Cert.Proof.KernelIdeal.Value

end
-- ==== Proof.ValueBody.lean ====
/-
  `KernelIdeal`: the kernel's body run once at any grid point, with what each buffer holds after it: the group tables, the
  weights of the point's block, the accumulator advanced by the block's eight products, the output at the last block.
-/
module

public import proofs.«01_k».proof.Proof.Gen.KernelIdeal.Loops
public import proofs.«01_k».proof.Proof.Layout
public import proofs.«01_k».proof.Proof.Unpack
public import proofs.«01_k».proof.Proof.BodyFirst
public import proofs.«01_k».proof.Proof.BodyMiddle
public import proofs.«01_k».proof.Proof.BodyLast
public import Idealize.ShloMosaic.Lib.Writes
public import Idealize.ShloMosaic.Lib.Tactic

@[expose] public section

set_option maxRecDepth 16384

noncomputable section

namespace Cert.Proof.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx Cert.Proof.Layout

variable {F : FTy → Type} [FloatOps F]

local notation "𝕄" => MT nD τ sig Unit (Elt F) ℕ (UR sig nD τ) ℕ

/-- The body at any grid point, from the table held at words whose rows fit: it runs to its return, the inputs unchanged, the
    group tables written at the first block and kept at a later one, the accumulator and the output block advanced. -/
theorem kernelRun (c : Dev nD) (i : grid0.Coords) (arg2 : Memref sig .tc .smem S5120 .i32) (harg2 : arg2.IsWhole) (arg3 : Memref sig .tc .vmem S128x2048 .i32) (harg3 : arg3.IsWhole) (arg4 : Memref sig .tc .vmem S40x2048 .f32) (harg4 : arg4.IsWhole) (arg5 : Memref sig .tc .vmem S40x2048 .f32) (harg5 : arg5.IsWhole) (arg6 : Memref sig .tc .vmem S4x192x1280 .bf16) (harg6 : arg6.IsWhole) (arg7 : Memref sig .tc .vmem S4x192x1280 .bf16) (harg7 : arg7.IsWhole) (arg8 : Memref sig .tc .vmem S192x2048 .bf16) (harg8 : arg8.IsWhole) (arg9 : Memref sig .tc .vmem S2080x2x128 .bf16) (harg9 : arg9.IsWhole) (arg10 : Memref sig .tc .vmem S2560x128 .i32) (harg10 : arg10.IsWhole) (arg11 : Memref sig .tc .vmem S10304x2x128 .bf16) (harg11 : arg11.IsWhole) (arg12 : Memref sig .tc .vmem S192x2048 .f32) (harg12 : arg12.IsWhole)

    (X2 : S5120.Idx → BitVec 32) (hX2 : RowsFit X2) (X3 : S128x2048.Idx → BitVec 32) (X4 : S40x2048.Idx → F .f32) (X5 : S40x2048.Idx → F .f32)
    (X6 : S4x192x1280.Idx → F .bf16) (X7 : S4x192x1280.Idx → F .bf16) (X8 : S192x2048.Idx → F .bf16) (X9 : S2080x2x128.Idx → F .bf16)
    (X12 : S192x2048.Idx → F .f32) (K : PUnit → sProp 𝕄) :
    iprop(owns (c : Thread nD τ) arg2 fullShare.right X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg8 fullShare X8
        ∗ owns (c : Thread nD τ) arg9 fullShare X9
        ∗ (∃ d, owns (c : Thread nD τ) arg10 fullShare d)
        ∗ (∃ d, owns (c : Thread nD τ) arg11 fullShare d)
        ∗ owns (c : Thread nD τ) arg12 fullShare X12
        ∗ (iprop(∃ (T : S2080x2x128.Idx → F .bf16) (P : S2560x128.Idx → BitVec 32) (W : S10304x2x128.Idx → F .bf16),
          ⌜RelHolds X3 16 P ∧ WeightsHold T P X2 (i 1) 128 W ∧ ((i 1).val = 0 → TabHolds X4 X5 5 T) ∧ (¬ (i 1).val = 0 → T = X9)⌝
        ∗ owns (c : Thread nD τ) arg2 fullShare.right X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg9 fullShare T
        ∗ owns (c : Thread nD τ) arg10 fullShare P
        ∗ owns (c : Thread nD τ) arg11 fullShare W
        ∗ owns (c : Thread nD τ) arg12 fullShare (accNext i X6 X7 W X12)
        ∗ owns (c : Thread nD τ) arg8 fullShare (outNext i X8 (accNext i X6 X7 W X12))) -∗ K ⟨⟩))
      ⊢ wp frame (wpE (defs₀ (F := F)) 𝒱₀ c none) Set.univ (cc0__body i arg2 harg2 arg3 harg3 arg4 harg4 arg5 harg5 arg6 harg6 arg7 harg7 arg8 harg8 arg9 harg9 arg10 harg10 arg11 harg11 arg12 harg12) K := by
  by_cases h0 : (i 1).val = 0
  · exact kernelRun_first c i arg2 harg2 arg3 harg3 arg4 harg4 arg5 harg5 arg6 harg6 arg7 harg7 arg8 harg8 arg9 harg9 arg10 harg10 arg11 harg11 arg12 harg12 h0 X2 hX2 X3 X4 X5 X6 X7 X8 X9 X12 K
  · by_cases h3 : (i 1).val = 3
    · exact kernelRun_last c i arg2 harg2 arg3 harg3 arg4 harg4 arg5 harg5 arg6 harg6 arg7 harg7 arg8 harg8 arg9 harg9 arg10 harg10 arg11 harg11 arg12 harg12 h0 h3 X2 hX2 X3 X4 X5 X6 X7 X8 X9 X12 K
    · exact kernelRun_middle c i arg2 harg2 arg3 harg3 arg4 harg4 arg5 harg5 arg6 harg6 arg7 harg7 arg8 harg8 arg9 harg9 arg10 harg10 arg11 harg11 arg12 harg12 h0 h3 X2 hX2 X3 X4 X5 X6 X7 X8 X9 X12 K

end Cert.Proof.KernelIdeal.Value

end
-- ==== Proof.Chunk.lean ====
/-
  The product of one chunk of columns over the extended reals: a sum over the 1280 rows of the block's weights.
-/
module

public import proofs.«01_k».proof.Proof.Point
public import Idealize.ShloMosaic.Lib.MatmulPlain
public import Idealize.ShloMosaic.Lib.Pipeline.Value

@[expose] public section

set_option maxRecDepth 16384

noncomputable section

namespace Cert.Proof.KernelIdeal.Value

open Cert.KernelIdeal Cert.KernelIdeal.Gen
open Idealize.ShloMosaic Idealize.ShloMosaic.ValueIdx Cert.Proof.Layout

/-- Two blocks of columns side by side, read at a column. -/
theorem concat_cols (A B : S1280x128.Idx → EReal) (h : Shape.Concatenates [S1280x128, S1280x128] S1280x256 1) (κ : Fin 1280) (n : Fin 256) :
    concatenate S1280x256 1 [⟨S1280x128, A⟩, ⟨S1280x128, B⟩] h (ix2 κ n)
      = if n.val / 128 = 0 then A (ix2 κ (⟨n.val % 128, by omega⟩ : Fin 128)) else B (ix2 κ (⟨n.val % 128, by omega⟩ : Fin 128)) := by
  split
  · refine concatenate_pair_apply_left 1 A B h _ rfl _ (fun b => ?_)
    fin_cases b
    · rfl
    · show n.val % 128 = n.val; omega
  · refine concatenate_pair_apply_right 1 A B h _ rfl rfl _ (fun b hb => ?_) ?_
    · fin_cases b
      · rfl
      · exact absurd rfl hb
    · show n.val % 128 + 128 = n.val; omega

/-- The rows of a lane group: row `κ` is half `κ % 2` of word row `κ / 2`. -/
theorem group_rows (W : S640x2x128.Idx → EReal) (κ : Fin 1280) (l : Fin 128) :
    interleaveRows S1280x128
        (shapeCast S640x128 (rowsOfParity 0 S640x1x128 W bitcasts_S640x2x128_w16_S640x1x128_w32) shapeCasts_S640x1x128_S640x128)
        (shapeCast S640x128 (rowsOfParity 1 S640x1x128 W bitcasts_S640x2x128_w16_S640x1x128_w32) shapeCasts_S640x1x128_S640x128)
        bitcasts_S1280x128_w16_S640x128_w32 (ix2 κ l)
      = W (ix3 (⟨κ.val / 2, by omega⟩ : Fin 640) (⟨κ.val % 2, by omega⟩ : Fin 2) l) := by
  refine (interleaveRows_two (m := 640) (n := 128) _ _ _ κ l).trans ?_
  split
  · rename_i h
    refine (shapeCast_mid_drop (m := 640) (n := 128) _ _ _ l).trans ((rowsOfParity_three (m := 640) (n := 128) 0 W _ _ l).trans ?_)
    exact congrArg (fun p => W (ix3 (⟨κ.val / 2, by omega⟩ : Fin 640) p l)) (Fin.ext h.symm)
  · rename_i h
    refine (shapeCast_mid_drop (m := 640) (n := 128) _ _ _ l).trans ((rowsOfParity_three (m := 640) (n := 128) 1 W _ _ l).trans ?_)
    exact congrArg (fun p => W (ix3 (⟨κ.val / 2, by omega⟩ : Fin 640) p l)) (Fin.ext (show 1 = κ.val % 2 by omega))

/-- The product of the activations with two lane groups, at a column. -/
theorem pay213_apply (A B : S640x2x128.Idx → EReal) (X : S1x192x1280.Idx → EReal) (m : Fin 192) (n : Fin 256) :
    k0_pay213 (F := Ideal) A B X (ix2 m n)
      = ∑ κ : Fin 1280, X (ix3 0 m κ) * (if n.val / 128 = 0 then A else B) (ix3 (⟨κ.val / 2, by omega⟩ : Fin 640) (⟨κ.val % 2, by omega⟩ : Fin 2) (⟨n.val % 128, by omega⟩ : Fin 128)) := by
  refine (Ideal.matmul_plain_apply (M := 192) (K := 1280) (N := 256) none _ _ _ m n).trans ?_
  have z : (constant S192x256 .f32 0#32 : FVec Ideal S192x256 .f32) (ix2 m n) = 0 := Ideal.ofBits_zero_f32
  refine (congrArg (· + _) z).trans ((zero_add _).trans (Finset.sum_congr rfl fun κ _ => ?_))
  refine congrArg₂ (· * ·) ?_ ?_
  · exact shapeCast_apply X shapeCasts_S1x192x1280_S192x1280 _ _ (by
      rw [Shape.rowMajor_val_three, Shape.rowMajor_val_two]
      show (0 * 192 + m.val) * 1280 + κ.val = m.val * 1280 + κ.val
      omega)
  · refine (concat_cols _ _ _ κ n).trans ?_
    split
    · exact group_rows A κ _
    · exact group_rows B κ _

/-- The rows of a lane group, read from the buffer of weights. -/
theorem wRows_apply (W : S10304x2x128.Idx → EReal) (o : Nat) (h : o + 640 ≤ 10304) (s : Fin 640) (p : Fin 2) (l : Fin 128) :
    wRows (F := Ideal) W o h (ix3 s p l) = W (ix3 (⟨o + s.val, by omega⟩ : Fin 10304) p l) := by
  refine congrArg W (funext fun a => Fin.ext ?_)
  fin_cases a
  · show o + 1 * s.val = o + s.val; omega
  · show 0 + 1 * p.val = p.val; omega
  · show 0 + 1 * l.val = l.val; omega

theorem xOff (i : grid0.Coords) : k0_off68 i = ![(i 1).val, 0, 0] := by
  obtain ⟨b, hb⟩ : ∃ b : Fin 4, (i 1).val = b.val := ⟨i 1, rfl⟩
  unfold k0_off68
  rw [hb]
  clear hb
  revert b
  decide +kernel

/-- The block of the activations, read from the whole buffer. -/
theorem xRows_apply (X : S4x192x1280.Idx → EReal) (i : grid0.Coords) (kb : Fin 4) (hkb : (i 1).val = kb.val) (m : Fin 192) (κ : Fin 1280) :
    xRows (F := Ideal) X i (ix3 0 m κ) = X (ix3 kb m κ) := by
  refine congrArg X (funext fun a => Fin.ext ?_)
  refine (congrArg (fun o : Fin 3 → Nat => o a + 1 * ((ix3 0 m κ : S1x192x1280.Idx) a).val) (xOff i)).trans ?_
  fin_cases a
  · show (i 1).val + 1 * 0 = kb.val; omega
  · show 0 + 1 * m.val = m.val; omega
  · show 0 + 1 * κ.val = κ.val; omega

theorem xSide_eq (c : Fin 8) (X6 X7 : S4x192x1280.Idx → EReal) : xSide (F := Ideal) c X6 X7 = if c.val / 4 = 0 then X6 else X7 := by
  fin_cases c <;> rfl

/-- The products at a column of the tile. -/
theorem prodAt_apply (i : grid0.Coords) (kb : Fin 4) (hkb : (i 1).val = kb.val) (X6 X7 : S4x192x1280.Idx → EReal) (W : S10304x2x128.Idx → EReal) (m : Fin 192) (n : Fin 2048) :
    prodAt (F := Ideal) i X6 X7 W (ix2 m n)
      = ∑ κ : Fin 1280, (if n.val / 1024 = 0 then X6 else X7) (ix3 kb m κ)
          * W (ix3 (⟨644 * (n.val / 128) + κ.val / 2, by omega⟩ : Fin 10304) (⟨κ.val % 2, by omega⟩ : Fin 2) (⟨n.val % 128, by omega⟩ : Fin 128)) := by
  refine (pay213_apply _ _ _ m (⟨n.val % 256, Nat.mod_lt _ (by decide)⟩ : Fin 256)).trans (Finset.sum_congr rfl fun κ _ => ?_)
  have hl : (⟨n.val % 256 % 128, by omega⟩ : Fin 128) = ⟨n.val % 128, by omega⟩ := Fin.ext (by show n.val % 256 % 128 = n.val % 128; omega)
  refine congrArg₂ (· * ·) ?_ ?_
  · rw [xRows_apply _ i kb hkb, xSide_eq]
    have e : n.val / 256 / 4 = n.val / 1024 := by omega
    show (if n.val / 256 / 4 = 0 then X6 else X7) _ = _
    rw [e]
  · rw [hl]
    by_cases hh : n.val % 256 / 128 = 0
    · refine (congrFun (if_pos hh) _).trans ?_
      refine (wRows_apply W _ _ _ _ _).trans ?_
      refine congrArg (fun r => W (ix3 r _ _)) (Fin.ext ?_)
      show 1288 * (n.val / 256) + κ.val / 2 = 644 * (n.val / 128) + κ.val / 2
      omega
    · refine (congrFun (if_neg hh) _).trans ?_
      refine (wRows_apply W _ _ _ _ _).trans ?_
      refine congrArg (fun r => W (ix3 r _ _)) (Fin.ext ?_)
      show 1288 * (n.val / 256) + 644 + κ.val / 2 = 644 * (n.val / 128) + κ.val / 2
      omega

end Cert.Proof.KernelIdeal.Value

end
-- ==== Proof.Spec.lean ====
/-
  The value both programs compute, as sums over the input channels: the weight of a channel and an output column, and
  the two programs' orders of the channels, each a rearrangement of all of them.
-/
module

public import proofs.«01_k».proof.Defs
public import Idealize.ShloMosaic.Lib.ValueIdx

@[expose] public section

noncomputable section

namespace Cert.Proof.Spec

open Idealize.ShloMosaic Idealize.ShloMosaic.ValueIdx
open Cert.KernelIdeal

/-- Field `f` of a packed word: three bits. -/
def field (f : Nat) (w : BitVec 32) : Nat := w.toNat / 2 ^ (3 * f) % 8

/-- The weight of input channel `k` and output column `n`: its code less its group's zero point, times its group's scale. -/
def wt (Wp : S512x27648.Idx → BitVec 32) (Sc : S40x27648.Idx → EReal) (Z : S40x27648.Idx → ℝ) (g : Fin 5120 → Fin 40) (k : Fin 5120) (n : Fin 27648) : EReal :=
  (((field (k.val % 10) (Wp (ix2 (⟨k.val / 10, by omega⟩ : Fin 512) n)) : ℝ) - Z (ix2 (g k) n) : ℝ) : EReal) * Sc (ix2 (g k) n)

/-- The channel of row `κ` of the kernel's product at block `kb`, in half `u` of a tile. -/
def kOf (kb : Fin 4) (κ : Fin 1280) (u : Nat) : Fin 5120 :=
  ⟨(128 * kb.val + κ.val / 2 % 128) * 10 + κ.val / 2 / 128 + 5 * ((κ.val % 2 + u) % 2), by omega⟩

/-- The channel of row `r` of the reference's product. -/
def kRef (r : Fin 5120) : Fin 5120 := ⟨r.val % 512 * 10 + r.val / 512, by omega⟩

theorem kOf_bijective (u : Nat) : Function.Bijective fun p : Fin 4 × Fin 1280 => kOf p.1 p.2 u := by
  rw [Fintype.bijective_iff_injective_and_card]
  refine ⟨?_, by simp⟩
  rintro ⟨a, b⟩ ⟨a', b'⟩ h
  have h' : (128 * a.val + b.val / 2 % 128) * 10 + b.val / 2 / 128 + 5 * ((b.val % 2 + u) % 2)
      = (128 * a'.val + b'.val / 2 % 128) * 10 + b'.val / 2 / 128 + 5 * ((b'.val % 2 + u) % 2) := congrArg Fin.val h
  have := b.isLt
  have := b'.isLt
  have hj : b.val / 2 / 128 < 5 := by omega
  have hj' : b'.val / 2 / 128 < 5 := by omega
  have e1 : 128 * a.val + b.val / 2 % 128 = 128 * a'.val + b'.val / 2 % 128 ∧ b.val / 2 / 128 = b'.val / 2 / 128 ∧ (b.val % 2 + u) % 2 = (b'.val % 2 + u) % 2 := by
    generalize b.val / 2 / 128 = j at *
    generalize b'.val / 2 / 128 = j' at *
    generalize 128 * a.val + b.val / 2 % 128 = w at *
    generalize 128 * a'.val + b'.val / 2 % 128 = w' at *
    have := Nat.mod_lt (b.val % 2 + u) (show 0 < 2 by decide)
    have := Nat.mod_lt (b'.val % 2 + u) (show 0 < 2 by decide)
    generalize (b.val % 2 + u) % 2 = f at *
    generalize (b'.val % 2 + u) % 2 = f' at *
    clear h
    omega
  obtain ⟨e1, e2, e3⟩ := e1
  clear h h' hj hj'
  have ha : a.val = a'.val := by clear e2 e3; omega
  have hw : b.val / 2 % 128 = b'.val / 2 % 128 := by clear e2 e3; omega
  have hh : b.val % 2 = b'.val % 2 := by clear e1 e2 hw; omega
  have hb : b.val = b'.val := by clear e1 e3; omega
  exact Prod.ext (Fin.ext ha) (Fin.ext hb)

theorem kRef_bijective : Function.Bijective kRef := by
  rw [Fintype.bijective_iff_injective_and_card]
  refine ⟨?_, rfl⟩
  intro a b h
  have h' : a.val % 512 * 10 + a.val / 512 = b.val % 512 * 10 + b.val / 512 := congrArg Fin.val h
  refine Fin.ext ?_
  have e : a.val % 512 = b.val % 512 ∧ a.val / 512 = b.val / 512 := by
    have : a.val / 512 < 10 := by omega
    have : b.val / 512 < 10 := by omega
    clear h
    generalize a.val / 512 = q at *
    generalize b.val / 512 = q' at *
    omega
  clear h h'
  omega

/-- The kernel's four blocks of products sum to the sum over all channels. -/
theorem sum_blocks (u : Nat) (f : Fin 5120 → EReal) :
    ∑ kb : Fin 4, ∑ κ : Fin 1280, f (kOf kb κ u) = ∑ k : Fin 5120, f k := by
  rw [← Fintype.sum_prod_type' (fun (kb : Fin 4) (κ : Fin 1280) => f (kOf kb κ u))]
  exact (kOf_bijective u).sum_comp f

/-- The reference's product sums to the same. -/
theorem sum_ref (f : Fin 5120 → EReal) : ∑ r : Fin 5120, f (kRef r) = ∑ k : Fin 5120, f k := kRef_bijective.sum_comp f

end Cert.Proof.Spec

end
-- ==== Proof.Weight.lean ====
/-
  The weights' buffer over the extended reals: its entry for a channel and a column is the channel's code less its
  group's zero point, times its group's scale.
-/
module

public import proofs.«01_k».proof.Proof.Tables
public import proofs.«01_k».proof.Proof.Unpack
public import proofs.«01_k».proof.Proof.Spec
public import Idealize.ShloMosaic.Lib.ValueIdx

@[expose] public section

set_option maxRecDepth 16384

noncomputable section

namespace Cert.Proof.KernelIdeal.Value

open Cert.KernelIdeal Cert.KernelIdeal.Gen
open Idealize.ShloMosaic Idealize.ShloMosaic.ValueIdx Cert.Proof.Spec

/-! ## A field of a word, read under an exponent -/

/-- The base a field's code is read at: 128, or 16 for the fields that stand three bits up. -/
def base (j : Nat) : ℝ := if j % 2 = 0 then 128 else 16

/-- A three-bit code under the exponent its place calls for. -/
def coded (j : Nat) (c : BitVec 3) : BitVec 16 := if j % 2 = 0 then 0x4300#16 ||| c.setWidth 16 else 0x4180#16 ||| (c.setWidth 16) <<< 3

/-- What that pattern denotes: the code above the base. -/
theorem ofBits_coded (j : Nat) (c : BitVec 3) : Ideal.ofBits .bf16 (coded j c) = ((base j + (c.toNat : ℝ) : ℝ) : EReal) := by
  unfold coded base
  obtain ⟨k, rfl⟩ : ∃ k : Fin 8, c = BitVec.ofNat 3 k.val := ⟨⟨c.toNat, c.isLt⟩, by simp⟩
  split
  · fin_cases k <;> first
      | (simp [Ideal.ofBits, Ideal.ieee]; done)
      | (simp [Ideal.ofBits, Ideal.ieee]; rw [← EReal.coe_add]; norm_num; done)
      | (simp [Ideal.ofBits, Ideal.ieee]; rw [← EReal.coe_mul]; norm_num; done)
      | (simp [Ideal.ofBits, Ideal.ieee]; rw [← EReal.coe_mul, ← EReal.coe_add]; norm_num; done)
      | (simp [Ideal.ofBits, Ideal.ieee]; rw [← EReal.coe_one, ← EReal.coe_add]; norm_num; done)
      | (simp [Ideal.ofBits, Ideal.ieee]; rw [← EReal.coe_mul, ← EReal.coe_one, ← EReal.coe_add]; norm_num; done)
      | (simp [Ideal.ofBits, Ideal.ieee]; try norm_num; rw [← EReal.coe_add]; norm_num; done)
      | (simp [Ideal.ofBits, Ideal.ieee]; try norm_num; rw [← EReal.coe_mul]; norm_num; done)
      | (simp [Ideal.ofBits, Ideal.ieee]; try norm_num; rw [← EReal.coe_mul, ← EReal.coe_add]; norm_num; done)
      | (simp [Ideal.ofBits, Ideal.ieee]; try norm_num; rw [← EReal.coe_one, ← EReal.coe_add]; norm_num; done)
      | (simp [Ideal.ofBits, Ideal.ieee]; try norm_num; rw [← EReal.coe_mul, ← EReal.coe_one, ← EReal.coe_add]; norm_num; done)
      | (simp [Ideal.ofBits, Ideal.ieee]; norm_num; done)
  · fin_cases k <;> first
      | (simp [Ideal.ofBits, Ideal.ieee]; done)
      | (simp [Ideal.ofBits, Ideal.ieee]; rw [← EReal.coe_add]; norm_num; done)
      | (simp [Ideal.ofBits, Ideal.ieee]; rw [← EReal.coe_mul]; norm_num; done)
      | (simp [Ideal.ofBits, Ideal.ieee]; rw [← EReal.coe_mul, ← EReal.coe_add]; norm_num; done)
      | (simp [Ideal.ofBits, Ideal.ieee]; rw [← EReal.coe_one, ← EReal.coe_add]; norm_num; done)
      | (simp [Ideal.ofBits, Ideal.ieee]; rw [← EReal.coe_mul, ← EReal.coe_one, ← EReal.coe_add]; norm_num; done)
      | (simp [Ideal.ofBits, Ideal.ieee]; try norm_num; rw [← EReal.coe_add]; norm_num; done)
      | (simp [Ideal.ofBits, Ideal.ieee]; try norm_num; rw [← EReal.coe_mul]; norm_num; done)
      | (simp [Ideal.ofBits, Ideal.ieee]; try norm_num; rw [← EReal.coe_mul, ← EReal.coe_add]; norm_num; done)
      | (simp [Ideal.ofBits, Ideal.ieee]; try norm_num; rw [← EReal.coe_one, ← EReal.coe_add]; norm_num; done)
      | (simp [Ideal.ofBits, Ideal.ieee]; try norm_num; rw [← EReal.coe_mul, ← EReal.coe_one, ← EReal.coe_add]; norm_num; done)
      | (simp [Ideal.ofBits, Ideal.ieee]; norm_num; done)

theorem toNat_field (f : Nat) (w : BitVec 32) : (w.extractLsb' (3 * f) 3).toNat = field f w := by
  rw [BitVec.extractLsb'_toNat, Nat.shiftRight_eq_div_pow]
  rfl

theorem shrui_small (v : BitVec 32) (k : Nat) (hk : k < 32) : IntOp.shrui .vector v (BitVec.ofNat 32 k) = v >>> k := by
  unfold IntOp.shrui
  simp
  rw [Nat.mod_eq_of_lt (by omega), if_pos hk]
theorem shli_small (v : BitVec 32) (k : Nat) (hk : k < 32) : IntOp.shli .vector v (BitVec.ofNat 32 k) = v <<< k := by
  unfold IntOp.shli
  simp
  rw [Nat.mod_eq_of_lt (by omega), if_pos hk]

/-- A bit of two halves put together. -/
theorem append_bit (p q : BitVec 16) (i : Nat) : (p ++ q : BitVec 32).getLsbD i = if i < 16 then q.getLsbD i else p.getLsbD (i - 16) :=
  BitVec.getLsbD_append

set_option maxHeartbeats 1000000 in
/-- A half of the re-laid word, masked and put under the exponent, is a field of the packed word of the half's column. -/
theorem half_coded (a b : BitVec 32) (j : Fin 5) (h u : Fin 2) :
    (fieldWord j ((if (h.val + u.val) % 2 = 0 then lowPair else highPair) a b)).extractLsb' (16 * h.val) 16
      = coded j.val ((if u.val = 0 then a else b).extractLsb' (3 * (j.val + 5 * ((h.val + u.val) % 2))) 3) := by
  have e16 (v : BitVec 32) : IntOp.shli .vector v 16#32 = v <<< 16 := shli_small v 16 (by decide)
  have e1 (v : BitVec 32) : IntOp.shli .vector v 1#32 = v <<< 1 := shli_small v 1 (by decide)
  have e15 (v : BitVec 32) : IntOp.shrui .vector v 15#32 = v >>> 15 := shrui_small v 15 (by decide)
  have e6 (v : BitVec 32) : IntOp.shrui .vector v 6#32 = v >>> 6 := shrui_small v 6 (by decide)
  have e12 (v : BitVec 32) : IntOp.shrui .vector v 12#32 = v >>> 12 := shrui_small v 12 (by decide)
  fin_cases j <;> fin_cases h <;> fin_cases u <;>
    (apply BitVec.eq_of_getLsbD_eq
     intro i hi
     simp [fieldWord, coded, lowPair, highPair, e16, e1, e15, e6, e12, BitVec.getLsbD_append, BitVec.getLsbD_extractLsb', BitVec.getLsbD_or, BitVec.getLsbD_and]
     interval_cases i <;> first | (simp; done) | (simp only [append_bit]; simp))

/-! ## The tables and the weights at a column -/

/-- The tables' entry for group `q`, table `n` and column `N` of the whole matrix. -/
def tabVal (Sc : S40x27648.Idx → EReal) (Z : S40x27648.Idx → ℝ) (n : Nat) (q : Fin 40) (N : Fin 27648) : EReal :=
  if n = 0 then Sc (ix2 q N) else ((Z (ix2 q N) + base (n + 1) : ℝ) : EReal)

/-- The tables hold the scales and zero points of tile `i`, in every column that lies in the matrix. -/
def TabGood (Sc : S40x27648.Idx → EReal) (Z : S40x27648.Idx → ℝ) (i : Nat) (T : S2080x2x128.Idx → EReal) : Prop :=
  ∀ (q : Fin 40) (s : Fin 48) (h : Fin 2) (l : Fin 128) (hN : 2048 * i + (tabCol s.val h l).val < 27648),
    T (ix3 (⟨52 * q.val + s.val, by omega⟩ : Fin 2080) h l) = tabVal Sc Z (s.val / 8 % 3) q ⟨2048 * i + (tabCol s.val h l).val, hN⟩

theorem ofBits_128 : Ideal.ofBits .f32 0x43000000#32 = ((128 : ℝ) : EReal) := by
  simp [Ideal.ofBits, Ideal.ieee]; norm_num
  rw [← EReal.coe_mul]; norm_num
theorem ofBits_16 : Ideal.ofBits .f32 0x41800000#32 = ((16 : ℝ) : EReal) := by
  simp [Ideal.ofBits, Ideal.ieee]; norm_num
  rw [← EReal.coe_mul]; norm_num

/-- The tables the first block builds are those of its tile. -/
theorem tabGood_of (Sc : S40x27648.Idx → EReal) (Z : S40x27648.Idx → ℝ) (i : Nat) (S4 S5 : S40x2048.Idx → EReal) (T : S2080x2x128.Idx → EReal)
    (h4 : ∀ (q : Fin 40) (n : Fin 2048) (hN : 2048 * i + n.val < 27648), S4 (ix2 q n) = Sc (ix2 q ⟨2048 * i + n.val, hN⟩))
    (h5 : ∀ (q : Fin 40) (n : Fin 2048) (hN : 2048 * i + n.val < 27648), S5 (ix2 q n) = ((Z (ix2 q ⟨2048 * i + n.val, hN⟩) : ℝ) : EReal))
    (hT : TabHolds (F := Ideal) S4 S5 5 T) : TabGood Sc Z i T := by
  intro q s h l hN
  have e0 : (52 * q.val + s.val) % 52 = s.val := by omega
  have e1 : (52 * q.val + s.val) / 52 = q.val := by omega
  refine (hT _ (show 52 * q.val + s.val < 416 * 5 by omega) (show (52 * q.val + s.val) % 52 < 48 by omega)).trans ?_
  show table (F := Ideal) S4 S5 ((52 * q.val + s.val) % 52 / 8 % 3) (ix2 (⟨(52 * q.val + s.val) / 52, by omega⟩ : Fin 40) (tabCol ((52 * q.val + s.val) % 52) h l)) = _
  rw [e0]
  have eq : (⟨(52 * q.val + s.val) / 52, by omega⟩ : Fin 40) = q := Fin.ext e1
  rw [eq]
  have h3 : s.val / 8 % 3 < 3 := Nat.mod_lt _ (by decide)
  unfold table tabVal
  generalize s.val / 8 % 3 = n at h3 ⊢
  interval_cases n
  · exact h4 q _ hN
  · show S5 (ix2 q (tabCol s.val h l)) + Ideal.ofBits .f32 0x43000000#32 = _
    rw [h5 q _ hN, ofBits_128, if_neg (by decide), ← EReal.coe_add]
    simp [base]
  · show S5 (ix2 q (tabCol s.val h l)) + Ideal.ofBits .f32 0x41800000#32 = _
    rw [h5 q _ hN, ofBits_16, if_neg (by decide), ← EReal.coe_add]
    simp [base]

/-- The parts of a row of the words laid out for the unpacking. -/
theorem rel_row (w a b : Nat) (hw : w < 128) (ha : a < 2) (hb : b < 8) :
    (20 * w + 8 * a + b) % 20 / 8 = a ∧ (20 * w + 8 * a + b) / 20 = w ∧ (20 * w + 8 * a + b) % 20 % 8 = b
      ∧ 20 * w + 8 * a + b < 160 * 16 ∧ (20 * w + 8 * a + b) % 20 < 16 := by
  have e1 : (20 * w + 8 * a + b) / 20 = w := by omega
  have e2 : (20 * w + 8 * a + b) % 20 = 8 * a + b := by omega
  rw [e1, e2]
  exact ⟨by omega, rfl, by omega, by omega, by omega⟩

/-- A weight of the buffer, at row `κ` of the product of block `kb` and column `n` of tile `i`. -/
theorem weight_eq (Wp : S512x27648.Idx → BitVec 32) (Sc : S40x27648.Idx → EReal) (Z : S40x27648.Idx → ℝ) (g : Fin 5120 → Fin 40) (i : Nat) (kb : Fin 4)
    (n : Fin 2048) (hN : 2048 * i + n.val < 27648) (X2 : S5120.Idx → BitVec 32) (X3 : S128x2048.Idx → BitVec 32)
    (P : S2560x128.Idx → BitVec 32) (T : S2080x2x128.Idx → EReal) (W : S10304x2x128.Idx → EReal)
    (h2 : ∀ k : Fin 5120, (X2 (ix1 k)).toNat = 52 * (g k).val)
    (h3 : ∀ w : Fin 128, X3 (ix2 w n) = Wp (ix2 (⟨128 * kb.val + w.val, by omega⟩ : Fin 512) ⟨2048 * i + n.val, hN⟩))
    (hP : RelHolds X3 16 P) (hT : TabGood Sc Z i T) (hW : WeightsHold (F := Ideal) T P X2 kb 128 W) (κ : Fin 1280) :
    W (ix3 (⟨644 * (n.val / 128) + κ.val / 2, by omega⟩ : Fin 10304) (⟨κ.val % 2, by omega⟩ : Fin 2) (⟨n.val % 128, by omega⟩ : Fin 128))
      = wt Wp Sc Z g (kOf kb κ (n.val / 1024)) ⟨2048 * i + n.val, hN⟩ := by
  have hn := n.isLt
  have hκ := κ.isLt
  have a0 : (644 * (n.val / 128) + κ.val / 2) % 644 = κ.val / 2 := by omega
  have a1 : (644 * (n.val / 128) + κ.val / 2) / 644 = n.val / 128 := by omega
  have hj : κ.val / 2 / 128 < 5 := by omega
  have hw : κ.val / 2 % 128 < 128 := by omega
  refine (hW _ (show (644 * (n.val / 128) + κ.val / 2) % 644 / 128 < 5 by omega) (show (644 * (n.val / 128) + κ.val / 2) % 644 % 128 < 128 by omega)).trans ?_
  have step : weightsAt (F := Ideal) T P X2 kb (ix3 (⟨644 * (n.val / 128) + κ.val / 2, by omega⟩ : Fin 10304) (⟨κ.val % 2, by omega⟩ : Fin 2) (⟨n.val % 128, by omega⟩ : Fin 128))
      = weightAt (F := Ideal) T P X2 kb (⟨n.val / 128, by omega⟩ : Fin 16) ⟨κ.val / 2 / 128, hj⟩ ⟨κ.val / 2 % 128, hw⟩ ⟨κ.val % 2, by omega⟩ (⟨n.val % 128, by omega⟩ : Fin 128) := by
    unfold weightsAt
    rw [dif_pos (show (644 * (n.val / 128) + κ.val / 2) % 644 / 128 < 5 by omega)]
    congr 1
    · exact Fin.ext a1
    · exact Fin.ext (by show (644 * (n.val / 128) + κ.val / 2) % 644 / 128 = _; rw [a0])
    · exact Fin.ext (by show (644 * (n.val / 128) + κ.val / 2) % 644 % 128 = _; rw [a0])
  rw [step]
  unfold weightAt wt
  obtain ⟨j, ej⟩ : ∃ j : Fin 5, j = ⟨κ.val / 2 / 128, hj⟩ := ⟨_, rfl⟩
  obtain ⟨w, ew⟩ : ∃ w : Fin 128, w = ⟨κ.val / 2 % 128, hw⟩ := ⟨_, rfl⟩
  obtain ⟨h, eh⟩ : ∃ h : Fin 2, h = ⟨κ.val % 2, by omega⟩ := ⟨_, rfl⟩
  obtain ⟨l, el⟩ : ∃ l : Fin 128, l = ⟨n.val % 128, by omega⟩ := ⟨_, rfl⟩
  obtain ⟨n8, e8⟩ : ∃ n8 : Fin 16, n8 = ⟨n.val / 128, by omega⟩ := ⟨_, rfl⟩
  obtain ⟨u, eu⟩ : ∃ u : Fin 2, u = ⟨n.val / 1024, by omega⟩ := ⟨_, rfl⟩
  have vu : u.val = n8.val / 8 := by rw [eu, e8]; show n.val / 1024 = n.val / 128 / 8; omega
  have vn : n.val = 128 * n8.val + l.val := by rw [e8, el]; show n.val = 128 * (n.val / 128) + n.val % 128; omega
  have hk : kOf kb κ (n.val / 1024) = ⟨(128 * kb.val + w.val) * 10 + j.val + 5 * ((h.val + n8.val / 8) % 2), by omega⟩ := by
    have hv : (h.val + n8.val / 8) % 2 = (κ.val % 2 + n.val / 1024) % 2 := by rw [← vu, eu, eh]
    have hj' : j.val = κ.val / 2 / 128 := congrArg Fin.val ej
    have hw' : w.val = κ.val / 2 % 128 := congrArg Fin.val ew
    refine Fin.ext ?_
    show (128 * kb.val + κ.val / 2 % 128) * 10 + κ.val / 2 / 128 + 5 * ((κ.val % 2 + n.val / 1024) % 2) = (128 * kb.val + w.val) * 10 + j.val + 5 * ((h.val + n8.val / 8) % 2)
    rw [hv, hj', hw']
  rw [← ej, ← ew, ← eh, ← el, ← e8, hk]
  clear hk step
  generalize hK : (⟨(128 * kb.val + w.val) * 10 + j.val + 5 * ((h.val + n8.val / 8) % 2), by omega⟩ : Fin 5120) = k
  have hk : k.val = (128 * kb.val + w.val) * 10 + j.val + 5 * ((h.val + n8.val / 8) % 2) := congrArg Fin.val hK.symm
  simp only [← vu] at hk ⊢
  have vk : k.val % 10 = j.val + 5 * ((h.val + u.val) % 2) := by omega
  have vk' : k.val / 10 = 128 * kb.val + w.val := by omega
  have eP : P (ix2 (⟨20 * w.val + 8 * ((h.val + u.val) % 2) + n8.val % 8, by omega⟩ : Fin 2560) l)
      = (if (h.val + u.val) % 2 = 0 then lowPair else highPair) (X3 (ix2 w (⟨n8.val % 8 * 128 + l.val, by omega⟩ : Fin 2048)))
        (X3 (ix2 w (⟨1024 + n8.val % 8 * 128 + l.val, by omega⟩ : Fin 2048))) := by
    have ⟨c0, c1, c2, c3, c4⟩ := rel_row w.val ((h.val + u.val) % 2) (n8.val % 8) w.isLt (Nat.mod_lt _ (by decide)) (Nat.mod_lt _ (by decide))
    refine (hP _ c3 c4).trans ?_
    have b0 : (20 * w.val + 8 * ((h.val + u.val) % 2) + n8.val % 8) % 20 / 8 = (h.val + u.val) % 2 := c0
    have b1 : (20 * w.val + 8 * ((h.val + u.val) % 2) + n8.val % 8) / 20 = w.val := c1
    have b2 : (20 * w.val + 8 * ((h.val + u.val) % 2) + n8.val % 8) % 20 % 8 = n8.val % 8 := c2
    show (if (20 * w.val + 8 * ((h.val + u.val) % 2) + n8.val % 8) % 20 / 8 = 0 then lowPair else highPair)
      (X3 (ix2 (⟨(20 * w.val + 8 * ((h.val + u.val) % 2) + n8.val % 8) / 20, by omega⟩ : Fin 128) (⟨(20 * w.val + 8 * ((h.val + u.val) % 2) + n8.val % 8) % 20 % 8 * 128 + l.val, by omega⟩ : Fin 2048)))
      (X3 (ix2 (⟨(20 * w.val + 8 * ((h.val + u.val) % 2) + n8.val % 8) / 20, by omega⟩ : Fin 128) (⟨1024 + (20 * w.val + 8 * ((h.val + u.val) % 2) + n8.val % 8) % 20 % 8 * 128 + l.val, by omega⟩ : Fin 2048))) = _
    simp only [b0, b1, b2]
  have eW : (if u.val = 0 then X3 (ix2 w (⟨n8.val % 8 * 128 + l.val, by omega⟩ : Fin 2048)) else X3 (ix2 w (⟨1024 + n8.val % 8 * 128 + l.val, by omega⟩ : Fin 2048)))
      = Wp (ix2 (⟨k.val / 10, by omega⟩ : Fin 512) ⟨2048 * i + n.val, hN⟩) := by
    have en : (if u.val = 0 then X3 (ix2 w (⟨n8.val % 8 * 128 + l.val, by omega⟩ : Fin 2048)) else X3 (ix2 w (⟨1024 + n8.val % 8 * 128 + l.val, by omega⟩ : Fin 2048))) = X3 (ix2 w n) := by
      split
      · exact congrArg X3 (congrArg (ix2 w) (Fin.ext (by show n8.val % 8 * 128 + l.val = n.val; omega)))
      · exact congrArg X3 (congrArg (ix2 w) (Fin.ext (by show 1024 + n8.val % 8 * 128 + l.val = n.val; omega)))
    rw [en, h3 w]
    exact congrArg Wp (congrArg (fun r => ix2 r _) (Fin.ext vk'.symm))
  have eT : ∀ (s : Nat) (hs : s < 3), T (ix3 (tabRow (X2 (ix1 k)) (24 * ((h.val + u.val) % 2) + 8 * s + n8.val % 8) (by omega)) h l)
      = tabVal Sc Z s (g k) ⟨2048 * i + n.val, hN⟩ := by
    intro s hs
    have hr : tabRow (X2 (ix1 k)) (24 * ((h.val + u.val) % 2) + 8 * s + n8.val % 8) (by omega)
        = (⟨52 * (g k).val + (⟨24 * ((h.val + u.val) % 2) + 8 * s + n8.val % 8, by omega⟩ : Fin 48).val, by have := (g k).isLt; show 52 * (g k).val + (24 * ((h.val + u.val) % 2) + 8 * s + n8.val % 8) < 2080; omega⟩ : Fin 2080) := by
      refine Fin.ext ?_
      show min (X2 (ix1 k)).toNat 2028 + (24 * ((h.val + u.val) % 2) + 8 * s + n8.val % 8) = 52 * (g k).val + (24 * ((h.val + u.val) % 2) + 8 * s + n8.val % 8)
      rw [h2 k]
      have := (g k).isLt
      omega
    have hc : (tabCol (⟨24 * ((h.val + u.val) % 2) + 8 * s + n8.val % 8, by omega⟩ : Fin 48).val h l).val = n.val := by
      show 1024 * ((h.val + (24 * ((h.val + u.val) % 2) + 8 * s + n8.val % 8) / 24) % 2) + (24 * ((h.val + u.val) % 2) + 8 * s + n8.val % 8) % 8 * 128 + l.val = n.val
      omega
    rw [hr, hT (g k) ⟨24 * ((h.val + u.val) % 2) + 8 * s + n8.val % 8, by omega⟩ h l (by omega)]
    have c1 : (24 * ((h.val + u.val) % 2) + 8 * s + n8.val % 8) / 8 % 3 = s := by omega
    show tabVal Sc Z ((24 * ((h.val + u.val) % 2) + 8 * s + n8.val % 8) / 8 % 3) (g k) _ = _
    rw [c1]
    exact congrArg (tabVal Sc Z s (g k)) (Fin.ext (by show 2048 * i + _ = 2048 * i + n.val; omega))
  have t0 := eT 0 (by decide)
  have t1 := eT (1 + j.val % 2) (by omega)
  have hf : FloatOps.ofBits (F := Ideal) .bf16 ((fieldWord j (P (ix2 (⟨20 * w.val + 8 * ((h.val + u.val) % 2) + n8.val % 8, by omega⟩ : Fin 2560) l))).extractLsb' (16 * h.val) 16)
      = ((base j.val + (field (k.val % 10) (Wp (ix2 (⟨k.val / 10, by omega⟩ : Fin 512) ⟨2048 * i + n.val, hN⟩)) : ℝ) : ℝ) : EReal) := by
    rw [eP, half_coded _ _ j h u, ← eW, vk, ← toNat_field]
    exact ofBits_coded _ _
  show (FloatOps.ofBits (F := Ideal) .bf16 _ - T _) * T _ = _
  have t0' : T (ix3 (tabRow (X2 (ix1 k)) (24 * ((h.val + u.val) % 2) + n8.val % 8) (by omega)) h l) = Sc (ix2 (g k) ⟨2048 * i + n.val, hN⟩) := t0
  rw [hf, t0', t1]
  have hb : base (1 + j.val % 2 + 1) = base j.val := by
    unfold base
    have : (1 + j.val % 2 + 1) % 2 = j.val % 2 := by omega
    rw [this]
  unfold tabVal
  rw [if_neg (by omega), hb, ← EReal.coe_sub]
  congr 2
  ring

end Cert.Proof.KernelIdeal.Value

end
-- ==== Proof.Sums.lean ====
/-
  The accumulator as a partial sum: the products of a block of channels, the sum of the first blocks, and one block's step.
-/
module

public import proofs.«01_k».proof.Proof.Chunk
public import proofs.«01_k».proof.Proof.Weight

@[expose] public section

set_option maxRecDepth 16384

noncomputable section

namespace Cert.Proof.KernelIdeal.Value

open Cert.KernelIdeal Cert.KernelIdeal.Gen
open Idealize.ShloMosaic Idealize.ShloMosaic.TcCoe Idealize.ShloMosaic.ValueIdx Cert.Proof.Spec Cert.Proof.Layout

variable (x : S192x1x5120.Idx → EReal) (Wp : S512x27648.Idx → BitVec 32) (Sc : S40x27648.Idx → EReal) (Z : S40x27648.Idx → ℝ) (g : Fin 5120 → Fin 40)

/-- One channel's product at a row and a column of the result. -/
def term (r : Fin 192) (N : Fin 27648) (k : Fin 5120) : EReal := x (ix3 r 0 k) * wt Wp Sc Z g k N

/-- The sum of the products of one block of channels. -/
def blockSum (kb : Fin 4) (r : Fin 192) (N : Fin 27648) : EReal := ∑ κ : Fin 1280, term x Wp Sc Z g r N (kOf kb κ (N.val % 2048 / 1024))

/-- The sum of the products of the first `n` blocks. -/
def accVal (n : Nat) (r : Fin 192) (N : Fin 27648) : EReal := ∑ kb : Fin 4, if kb.val < n then blockSum x Wp Sc Z g kb r N else 0

theorem accVal_zero (r : Fin 192) (N : Fin 27648) : accVal x Wp Sc Z g 0 r N = 0 :=
  Finset.sum_eq_zero fun kb _ => if_neg (by omega)

theorem accVal_succ (kb : Fin 4) (r : Fin 192) (N : Fin 27648) :
    accVal x Wp Sc Z g (kb.val + 1) r N = accVal x Wp Sc Z g kb.val r N + blockSum x Wp Sc Z g kb r N := by
  unfold accVal
  rw [Fin.sum_univ_four, Fin.sum_univ_four]
  fin_cases kb <;> simp

theorem accVal_four (r : Fin 192) (N : Fin 27648) : accVal x Wp Sc Z g 4 r N = ∑ k : Fin 5120, term x Wp Sc Z g r N k := by
  refine (Finset.sum_congr rfl fun kb _ => if_pos kb.isLt).trans ?_
  exact sum_blocks (N.val % 2048 / 1024) (term x Wp Sc Z g r N)

/-- The products of a point's block, at a column that lies in the matrix. -/
theorem prod_eq (i : grid0.Coords) (i0 : Nat) (kb : Fin 4) (hkb : (i 1).val = kb.val) (X6 X7 : S4x192x1280.Idx → EReal)
    (X2 : S5120.Idx → BitVec 32) (X3 : S128x2048.Idx → BitVec 32) (P : S2560x128.Idx → BitVec 32) (T : S2080x2x128.Idx → EReal) (W : S10304x2x128.Idx → EReal)
    (h6 : ∀ kb r κ, X6 (ix3 kb r κ) = x (ix3 r 0 (kOf kb κ 0))) (h7 : ∀ kb r κ, X7 (ix3 kb r κ) = x (ix3 r 0 (kOf kb κ 1)))
    (h2 : ∀ k : Fin 5120, (X2 (ix1 k)).toNat = 52 * (g k).val) (n : Fin 2048) (hN : 2048 * i0 + n.val < 27648)
    (h3 : ∀ w : Fin 128, X3 (ix2 w n) = Wp (ix2 (⟨128 * kb.val + w.val, by omega⟩ : Fin 512) ⟨2048 * i0 + n.val, hN⟩))
    (hP : RelHolds X3 16 P) (hT : TabGood Sc Z i0 T) (hW : WeightsHold (F := Ideal) T P X2 kb 128 W) (r : Fin 192) :
    prodAt (F := Ideal) i X6 X7 W (ix2 r n) = blockSum x Wp Sc Z g kb r ⟨2048 * i0 + n.val, hN⟩ := by
  have hu : (2048 * i0 + n.val) % 2048 / 1024 = n.val / 1024 := by omega
  refine (prodAt_apply i kb hkb X6 X7 W r n).trans (Finset.sum_congr rfl fun κ _ => ?_)
  show _ = x (ix3 r 0 (kOf kb κ ((2048 * i0 + n.val) % 2048 / 1024))) * wt Wp Sc Z g (kOf kb κ ((2048 * i0 + n.val) % 2048 / 1024)) _
  rw [hu]
  refine congrArg₂ (· * ·) ?_ (weight_eq Wp Sc Z g i0 kb n hN X2 X3 P T W h2 h3 hP hT hW κ)
  have h1 : n.val / 1024 < 2 := by omega
  generalize n.val / 1024 = u at h1 ⊢
  interval_cases u
  · exact (congrFun (if_pos rfl) _).trans (h6 kb r κ)
  · exact (congrFun (if_neg (by decide)) _).trans (h7 kb r κ)

/-- One block's step of the accumulator. -/
theorem acc_step (i : grid0.Coords) (kb : Fin 4) (hkb : (i 1).val = kb.val) (X6 X7 : S4x192x1280.Idx → EReal) (W : S10304x2x128.Idx → EReal)
    (A : S192x2048.Idx → EReal) (r : Fin 192) (n : Fin 2048) (N : Fin 27648)
    (hp : prodAt (F := Ideal) i X6 X7 W (ix2 r n) = blockSum x Wp Sc Z g kb r N)
    (hA : ¬ kb.val = 0 → A (ix2 r n) = accVal x Wp Sc Z g kb.val r N) :
    accNext (F := Ideal) i X6 X7 W A (ix2 r n) = accVal x Wp Sc Z g (kb.val + 1) r N := by
  rw [accVal_succ, ← hp]
  by_cases h : kb.val = 0
  · refine (congrFun (accNext_first (F := Ideal) i X6 X7 W A (hkb.trans h)) _).trans ?_
    rw [h, accVal_zero, zero_add]
  · refine (congrFun (accNext_later (F := Ideal) i X6 X7 W A (fun e => h (hkb.symm.trans e))) _).trans ?_
    show A (ix2 r n) + _ = _
    rw [hA h]

end Cert.Proof.KernelIdeal.Value

end
-- ==== Proof.Windows.lean ====
/-
  `KernelIdeal`: the blocks the region's windows fetch, read in the arrays they come from. The last tile overhangs the
  matrix: of its blocks only the columns that lie in the matrix are known.
-/
module

public import proofs.«01_k».proof.Proof.KernelIdealFrame
public import Idealize.ShloMosaic.Lib.ValueIdx
public import Idealize.ShloMosaic.Lib.Pipeline.FrameBody

@[expose] public section

set_option maxRecDepth 16384

noncomputable section

namespace Cert.Proof.KernelIdeal.Value

open Cert.KernelIdeal Cert.KernelIdeal.Gen
open Idealize.ShloMosaic Idealize.ShloMosaic.TcCoe Idealize.ShloMosaic.ValueIdx
open Idealize.ShloMosaic.Pipeline (RDat)

/-! ## The grid -/

theorem tile_of : ∀ t : Fin grid0.N, (grid0.coords t 0).val = t.val / 4 := by decide +kernel
theorem block_of : ∀ t : Fin grid0.N, (grid0.coords t 1).val = t.val % 4 := by decide +kernel
theorem map0 : ∀ t : Fin grid0.N, cc0_transform_0 (grid0.coords t) = ![t.val % 4, t.val / 4] := by decide +kernel
theorem map1 : ∀ t : Fin grid0.N, cc0_transform_1 (grid0.coords t) = ![0, t.val / 4] := by decide +kernel
theorem map2 : ∀ t : Fin grid0.N, cc0_transform_2 (grid0.coords t) = ![0, t.val / 4] := by decide +kernel
theorem map3 : ∀ t : Fin grid0.N, cc0_transform_3 (grid0.coords t) = ![0, 0, 0] := by decide +kernel
theorem map4 : ∀ t : Fin grid0.N, cc0_transform_4 (grid0.coords t) = ![0, 0, 0] := by decide +kernel
theorem map5 : ∀ t : Fin grid0.N, cc0_transform_5 (grid0.coords t) = ![0, t.val / 4] := by decide +kernel
theorem ext0 : ∀ t : Fin grid0.N, (clip0_0 (grid0.coords t) 0).extent 128 = 128 ∧ (clip0_0 (grid0.coords t) 1).extent 2048 = min 2048 (27648 - 2048 * (t.val / 4)) := by decide +kernel
theorem ext1 : ∀ t : Fin grid0.N, (clip0_1 (grid0.coords t) 0).extent 40 = 40 ∧ (clip0_1 (grid0.coords t) 1).extent 2048 = min 2048 (27648 - 2048 * (t.val / 4)) := by decide +kernel
theorem ext2 : ∀ t : Fin grid0.N, (clip0_2 (grid0.coords t) 0).extent 40 = 40 ∧ (clip0_2 (grid0.coords t) 1).extent 2048 = min 2048 (27648 - 2048 * (t.val / 4)) := by decide +kernel

/-! ## The fetched blocks -/

variable (m : (ℓ : Loc nD τ sig) → Buf (Elt Ideal) ℓ) (c : Dev nD)
variable (rd : RDat τ (Elt Ideal) Unit ℕ (UR sig nD τ) ℕ (cfg0 (F := Ideal) (tbl m 0)) c)

theorem fetched0 (t : Fin grid0.N) (d : S128x2048.Idx → BitVec 32) (w : Fin 128) (n : Fin 2048) (hN : 2048 * (t.val / 4) + n.val < 27648) :
    (rd.fetched 0 t d : S128x2048.Idx → BitVec 32) (ix2 w n)
      = (rd.A 0 : S512x27648.Idx → BitVec 32) (ix2 (⟨128 * (t.val % 4) + w.val, by omega⟩ : Fin 512) ⟨2048 * (t.val / 4) + n.val, hN⟩) := by
  unfold RDat.fetched Pipeline.Window.fill
  refine (dif_pos ((Pipeline.Window.moved_iff _ _ _).mpr fun a => ?_)).trans ?_
  · fin_cases a
    · show w.val < (clip0_0 (grid0.coords t) 0).extent 128
      rw [(ext0 t).1]; exact w.isLt
    · show n.val < (clip0_0 (grid0.coords t) 1).extent 2048
      rw [(ext0 t).2]; omega
  · refine congrArg (rd.A 0 : S512x27648.Idx → BitVec 32) (funext fun a => Fin.ext ?_)
    fin_cases a
    · show cc0_transform_0 (grid0.coords t) 0 * 128 + 1 * w.val = 128 * (t.val % 4) + w.val
      rw [map0]; show t.val % 4 * 128 + 1 * w.val = _; omega
    · show cc0_transform_0 (grid0.coords t) 1 * 2048 + 1 * n.val = 2048 * (t.val / 4) + n.val
      rw [map0]; show t.val / 4 * 2048 + 1 * n.val = _; omega

theorem fetched1 (t : Fin grid0.N) (d : S40x2048.Idx → EReal) (q : Fin 40) (n : Fin 2048) (hN : 2048 * (t.val / 4) + n.val < 27648) :
    (rd.fetched 1 t d : S40x2048.Idx → EReal) (ix2 q n) = (rd.A 1 : S40x27648.Idx → EReal) (ix2 q ⟨2048 * (t.val / 4) + n.val, hN⟩) := by
  unfold RDat.fetched Pipeline.Window.fill
  refine (dif_pos ((Pipeline.Window.moved_iff _ _ _).mpr fun a => ?_)).trans ?_
  · fin_cases a
    · show q.val < (clip0_1 (grid0.coords t) 0).extent 40
      rw [(ext1 t).1]; exact q.isLt
    · show n.val < (clip0_1 (grid0.coords t) 1).extent 2048
      rw [(ext1 t).2]; omega
  · refine congrArg (rd.A 1 : S40x27648.Idx → EReal) (funext fun a => Fin.ext ?_)
    fin_cases a
    · show cc0_transform_1 (grid0.coords t) 0 * 40 + 1 * q.val = q.val
      rw [map1]; show 0 * 40 + 1 * q.val = _; omega
    · show cc0_transform_1 (grid0.coords t) 1 * 2048 + 1 * n.val = 2048 * (t.val / 4) + n.val
      rw [map1]; show t.val / 4 * 2048 + 1 * n.val = _; omega

theorem fetched2 (t : Fin grid0.N) (d : S40x2048.Idx → EReal) (q : Fin 40) (n : Fin 2048) (hN : 2048 * (t.val / 4) + n.val < 27648) :
    (rd.fetched 2 t d : S40x2048.Idx → EReal) (ix2 q n) = (rd.A 2 : S40x27648.Idx → EReal) (ix2 q ⟨2048 * (t.val / 4) + n.val, hN⟩) := by
  unfold RDat.fetched Pipeline.Window.fill
  refine (dif_pos ((Pipeline.Window.moved_iff _ _ _).mpr fun a => ?_)).trans ?_
  · fin_cases a
    · show q.val < (clip0_2 (grid0.coords t) 0).extent 40
      rw [(ext2 t).1]; exact q.isLt
    · show n.val < (clip0_2 (grid0.coords t) 1).extent 2048
      rw [(ext2 t).2]; omega
  · refine congrArg (rd.A 2 : S40x27648.Idx → EReal) (funext fun a => Fin.ext ?_)
    fin_cases a
    · show cc0_transform_2 (grid0.coords t) 0 * 40 + 1 * q.val = q.val
      rw [map2]; show 0 * 40 + 1 * q.val = _; omega
    · show cc0_transform_2 (grid0.coords t) 1 * 2048 + 1 * n.val = 2048 * (t.val / 4) + n.val
      rw [map2]; show t.val / 4 * 2048 + 1 * n.val = _; omega

theorem fetched3 (t : Fin grid0.N) (d : S4x192x1280.Idx → EReal) (a : Fin 4) (b : Fin 192) (κ : Fin 1280) :
    (rd.fetched 3 t d : S4x192x1280.Idx → EReal) (ix3 a b κ) = (rd.A 3 : S4x192x1280.Idx → EReal) (ix3 a b κ) := by
  unfold RDat.fetched Pipeline.Window.fill
  refine (dif_pos ((Pipeline.Window.moved_iff _ _ _).mpr fun e => ?_)).trans ?_
  · fin_cases e
    · exact a.isLt
    · exact b.isLt
    · exact κ.isLt
  · refine congrArg (rd.A 3 : S4x192x1280.Idx → EReal) (funext fun e => Fin.ext ?_)
    fin_cases e
    · show cc0_transform_3 (grid0.coords t) 0 * 4 + 1 * a.val = a.val
      rw [map3]; show 0 * 4 + 1 * a.val = _; omega
    · show cc0_transform_3 (grid0.coords t) 1 * 192 + 1 * b.val = b.val
      rw [map3]; show 0 * 192 + 1 * b.val = _; omega
    · show cc0_transform_3 (grid0.coords t) 2 * 1280 + 1 * κ.val = κ.val
      rw [map3]; show 0 * 1280 + 1 * κ.val = _; omega

theorem fetched4 (t : Fin grid0.N) (d : S4x192x1280.Idx → EReal) (a : Fin 4) (b : Fin 192) (κ : Fin 1280) :
    (rd.fetched 4 t d : S4x192x1280.Idx → EReal) (ix3 a b κ) = (rd.A 4 : S4x192x1280.Idx → EReal) (ix3 a b κ) := by
  unfold RDat.fetched Pipeline.Window.fill
  refine (dif_pos ((Pipeline.Window.moved_iff _ _ _).mpr fun e => ?_)).trans ?_
  · fin_cases e
    · exact a.isLt
    · exact b.isLt
    · exact κ.isLt
  · refine congrArg (rd.A 4 : S4x192x1280.Idx → EReal) (funext fun e => Fin.ext ?_)
    fin_cases e
    · show cc0_transform_4 (grid0.coords t) 0 * 4 + 1 * a.val = a.val
      rw [map4]; show 0 * 4 + 1 * a.val = _; omega
    · show cc0_transform_4 (grid0.coords t) 1 * 192 + 1 * b.val = b.val
      rw [map4]; show 0 * 192 + 1 * b.val = _; omega
    · show cc0_transform_4 (grid0.coords t) 2 * 1280 + 1 * κ.val = κ.val
      rw [map4]; show 0 * 1280 + 1 * κ.val = _; omega

/-- Two points with one block index have one cut: the cut is a function of the index. -/
theorem clip_eq (w : Fin 6) (t t' : Fin grid0.N) (h : ((cfg0 (F := Ideal) (tbl m 0)).win w).index t = ((cfg0 (F := Ideal) (tbl m 0)).win w).index t') :
    ((cfg0 (F := Ideal) (tbl m 0)).win w).clip (grid0.coords t) = ((cfg0 (F := Ideal) (tbl m 0)).win w).clip (grid0.coords t') := by
  fin_cases w
  · exact congrArg (fun f : Fin 2 → Nat => fun a : Fin S512x27648.rank => Pipeline.Clip.of (f a) (S128x2048.size a) (S512x27648.size a)) h
  · exact congrArg (fun f : Fin 2 → Nat => fun a : Fin S40x27648.rank => Pipeline.Clip.of (f a) (S40x2048.size a) (S40x27648.size a)) h
  · exact congrArg (fun f : Fin 2 → Nat => fun a : Fin S40x27648.rank => Pipeline.Clip.of (f a) (S40x2048.size a) (S40x27648.size a)) h
  · rfl
  · rfl
  · exact congrArg (fun f : Fin 2 → Nat => fun a : Fin S192x27648.rank => Pipeline.Clip.of (f a) (S192x2048.size a) (S192x27648.size a)) h

end Cert.Proof.KernelIdeal.Value

end
-- ==== Proof.Entry.lean ====
/-
  `KernelIdeal`: what the region's arrays hold at its entry over the extended reals, each as the program's argument it was
  made from.
-/
module

public import proofs.«01_k».proof.Proof.KernelIdealFrame
public import proofs.«01_k».proof.Proof.Reference
public import proofs.«01_k».proof.Proof.Spec
public import Idealize.ShloMosaic.Lib.ValueIdx
public import Idealize.ShloMosaic.Lib.Pipeline.Value

@[expose] public section

set_option maxRecDepth 16384

noncomputable section

namespace Cert.Proof.KernelIdeal.Value

open Cert.KernelIdeal Cert.KernelIdeal.Gen
open Idealize.ShloMosaic Idealize.ShloMosaic.TcCoe Idealize.ShloMosaic.ValueIdx Cert.Proof.Spec

variable (m : (ℓ : Loc nD τ sig) → Buf (Elt Ideal) ℓ) (c : Dev nD)

/-- The activations' first layout. -/
theorem layout_a (x : S192x1x5120.Idx → EReal) (kb : Fin 4) (r : Fin 192) (κ : Fin 1280) :
    shapeCast S4x192x1280 (transpose S4x192x5x128x2 [1, 0, 4, 2, 3] (shapeCast S192x4x128x2x5 x shapeCasts_S192x1x5120_S192x4x128x2x5)
        transposes_S192x4x128x2x5_S4x192x5x128x2_1_0_4_2_3) shapeCasts_S4x192x5x128x2_S4x192x1280 (ix3 kb r κ)
      = x (ix3 r 0 (kOf kb κ 0)) := by
  refine (shapeCast_apply _ shapeCasts_S4x192x5x128x2_S4x192x1280 (ix3 kb r κ)
    (ix5 kb r (⟨κ.val / 2 / 128, by omega⟩ : Fin 5) (⟨κ.val / 2 % 128, by omega⟩ : Fin 128) (⟨κ.val % 2, by omega⟩ : Fin 2)) ?_).trans ?_
  · rw [Shape.rowMajor_val_three, Shape.rowMajor_val_five]
    show (((kb.val * 192 + r.val) * 5 + κ.val / 2 / 128) * 128 + κ.val / 2 % 128) * 2 + κ.val % 2 = (kb.val * 192 + r.val) * 1280 + κ.val
    omega
  · refine shapeCast_apply x shapeCasts_S192x1x5120_S192x4x128x2x5 _ (ix3 r 0 (kOf kb κ 0)) ?_
    rw [Shape.rowMajor_val_three, Shape.rowMajor_val_five]
    show (r.val * 1 + 0) * 5120 + ((128 * kb.val + κ.val / 2 % 128) * 10 + κ.val / 2 / 128 + 5 * ((κ.val % 2 + 0) % 2))
      = (((r.val * 4 + kb.val) * 128 + κ.val / 2 % 128) * 2 + κ.val % 2) * 5 + κ.val / 2 / 128
    omega

/-- The activations' second layout: the two halves of each ten channels exchanged. -/
theorem layout_b (x : S192x1x5120.Idx → EReal) (kb : Fin 4) (r : Fin 192) (κ : Fin 1280) :
    shapeCast S4x192x1280 (transpose S4x192x5x128x2 [1, 0, 4, 2, 3] (Host.reverse [3] (shapeCast S192x4x128x2x5 x shapeCasts_S192x1x5120_S192x4x128x2x5))
        transposes_S192x4x128x2x5_S4x192x5x128x2_1_0_4_2_3) shapeCasts_S4x192x5x128x2_S4x192x1280 (ix3 kb r κ)
      = x (ix3 r 0 (kOf kb κ 1)) := by
  refine (shapeCast_apply _ shapeCasts_S4x192x5x128x2_S4x192x1280 (ix3 kb r κ)
    (ix5 kb r (⟨κ.val / 2 / 128, by omega⟩ : Fin 5) (⟨κ.val / 2 % 128, by omega⟩ : Fin 128) (⟨κ.val % 2, by omega⟩ : Fin 2)) ?_).trans ?_
  · rw [Shape.rowMajor_val_three, Shape.rowMajor_val_five]
    show (((kb.val * 192 + r.val) * 5 + κ.val / 2 / 128) * 128 + κ.val / 2 % 128) * 2 + κ.val % 2 = (kb.val * 192 + r.val) * 1280 + κ.val
    omega
  · refine shapeCast_apply x shapeCasts_S192x1x5120_S192x4x128x2x5 _ (ix3 r 0 (kOf kb κ 1)) ?_
    rw [Shape.rowMajor_val_three, Shape.rowMajor_val_five]
    show (r.val * 1 + 0) * 5120 + ((128 * kb.val + κ.val / 2 % 128) * 10 + κ.val / 2 / 128 + 5 * ((κ.val % 2 + 1) % 2))
      = (((r.val * 4 + kb.val) * 128 + κ.val / 2 % 128) * 2 + (2 - (κ.val % 2 + 1))) * 5 + κ.val / 2 / 128
    omega

/-- The activations the left half of a tile meets. -/
theorem V_v2 (kb : Fin 4) (r : Fin 192) (κ : Fin 1280) :
    (V m c main_v2 : S4x192x1280.Idx → EReal) (ix3 kb r κ) = (m ((c : Thread nD τ).loc main_arg0) : S192x1x5120.Idx → EReal) (ix3 r 0 (kOf kb κ 0)) := by
  refine (congrFun (?_ : (V m c main_v2 : S4x192x1280.Idx → EReal) = _) (ix3 kb r κ)).trans (layout_a _ kb r κ)
  dsimp only [V]; after_reads_simp; rfl

/-- The activations the right half of a tile meets. -/
theorem V_v5 (kb : Fin 4) (r : Fin 192) (κ : Fin 1280) :
    (V m c main_v5 : S4x192x1280.Idx → EReal) (ix3 kb r κ) = (m ((c : Thread nD τ).loc main_arg0) : S192x1x5120.Idx → EReal) (ix3 r 0 (kOf kb κ 1)) := by
  refine (congrFun (?_ : (V m c main_v5 : S4x192x1280.Idx → EReal) = _) (ix3 kb r κ)).trans (layout_b _ kb r κ)
  dsimp only [V]; after_reads_simp; rfl

/-- The scales. -/
theorem V_v21 : (V m c main_v21 : S40x27648.Idx → EReal) = (m ((c : Thread nD τ).loc main_arg2) : S40x27648.Idx → EReal) := by
  dsimp only [V]; after_reads_simp; rfl

/-- The zero points. -/
theorem V_v18 (x : S40x27648.Idx) : (V m c main_v18 : S40x27648.Idx → EReal) x
    = (((Ref.zerosI (m ((c : Thread nD τ).loc main_arg3) : S40x2765.Idx → BitVec 32) x).toInt : ℝ) : EReal) := by
  dsimp only [V]; after_reads_simp; rfl

end Cert.Proof.KernelIdeal.Value

end
-- ==== Proof.ValueRun.lean ====
/-
  `KernelIdeal`: the region over the extended reals. Between two grid points the tables of the tile and the accumulator are
  known on the columns that lie in the matrix; at a tile's last block the output block is the sum over all channels.
-/
module

public import proofs.«01_k».proof.Proof.ValueBody
public import proofs.«01_k».proof.Proof.Sums
public import proofs.«01_k».proof.Proof.Windows
public import proofs.«01_k».proof.Proof.Entry
public import Idealize.ShloMosaic.Lib.Pipeline.ArrRel
public import Idealize.ShloMosaic.Lib.Pipeline.ValueKit.Geometry

@[expose] public section

set_option maxRecDepth 16384

noncomputable section

namespace Cert.Proof.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.Proof.Spec Cert.Proof.Layout
open Idealize.ShloMosaic.Pipeline (RDat)

local notation "𝕄" => MT nD τ sig Unit (Elt Ideal) ℕ (UR sig nD τ) ℕ

variable (m : (ℓ : Loc nD τ sig) → Buf (Elt Ideal) ℓ) (ρ : Dev nD → PrngReg) (g : Fin 5120 → Fin 40)

/-! ## The arguments -/

/-- The activations. -/
abbrev xs (c : Dev nD) : S192x1x5120.Idx → EReal := m ((c : Thread nD τ).loc main_arg0)
/-- The packed codes. -/
abbrev codes (c : Dev nD) : S512x27648.Idx → BitVec 32 := m ((c : Thread nD τ).loc main_arg1)
/-- The scales. -/
abbrev scs (c : Dev nD) : S40x27648.Idx → EReal := m ((c : Thread nD τ).loc main_arg2)
/-- The zero points. -/
abbrev zps (c : Dev nD) : S40x27648.Idx → ℝ := fun q => ((Ref.zerosI (m ((c : Thread nD τ).loc main_arg3) : S40x2765.Idx → BitVec 32) q).toInt : ℝ)

/-! ## What is known between two points -/

/-- Before point `n`, inside a tile: the tables are the tile's, the accumulator the sum of the blocks done. -/
def Known (c : Dev nD) (n : Nat) (T : S2080x2x128.Idx → EReal) (A : S192x2048.Idx → EReal) : Prop :=
  ¬ n % 4 = 0 → TabGood (scs m c) (zps m c) (n / 4) T
    ∧ ∀ (r : Fin 192) (l : Fin 2048) (hN : 2048 * (n / 4) + l.val < 27648),
        A (ix2 r l) = accVal (xs m c) (codes m c) (scs m c) (zps m c) g (n % 4) r ⟨2048 * (n / 4) + l.val, hN⟩

/-- What the output block holds after point `n`: at a tile's last block the sum over all channels. -/
def OutOk (c : Dev nD) (n : Nat) (O : S192x2048.Idx → EReal) : Prop :=
  n % 4 = 3 → ∀ (r : Fin 192) (l : Fin 2048) (hN : 2048 * (n / 4) + l.val < 27648),
    O (ix2 r l) = ∑ k : Fin 5120, term (xs m c) (codes m c) (scs m c) (zps m c) g r ⟨2048 * (n / 4) + l.val, hN⟩ k

/-- One point's step of what is known. -/
theorem point_step (c : Dev nD) (t : Fin grid0.N) (X2 : S5120.Idx → BitVec 32) (X3 : S128x2048.Idx → BitVec 32) (X4 X5 : S40x2048.Idx → EReal)
    (X6 X7 : S4x192x1280.Idx → EReal) (X8 : S192x2048.Idx → EReal) (X9 T : S2080x2x128.Idx → EReal) (X12 : S192x2048.Idx → EReal)
    (P : S2560x128.Idx → BitVec 32) (W : S10304x2x128.Idx → EReal)
    (h2 : ∀ k : Fin 5120, (X2 (ix1 k)).toNat = 52 * (g k).val)
    (h3 : ∀ (w : Fin 128) (n : Fin 2048) (hN : 2048 * (t.val / 4) + n.val < 27648),
      X3 (ix2 w n) = codes m c (ix2 (⟨128 * (t.val % 4) + w.val, by omega⟩ : Fin 512) ⟨2048 * (t.val / 4) + n.val, hN⟩))
    (h4 : ∀ (q : Fin 40) (n : Fin 2048) (hN : 2048 * (t.val / 4) + n.val < 27648), X4 (ix2 q n) = scs m c (ix2 q ⟨2048 * (t.val / 4) + n.val, hN⟩))
    (h5 : ∀ (q : Fin 40) (n : Fin 2048) (hN : 2048 * (t.val / 4) + n.val < 27648), X5 (ix2 q n) = ((zps m c (ix2 q ⟨2048 * (t.val / 4) + n.val, hN⟩) : ℝ) : EReal))
    (h6 : ∀ kb r κ, X6 (ix3 kb r κ) = xs m c (ix3 r 0 (kOf kb κ 0))) (h7 : ∀ kb r κ, X7 (ix3 kb r κ) = xs m c (ix3 r 0 (kOf kb κ 1)))
    (hk : Known m g c t.val X9 X12)
    (hrun : RelHolds X3 16 P ∧ WeightsHold (F := Ideal) T P X2 (grid0.coords t 1) 128 W ∧ ((grid0.coords t 1).val = 0 → TabHolds (F := Ideal) X4 X5 5 T)
      ∧ (¬ (grid0.coords t 1).val = 0 → T = X9)) :
    Known m g c (t.val + 1) T (accNext (F := Ideal) (grid0.coords t) X6 X7 W X12)
      ∧ OutOk m g c t.val (outNext (F := Ideal) (grid0.coords t) X8 (accNext (F := Ideal) (grid0.coords t) X6 X7 W X12)) := by
  obtain ⟨hP, hW, hT0, hT1⟩ := hrun
  have hb := block_of t
  have hkb : (grid0.coords t 1).val = (⟨t.val % 4, by omega⟩ : Fin 4).val := hb
  have hWb : WeightsHold (F := Ideal) T P X2 (⟨t.val % 4, by omega⟩ : Fin 4) 128 W := by
    have e : (grid0.coords t 1 : Fin 4) = (⟨t.val % 4, by omega⟩ : Fin 4) := Fin.ext hb
    exact e ▸ hW
  have hT : TabGood (scs m c) (zps m c) (t.val / 4) T := by
    by_cases h0 : t.val % 4 = 0
    · exact tabGood_of _ _ _ X4 X5 T h4 h5 (hT0 (hb.trans h0))
    · rw [hT1 (fun e => h0 (hb.symm.trans e))]
      exact (hk h0).1
  have hA : ∀ (r : Fin 192) (l : Fin 2048) (hN : 2048 * (t.val / 4) + l.val < 27648),
      accNext (F := Ideal) (grid0.coords t) X6 X7 W X12 (ix2 r l)
        = accVal (xs m c) (codes m c) (scs m c) (zps m c) g (t.val % 4 + 1) r ⟨2048 * (t.val / 4) + l.val, hN⟩ := by
    intro r l hN
    exact acc_step _ _ _ _ _ (grid0.coords t) (⟨t.val % 4, by omega⟩ : Fin 4) hkb X6 X7 W X12 r l _
      (prod_eq _ _ _ _ _ (grid0.coords t) (t.val / 4) (⟨t.val % 4, by omega⟩ : Fin 4) hkb X6 X7 X2 X3 P T W h6 h7 h2 l hN (fun w => h3 w l hN) hP hT hWb r)
      (fun h0 => (hk h0).2 r l hN)
  constructor
  · intro hn
    have e1 : (t.val + 1) / 4 = t.val / 4 := by omega
    have e2 : (t.val + 1) % 4 = t.val % 4 + 1 := by omega
    rw [e1, e2]
    exact ⟨hT, hA⟩
  · intro h3' r l hN
    rw [outNext_last _ _ _ (hb.trans h3')]
    refine (hA r l hN).trans ?_
    rw [h3']
    exact accVal_four _ _ _ _ _ _ _

/-! ## The proof data -/

/-- What the body may leave in each window's buffer: an input as it found it, the output block as `OutOk` says. -/
def afterV (c : Dev nD) : (w : Fin 6) → Fin grid0.N →
    (Y X : ((cfg0 (F := Ideal) (tbl m 0)).win w).block.Idx → Elt Ideal ((cfg0 (F := Ideal) (tbl m 0)).win w).elt) → Prop
  | 0, _, Y, X => X = Y
  | 1, _, Y, X => X = Y
  | 2, _, Y, X => X = Y
  | 3, _, Y, X => X = Y
  | 4, _, Y, X => X = Y
  | 5, t, _, X => OutOk m g c t.val X

/-- The body's invariant before point `n`: the tables and the accumulator at contents known as `Known` says. -/
def PhiV (c : Dev nD) (n : Nat) : sProp 𝕄 :=
  iprop(∃ (T : S2080x2x128.Idx → EReal) (A : S192x2048.Idx → EReal), ⌜Known m g c n T A⌝
    ∗ owns (c : Thread nD τ) (Memref.whole cc0_scratch0) fullShare T
    ∗ (∃ d, owns (c : Thread nD τ) (Memref.whole cc0_scratch1) fullShare d)
    ∗ (∃ d, owns (c : Thread nD τ) (Memref.whole cc0_scratch2) fullShare d)
    ∗ owns (c : Thread nD τ) (Memref.whole cc0_scratch3) fullShare A
    ∗ (∃ r, prngReg c r)
    ∗ owns (c : Thread nD τ) (Memref.whole main_v20) fullShare.right (V m 0 main_v20))

/-- The region's proof data. -/
def rdatV (c : Dev nD) : RDat τ (Elt Ideal) Unit ℕ (UR sig nD τ) ℕ (cfg0 (F := Ideal) (tbl m 0)) c where
  A w := V m c (Pipeline.arrRef spec0 w)
  after w t Y X := afterV m g c w t Y X
  Φ t := PhiV m g c t.val
  q _ := fullShare
  owed _ := 0

/-- The buffers at any contents give the invariant before the first point. -/
theorem enter (c : Dev nD) : iprop(Pipeline.ΦA spec0 c ∗ Pipeline.ΦT pre0 (tbl m 0).1 c) ⊢ PhiV m g c 0 := by
  rw [inv_eq]
  unfold PhiV
  iintro ⟨⟨⟨⟨%T, S0⟩, S1, S2, ⟨%A, S3⟩⟩, Hg⟩, HT⟩
  iexists T, A
  isplitr
  · ipureintro; exact fun h => absurd rfl h
  isplitl [S0]; · iexact S0
  isplitl [S1]; · iexact S1
  isplitl [S2]; · iexact S2
  isplitl [S3]; · iexact S3
  isplitl [Hg]; · iexact Hg
  iexact HT

/-- The invariant gives the buffers back, their contents forgotten. -/
theorem leave (c : Dev nD) (n : Nat) : PhiV m g c n ⊢ Pipeline.ΦA spec0 c := by
  have key : PhiV m g c n ⊢ iprop(Pipeline.ΦA spec0 c ∗ Pipeline.ΦT pre0 (tbl m 0).1 c) := by
    rw [inv_eq]
    unfold PhiV
    iintro ⟨%T, %A, -, S0, S1, S2, S3, Hg, HT⟩
    isplitl [S0 S1 S2 S3 Hg]
    · isplitl [S0 S1 S2 S3]
      · isplitl [S0]; · iexists T; iexact S0
        isplitl [S1]; · iexact S1
        isplitl [S2]; · iexact S2
        iexists A; iexact S3
      iexact Hg
    iexact HT
  refine key.trans ?_
  iintro ⟨H, -⟩
  iexact H

end Cert.Proof.KernelIdeal.Value

end
-- ==== Proof.ValueEnd.lean ====
/-
  `KernelIdeal`: the region run over the extended reals, and the result it leaves: at each row and column the sum over all
  input channels of the activation times the weight.
-/
module

public import proofs.«01_k».proof.Proof.ValueRun

@[expose] public section

set_option maxRecDepth 16384

noncomputable section

namespace Cert.Proof.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.Proof.Spec Cert.Proof.Layout
open Idealize.ShloMosaic.Pipeline (RDat)

local notation "𝕄" => MT nD τ sig Unit (Elt Ideal) ℕ (UR sig nD τ) ℕ

variable (m : (ℓ : Loc nD τ sig) → Buf (Elt Ideal) ℓ) (ρ : Dev nD → PrngReg) (g : Fin 5120 → Fin 40)

/-! ## The blocks the body finds -/

theorem found0 (c : Dev nD) (t : Fin grid0.N) (Y : S128x2048.Idx → BitVec 32) (h : (rdatV m g c).Finds 0 t Y) (w : Fin 128) (n : Fin 2048)
    (hN : 2048 * (t.val / 4) + n.val < 27648) :
    Y (ix2 w n) = codes m c (ix2 (⟨128 * (t.val % 4) + w.val, by omega⟩ : Fin 512) ⟨2048 * (t.val / 4) + n.val, hN⟩) := by
  obtain ⟨d, hd⟩ := RDat.finds_in_eq_fetched (rdatV m g c) 0 rfl (clip_eq m 0) (fun _ _ _ h => h) t Y h
  rw [hd]
  refine (fetched0 m c (rdatV m g c) t d w n hN).trans ?_
  exact congrFun (V_arg1 m c) _

theorem found1 (c : Dev nD) (t : Fin grid0.N) (Y : S40x2048.Idx → EReal) (h : (rdatV m g c).Finds 1 t Y) (q : Fin 40) (n : Fin 2048)
    (hN : 2048 * (t.val / 4) + n.val < 27648) : Y (ix2 q n) = scs m c (ix2 q ⟨2048 * (t.val / 4) + n.val, hN⟩) := by
  obtain ⟨d, hd⟩ := RDat.finds_in_eq_fetched (rdatV m g c) 1 rfl (clip_eq m 1) (fun _ _ _ h => h) t Y h
  rw [hd]
  refine (fetched1 m c (rdatV m g c) t d q n hN).trans ?_
  exact congrFun (V_v21 m c) _

theorem found2 (c : Dev nD) (t : Fin grid0.N) (Y : S40x2048.Idx → EReal) (h : (rdatV m g c).Finds 2 t Y) (q : Fin 40) (n : Fin 2048)
    (hN : 2048 * (t.val / 4) + n.val < 27648) : Y (ix2 q n) = ((zps m c (ix2 q ⟨2048 * (t.val / 4) + n.val, hN⟩) : ℝ) : EReal) := by
  obtain ⟨d, hd⟩ := RDat.finds_in_eq_fetched (rdatV m g c) 2 rfl (clip_eq m 2) (fun _ _ _ h => h) t Y h
  rw [hd]
  refine (fetched2 m c (rdatV m g c) t d q n hN).trans ?_
  exact V_v18 m c _

theorem found3 (c : Dev nD) (t : Fin grid0.N) (Y : S4x192x1280.Idx → EReal) (h : (rdatV m g c).Finds 3 t Y) (kb : Fin 4) (r : Fin 192) (κ : Fin 1280) :
    Y (ix3 kb r κ) = xs m c (ix3 r 0 (kOf kb κ 0)) := by
  obtain ⟨d, hd⟩ := RDat.finds_in_eq_fetched (rdatV m g c) 3 rfl (clip_eq m 3) (fun _ _ _ h => h) t Y h
  rw [hd]
  exact (fetched3 m c (rdatV m g c) t d kb r κ).trans (V_v2 m c kb r κ)

theorem found4 (c : Dev nD) (t : Fin grid0.N) (Y : S4x192x1280.Idx → EReal) (h : (rdatV m g c).Finds 4 t Y) (kb : Fin 4) (r : Fin 192) (κ : Fin 1280) :
    Y (ix3 kb r κ) = xs m c (ix3 r 0 (kOf kb κ 1)) := by
  obtain ⟨d, hd⟩ := RDat.finds_in_eq_fetched (rdatV m g c) 4 rfl (clip_eq m 4) (fun _ _ _ h => h) t Y h
  rw [hd]
  exact (fetched4 m c (rdatV m g c) t d kb r κ).trans (V_v5 m c kb r κ)

/-! ## The body -/

/-- The body at a grid point. -/
theorem bodyV (c : Dev nD) (hfit : RowsFit (V m 0 main_v20)) (h2 : ∀ k : Fin 5120, ((V m 0 main_v20 : S5120.Idx → BitVec 32) (ix1 k)).toNat = 52 * (g k).val) :
    (rdatV m g c).BodyObligation (defs₀ (F := Ideal)) 𝒱₀ () Set.univ := fun t Y hY => by
  rw [bigSep_W0, bigSep_W0]
  unfold defs₀; rw [Defs.onTc_tc]
  rw [show (rdatV m g c).Φ t.succ = PhiV m g c (t.val + 1) from rfl,
    show (rdatV m g c).owesAt () t.succ = (rdatV m g c).owesAt () t.castSucc from rfl,
    show (rdatV m g c).Φ t.castSucc = PhiV m g c t.val from rfl]
  unfold PhiV
  iintro ⟨⟨%X9, %X12, %hk, S0, S1, S2, S3, Hg, HT⟩, HO, H0, H1, H2, H3, H4, H5⟩
  iapply (kernelRun c (grid0.coords t) (Memref.whole main_v20) (Memref.isWhole_whole _) _ _ _ _ _ _ _ _ _ _ _ _ _ _ _ _ _ _ _ _ (V m 0 main_v20) hfit
    (Y 0) (Y 1) (Y 2) (Y 3) (Y 4) (Y 5) X9 X12 _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  iintro ⟨%T, %P, %W, %hrun, HT, H0, H1, H2, H3, H4, S0, S1, S2, S3, H5⟩
  have hs := point_step m g c t (V m 0 main_v20) (Y 0) (Y 1) (Y 2) (Y 3) (Y 4) (Y 5) X9 T X12 P W h2
    (found0 m g c t (Y 0) (hY 0)) (found1 m g c t (Y 1) (hY 1)) (found2 m g c t (Y 2) (hY 2)) (found3 m g c t (Y 3) (hY 3)) (found4 m g c t (Y 4) (hY 4)) hk hrun
  isplitl [S0 S1 S2 S3 Hg HT]
  · iexists T, _
    isplitr
    · ipureintro; exact hs.1
    isplitl [S0]; · iexact S0
    isplitl [S1]; · iexists P; iexact S1
    isplitl [S2]; · iexists W; iexact S2
    isplitl [S3]; · iexact S3
    isplitl [Hg]; · iexact Hg
    iexact HT
  isplitl [HO]; · iexact HO
  isplitl [H0]; · iexists (Y 0); isplitr; · ipureintro; exact rfl
                  iexact H0
  isplitl [H1]; · iexists (Y 1); isplitr; · ipureintro; exact rfl
                  iexact H1
  isplitl [H2]; · iexists (Y 2); isplitr; · ipureintro; exact rfl
                  iexact H2
  isplitl [H3]; · iexists (Y 3); isplitr; · ipureintro; exact rfl
                  iexact H3
  isplitl [H4]; · iexists (Y 4); isplitr; · ipureintro; exact rfl
                  iexact H4
  iexists _; isplitr; swap; · iexact H5
  ipureintro; exact hs.2

/-! ## The launch -/

-- the theorem's implicit arguments are found by unifying its conclusion with this statement, which unifies only when
-- unification may unfold plain definitions in a metavariable's type
set_option backward.isDefEq.respectTransparency.types false in
/-- The region's run, the arrays it leaves related to the contents the body may have left. -/
theorem run_region (hfit : RowsFit (V m 0 main_v20)) (h2 : ∀ k : Fin 5120, ((V m 0 main_v20 : S5120.Idx → BitVec 32) (ix1 k)).toNat = 52 * (g k).val) :
    θ_run (defs (F := Ideal)) (onTc (τ := τ) (main (F := Ideal))) ⟨m, fun _ => 0, ρ⟩
      (fun r => RDat.FramePost (cfg0 (F := Ideal) (tbl m 0)) (rdatV m g) (V m) r ∧ r.2.sem = fun _ => 0) :=
  RDat.θ_run_frameP_track (pcfgs (F := Ideal)) (tbl m) (0 : Fin 1) launch0 defs₀ 𝒱₀ (rdatV m g) m ρ main
    (hbody := fun c => bodyV m g c hfit h2) (hshare := fun c w => (rdatV m g c).share_full (fun _ => rfl) w)
    (howed := fun _ _ => rfl) (V := V m)
    (hmain := Pipeline.hmainP_prefix (pcfgs (F := Ideal)) (0 : Fin 1) defs₀ 𝒱₀ m main hostOps0 hostOps0_sub hostOps0_fresh main_chain)
    (hA := fun _ _ => rfl) (hpf := fun c k => by obtain rfl := Subsingleton.elim c 0; rfl)
    (hin := fun c => enter m g c) (hout := fun c => leave m g c _) (Q' := _) (hQ' := fun _ h => h)

end Cert.Proof.KernelIdeal.Value

end
-- ==== Proof.Result.lean ====
/-
  `KernelIdeal`: the result the region leaves: at each row and column the sum over all input channels of the activation
  times the weight.
-/
module

public import proofs.«01_k».proof.Proof.ValueRun

@[expose] public section

set_option maxRecDepth 16384

noncomputable section

namespace Cert.Proof.KernelIdeal.Value

open Cert.KernelIdeal Cert.KernelIdeal.Gen
open Idealize.ShloMosaic Idealize.ShloMosaic.TcCoe
open Idealize.ShloMosaic.ValueIdx Cert.Proof.Spec
open Idealize.ShloMosaic.Pipeline (RDat Dat)

variable (m : (ℓ : Loc nD τ sig) → Buf (Elt Ideal) ℓ) (g : Fin 5120 → Fin 40)

/-- The result: at each row and column the sum over all channels. -/
def result (c : Dev nD) : S192x27648.Idx → EReal :=
  fun i => ∑ k : Fin 5120, term (xs m c) (codes m c) (scs m c) (zps m c) g (i 0) (i 1) k

/-- Inside a tile the next point has the same output block. -/
theorem same_block : ∀ t : Fin grid0.N, ¬ t.val % 4 = 3 → ∃ h : t.val + 1 < grid0.N,
    cc0_transform_5 (grid0.coords ⟨t.val + 1, h⟩) = cc0_transform_5 (grid0.coords t) := by decide +kernel

/-- The last point of a tile ends the grid or moves the output block. -/
theorem next_block : ∀ t : Fin grid0.N, t.val % 4 = 3 → t.val + 1 = grid0.N ∨ ∃ h : t.val + 1 < grid0.N,
    cc0_transform_5 (grid0.coords ⟨t.val + 1, h⟩) ≠ cc0_transform_5 (grid0.coords t) := by decide +kernel

theorem ext5 : ∀ t : Fin grid0.N, (clip0_5 (grid0.coords t) 0).extent 192 = 192 ∧ (clip0_5 (grid0.coords t) 1).extent 2048 = min 2048 (27648 - 2048 * (t.val / 4)) := by decide +kernel

/-- The output block is written back only at a tile's last block. -/
theorem flush_last (t : Fin grid0.N) (h : ((cfg0 (F := Ideal) (tbl m 0)).win 5).flush t = true) : t.val % 4 = 3 := by
  by_contra hn
  obtain ⟨hl, he⟩ := same_block t hn
  unfold Pipeline.Window.flush at h
  rw [Bool.and_eq_true, Bool.or_eq_true, decide_eq_true_iff, decide_eq_true_iff] at h
  rcases h.2 with h | ⟨_, h⟩
  · exact absurd (show t.val + 1 = grid0.N from h) (by omega)
  · exact h he

/-- At a tile's last block the output block is written back. -/
theorem last_flush (t : Fin grid0.N) (h : t.val % 4 = 3) : ((cfg0 (F := Ideal) (tbl m 0)).win 5).flush t = true := by
  unfold Pipeline.Window.flush
  rw [Bool.and_eq_true, Bool.or_eq_true, decide_eq_true_iff, decide_eq_true_iff]
  exact ⟨rfl, next_block t h⟩

/-- Every row and column lies in a block that is written back. -/
theorem covered (i : S192x27648.Idx) : ∃ t : Fin grid0.N, ((cfg0 (F := Ideal) (tbl m 0)).win 5).flush t = true ∧
    i ∈ (((cfg0 (F := Ideal) (tbl m 0)).win 5).blk t).view.set := by
  have h1 : (i 1).val < 27648 := (i 1).isLt
  have h0 : (i 0).val < 192 := (i 0).isLt
  obtain ⟨t, ht⟩ : ∃ t : Fin grid0.N, t.val = 4 * ((i 1).val / 2048) + 3 :=
    ⟨⟨4 * ((i 1).val / 2048) + 3, by show _ < 56; omega⟩, rfl⟩
  have hq : t.val / 4 = (i 1).val / 2048 := by omega
  refine ⟨t, last_flush m t (by omega), ?_⟩
  refine (Pipeline.Window.emb_mem_blk_iff ((cfg0 (F := Ideal) (tbl m 0)).win 5) t i rfl).mpr fun a => ?_
  fin_cases a
  · show cc0_transform_5 (grid0.coords t) 0 * 192 ≤ (i 0).val ∧ (i 0).val < cc0_transform_5 (grid0.coords t) 0 * 192 + (clip0_5 (grid0.coords t) 0).extent 192
    rw [map5, (ext5 t).1]
    show 0 * 192 ≤ (i 0).val ∧ (i 0).val < 0 * 192 + 192
    omega
  · show cc0_transform_5 (grid0.coords t) 1 * 2048 ≤ (i 1).val ∧ (i 1).val < cc0_transform_5 (grid0.coords t) 1 * 2048 + (clip0_5 (grid0.coords t) 1).extent 2048
    rw [map5, (ext5 t).2]
    show t.val / 4 * 2048 ≤ (i 1).val ∧ (i 1).val < t.val / 4 * 2048 + min 2048 (27648 - 2048 * (t.val / 4))
    omega

/-- The array the region leaves. -/
theorem array_eq (c : Dev nD) (after : (w' : Fin (cfg0 (F := Ideal) (tbl m 0)).W) → Fin (cfg0 (F := Ideal) (tbl m 0)).N →
      ((cfg0 (F := Ideal) (tbl m 0)).win w').block.Idx → Elt Ideal ((cfg0 (F := Ideal) (tbl m 0)).win w').elt)
    (hL : ∀ (w : Fin (cfg0 (F := Ideal) (tbl m 0)).W) (u : Fin (cfg0 (F := Ideal) (tbl m 0)).N), ((cfg0 (F := Ideal) (tbl m 0)).win w).flush u = true → (rdatV m g c).Leaves w u (after w u)) :
    ((rdatV m g c).withAfter after).arrAt 5 (cfg0 (F := Ideal) (tbl m 0)).N = result m g c := by
  refine Dat.arrAt_eq_of_emb ((rdatV m g c).withAfter after) 5 (result m g c) (fun t hf y => ?_) (fun i => ?_)
  · obtain ⟨Y, -, hO⟩ := hL 5 t hf
    have ht := flush_last m t hf
    have hr : (y (0 : Fin 2)).val < 192 := lt_of_lt_of_eq (y (0 : Fin 2)).isLt (ext5 t).1
    have hl : (y (1 : Fin 2)).val < min 2048 (27648 - 2048 * (t.val / 4)) := lt_of_lt_of_eq (y (1 : Fin 2)).isLt (ext5 t).2
    have hN : 2048 * (t.val / 4) + (y (1 : Fin 2)).val < 27648 := by omega
    have e := (show OutOk m g c t.val (after 5 t) from hO) ht ⟨(y (0 : Fin 2)).val, hr⟩ ⟨(y (1 : Fin 2)).val, by omega⟩ hN
    have ey : ((cfg0 (F := Ideal) (tbl m 0)).win 5).xinj (grid0.coords t) y = (ix2 (⟨(y (0 : Fin 2)).val, hr⟩ : Fin 192) (⟨(y (1 : Fin 2)).val, by omega⟩ : Fin 2048) : S192x2048.Idx) := by
      funext a
      fin_cases a <;> rfl
    have ei : (((cfg0 (F := Ideal) (tbl m 0)).win 5).blk t).view.emb y = (ix2 (⟨(y (0 : Fin 2)).val, hr⟩ : Fin 192) (⟨2048 * (t.val / 4) + (y (1 : Fin 2)).val, hN⟩ : Fin 27648) : S192x27648.Idx) := by
      funext a
      fin_cases a <;> apply Fin.ext
      · show cc0_transform_5 (grid0.coords t) 0 * 192 + 1 * (y (0 : Fin 2)).val = (y (0 : Fin 2)).val
        rw [map5]; show 0 * 192 + 1 * (y (0 : Fin 2)).val = _; omega
      · show cc0_transform_5 (grid0.coords t) 1 * 2048 + 1 * (y (1 : Fin 2)).val = 2048 * (t.val / 4) + (y (1 : Fin 2)).val
        rw [map5]; show t.val / 4 * 2048 + 1 * (y (1 : Fin 2)).val = _; omega
    refine (congrArg (after 5 t) ey).trans (e.trans ?_)
    exact (congrArg (result m g c) ei).symm
  · exact covered m i

end Cert.Proof.KernelIdeal.Value

end
-- ==== Proof.RefValue.lean ====
/-
  The reference's result over the extended reals: at each entry, the sum over the input channels of the activation times
  the channel's weight.
-/
module

public import proofs.«01_k».proof.Proof.Reference
public import proofs.«01_k».proof.Proof.Spec
public import Idealize.ShloMosaic.Lib.ValueIdx
public import Idealize.ShloMosaic.Lib.StackMember
public import Idealize.ShloMosaic.Lib.Routing.Ops

@[expose] public section

set_option maxRecDepth 16384

noncomputable section

namespace Cert.Proof.Ref

open Cert.ReferenceIdeal Cert.ReferenceIdeal.Gen
open Idealize.ShloMosaic Idealize.ShloMosaic.ValueIdx Cert.Proof.Spec

/-- Three bits of a word, taken by an arithmetic shift, are its field. -/
theorem field_word (j : Fin 10) (w : BitVec 32) : ((IntOp.andi (IntOp.shrsi .host w (IntOp.muli 3#32 (BitVec.ofNat 32 j.val))) 7#32).toInt : ℝ) = (field j.val w : ℝ) := by
  have hm : (IntOp.muli 3#32 (BitVec.ofNat 32 j.val)).toNat = 3 * j.val := by revert j; decide
  have hs : IntOp.shrsi .host w (IntOp.muli 3#32 (BitVec.ofNat 32 j.val)) = w.sshiftRight (3 * j.val) := by
    unfold IntOp.shrsi
    rw [hm, if_pos (by omega), BitVec.sshiftRight', hm]
  have he : IntOp.andi (w.sshiftRight (3 * j.val)) 7#32 = (w.extractLsb' (3 * j.val) 3).setWidth 32 := by
    unfold IntOp.andi
    clear hs hm
    fin_cases j <;>
      (apply BitVec.eq_of_getLsbD_eq
       intro i hi
       simp [BitVec.getLsbD_and, BitVec.getLsbD_sshiftRight, BitVec.getLsbD_extractLsb', BitVec.getLsbD_setWidth]
       interval_cases i <;> simp)
  rw [hs, he, BitVec.toInt_eq_toNat_of_lt (by
    have := (w.extractLsb' (3 * j.val) 3).isLt
    rw [BitVec.toNat_setWidth_of_le (by decide)]; omega), BitVec.toNat_setWidth_of_le (by decide)]
  unfold field
  rw [BitVec.extractLsb'_toNat, Nat.shiftRight_eq_div_pow]
  norm_cast

theorem xr_apply (a0 : S192x1x5120.Idx → EReal) (m : Fin 192) (r : Fin 5120) : xr (F := Ideal) a0 (ix2 m r) = a0 (ix3 m 0 (kRef r)) := by
  refine (shapeCast_apply _ shapeCasts_S192x10x512_S192x5120 (ix2 m r) (ix3 m (⟨r.val / 512, by omega⟩ : Fin 10) (⟨r.val % 512, by omega⟩ : Fin 512)) (by
    rw [Shape.rowMajor_val_three, Shape.rowMajor_val_two]
    show (m.val * 10 + r.val / 512) * 512 + r.val % 512 = m.val * 5120 + r.val
    omega)).trans ?_
  show shapeCast S192x512x10 a0 shapeCasts_S192x1x5120_S192x512x10 _ = _
  refine shapeCast_apply a0 shapeCasts_S192x1x5120_S192x512x10 _ (ix3 m 0 (kRef r)) ?_
  rw [Shape.rowMajor_val_three, Shape.rowMajor_val_three]
  show (m.val * 1 + 0) * 5120 + (r.val % 512 * 10 + r.val / 512) = (m.val * 512 + r.val % 512) * 10 + r.val / 512
  omega

theorem gr_apply (a4 : S5120.Idx → BitVec 32) (r : Fin 5120) : gr a4 (ix1 r) = a4 (ix1 (kRef r)) := by
  refine (shapeCast_apply _ shapeCasts_S10x512_S5120 (ix1 r) (ix2 (⟨r.val / 512, by omega⟩ : Fin 10) (⟨r.val % 512, by omega⟩ : Fin 512)) (by
    rw [Shape.rowMajor_val_one, Shape.rowMajor_val_two]
    show r.val / 512 * 512 + r.val % 512 = r.val
    omega)).trans ?_
  show shapeCast S512x10 a4 shapeCasts_S5120_S512x10 _ = _
  refine shapeCast_apply a4 shapeCasts_S5120_S512x10 _ (ix1 (kRef r)) ?_
  rw [Shape.rowMajor_val_one, Shape.rowMajor_val_two]
  rfl

theorem codesI_apply (a1 : S512x27648.Idx → BitVec 32) (j : Fin 10) (w : Fin 512) (n : Fin 27648) :
    codesI a1 (ix3 j w n) = IntOp.andi (IntOp.shrsi .host (a1 (ix2 w n)) (IntOp.muli 3#32 (BitVec.ofNat 32 j.val))) 7#32 := by
  unfold codesI
  refine congrArg₂ IntOp.andi (congrArg₂ (IntOp.shrsi .host) ?_ ?_) rfl
  · refine (broadcastInDim_apply _ bcast_S1x512x27648_S10x512x27648_0_1_2 _ _ (ix3 (0 : Fin 1) w n) (by intro a; fin_cases a <;> rfl)).trans ?_
    exact broadcastInDim_apply _ bcast_S512x27648_S1x512x27648_1_2 a1 _ (ix2 w n) (by intro a; fin_cases a <;> rfl)
  · refine (broadcastInDim_apply _ bcast_S10x1x1_S10x512x27648_0_1_2 _ _ (ix3 j (0 : Fin 1) (0 : Fin 1)) (by intro a; fin_cases a <;> rfl)).trans ?_
    exact broadcastInDim_apply _ bcast_S10_S10x1x1_0 shifts _ (ix1 j) (by intro a; fin_cases a; rfl)

theorem rowOf_apply (r : S5120.Idx → BitVec 32) (k : Fin 5120) (hr : (r (ix1 k)).toNat < 40) : rowOf r (ix2 k 0) = r (ix1 k) := by
  have e : rowOf r (ix2 k 0) = if IntOp.cmpi .slt (r (ix1 k)) 0#32 = 1#1 then IntOp.addi (r (ix1 k)) 40#32 else r (ix1 k) :=
    broadcastInDim_apply _ bcast_S5120_S5120x1_0 _ _ (ix1 k) (by intro a; fin_cases a; rfl)
  rw [e, if_neg]
  have h : ¬ (r (ix1 k)).slt 0#32 = true := by
    rw [BitVec.slt_iff_toInt_lt, BitVec.toInt_eq_toNat_of_lt (by omega)]
    simp
  simp [IntOp.cmpi, h]

theorem rowsAt_apply {φ : FTy} (t : S40x27648.Idx → EReal) (a4 : S5120.Idx → BitVec 32) (r : Fin 5120) (n : Fin 27648) (q : Fin 40)
    (hq : (a4 (ix1 (kRef r))).toNat = q.val) : rowsAt (F := Ideal) (φ := φ) t a4 (ix2 r n) = t (ix2 q n) := by
  refine Routing.gather_row _ rfl rfl rfl rfl rfl t _ r n q ?_ (by decide)
  refine (rowOf_apply (gr a4) r (by rw [gr_apply, hq]; exact q.isLt)).trans ?_
  rw [gr_apply, ← hq, BitVec.ofNat_toNat, BitVec.setWidth_eq]

/-- A weight of the reference. -/
theorem weights_apply (a1 : S512x27648.Idx → BitVec 32) (a2 : S40x27648.Idx → EReal) (a3 : S40x2765.Idx → BitVec 32) (a4 : S5120.Idx → BitVec 32)
    (g : Fin 5120 → Fin 40) (hg : ∀ k, (a4 (ix1 k)).toNat = (g k).val) (r : Fin 5120) (n : Fin 27648) :
    weights (F := Ideal) a1 a2 a3 a4 (ix2 r n) = wt a1 a2 (fun x => ((zerosI a3 x).toInt : ℝ)) g (kRef r) n := by
  show (shapeCast S5120x27648 (sitofp .bf16 (codesI a1) : FVec Ideal S10x512x27648 .bf16) shapeCasts_S10x512x27648_S5120x27648 (ix2 r n)
    - rowsAt (F := Ideal) (φ := .bf16) (sitofp .bf16 (zerosI a3) : FVec Ideal S40x27648 .bf16) a4 (ix2 r n)) * rowsAt (F := Ideal) (φ := .bf16) a2 a4 (ix2 r n) = _
  rw [rowsAt_apply _ _ r n (g (kRef r)) (hg _), rowsAt_apply _ _ r n (g (kRef r)) (hg _)]
  have hc : shapeCast S5120x27648 (sitofp .bf16 (codesI a1) : FVec Ideal S10x512x27648 .bf16) shapeCasts_S10x512x27648_S5120x27648 (ix2 r n)
      = (((codesI a1 (ix3 (⟨r.val / 512, by omega⟩ : Fin 10) (⟨r.val % 512, by omega⟩ : Fin 512) n)).toInt : ℝ) : EReal) :=
    shapeCast_apply _ shapeCasts_S10x512x27648_S5120x27648 (ix2 r n) (ix3 (⟨r.val / 512, by omega⟩ : Fin 10) (⟨r.val % 512, by omega⟩ : Fin 512) n) (by
      rw [Shape.rowMajor_val_three, Shape.rowMajor_val_two]
      show (r.val / 512 * 512 + r.val % 512) * 27648 + n.val = r.val * 27648 + n.val
      omega)
  rw [hc, codesI_apply, field_word]
  have k1 : (kRef r).val % 10 = r.val / 512 := by show (r.val % 512 * 10 + r.val / 512) % 10 = _; omega
  have k2 : (⟨(kRef r).val / 10, by omega⟩ : Fin 512) = ⟨r.val % 512, by omega⟩ := Fin.ext (by show (r.val % 512 * 10 + r.val / 512) / 10 = r.val % 512; omega)
  unfold wt
  rw [k1, k2, EReal.coe_sub]
  rfl

/-- An entry of the reference's result. -/
theorem refOut_apply (a0 : S192x1x5120.Idx → EReal) (a1 : S512x27648.Idx → BitVec 32) (a2 : S40x27648.Idx → EReal) (a3 : S40x2765.Idx → BitVec 32) (a4 : S5120.Idx → BitVec 32)
    (g : Fin 5120 → Fin 40) (hg : ∀ k, (a4 (ix1 k)).toNat = (g k).val) (m : Fin 192) (n : Fin 27648) :
    refOut (F := Ideal) a0 a1 a2 a3 a4 (ix2 m n)
      = ∑ k : Fin 5120, a0 (ix3 m 0 k) * wt a1 a2 (fun x => ((zerosI a3 x).toInt : ℝ)) g k n := by
  refine (StackMember.dotGeneral_plain_apply (m := 192) (k := 5120) (n := 27648) none _ _ _ _).trans ?_
  rw [← sum_ref (fun k => a0 (ix3 m 0 k) * wt a1 a2 (fun x => ((zerosI a3 x).toInt : ℝ)) g k n)]
  exact Finset.sum_congr rfl fun r _ => congrArg₂ (· * ·) (xr_apply a0 m r) (weights_apply a1 a2 a3 a4 g hg r n)

end Cert.Proof.Ref

end
-- ==== Proof.Algebraic.lean ====
/-
  The idealized kernel and the reference leave equal results over the extended reals.
-/
module

public import proofs.«01_k».proof.Defs
public import proofs.«01_k».proof.Proof.ValueEnd
public import proofs.«01_k».proof.Proof.Result
public import proofs.«01_k».proof.Proof.RefValue
public import Idealize.ShloMosaic.Lib.Pipeline.ArrRel

@[expose] public section

set_option maxRecDepth 16384

noncomputable section

namespace Cert.Proof.KernelIdeal.Value

open Cert.KernelIdeal Cert.KernelIdeal.Gen
open Idealize.ShloMosaic Idealize.ShloMosaic.TcCoe Idealize.SL.Sem
open Idealize.ShloMosaic.ValueIdx Cert.Proof.Spec
open Idealize.ShloMosaic.Pipeline (RDat)

variable (m : (ℓ : Loc nD τ sig) → Buf (Elt Ideal) ℓ) (ρ : Dev nD → PrngReg)

/-- The group of each channel, when every group exists. -/
def groupOf (hg : GroupsExist (m (((0 : Dev nD) : Thread nD τ).loc main_arg4))) (k : Fin 5120) : Fin 40 :=
  ⟨((m (((0 : Dev nD) : Thread nD τ).loc main_arg4) : S5120.Idx → BitVec 32) (ix1 k)).toNat, hg _⟩

/-- The idealized kernel's run: its result is at each row and column the sum over all channels, its arguments unchanged. -/
theorem run_value (hg : GroupsExist (m (((0 : Dev nD) : Thread nD τ).loc main_arg4))) :
    θ_run (defs (F := Ideal)) (onTc (τ := τ) (main (F := Ideal))) ⟨m, fun _ => 0, ρ⟩ (fun r => ∀ c : Dev nD,
      r.2.mem ((c.tc : Thread nD τ).loc main_v22) = result m (groupOf m hg) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r (h : _ ∧ _) c => by
    obtain ⟨after, hL, hA⟩ := RDat.FramePost.exists_exact h.1 c
    exact ⟨(hA 5).trans (array_eq m (groupOf m hg) c after hL),
     ((h.1 c).2 main_arg0 (Pipeline.mem_restRefs_of main_arg0 (by decide) (arg_ne.1))).trans (V_arg0 m c),
     ((RDat.FramePost.arr_in h.1 c 0 rfl)).trans (V_arg1 m c),
     ((h.1 c).2 main_arg2 (Pipeline.mem_restRefs_of main_arg2 (by decide) (arg_ne.2.1))).trans (V_arg2 m c),
     ((h.1 c).2 main_arg3 (Pipeline.mem_restRefs_of main_arg3 (by decide) (arg_ne.2.2.1))).trans (V_arg3 m c),
     ((h.1 c).2 main_arg4 (Pipeline.mem_restRefs_of main_arg4 (by decide) (arg_ne.2.2.2))).trans (V_arg4 m c)⟩)
    (run_region m ρ (groupOf m hg) (rowsFit_V m 0 hg) (fun k => by rw [V_v20]; exact entry_toNat _ (hg _)))

end Cert.Proof.KernelIdeal.Value

namespace Cert.Proof

open Idealize.ShloMosaic Idealize.ShloMosaic.TcCoe Idealize.SL.Sem Idealize.ShloMosaic.ValueIdx

/-- The reference's result of the kernel's arguments is the kernel's. -/
theorem refOut_eq_result (m : (ℓ : Loc Cert.KernelIdeal.nD Cert.KernelIdeal.τ Cert.KernelIdeal.sig) → Buf (Elt Ideal) ℓ)
    (hg : GroupsExist (m (((0 : Dev Cert.KernelIdeal.nD) : Thread Cert.KernelIdeal.nD Cert.KernelIdeal.τ).loc Cert.KernelIdeal.main_arg4))) :
    Ref.refOut (F := Ideal) (KernelIdeal.Value.xs m 0) (KernelIdeal.Value.codes m 0) (KernelIdeal.Value.scs m 0)
        (m (((0 : Dev Cert.KernelIdeal.nD) : Thread Cert.KernelIdeal.nD Cert.KernelIdeal.τ).loc Cert.KernelIdeal.main_arg3))
        (m (((0 : Dev Cert.KernelIdeal.nD) : Thread Cert.KernelIdeal.nD Cert.KernelIdeal.τ).loc Cert.KernelIdeal.main_arg4))
      = KernelIdeal.Value.result m (KernelIdeal.Value.groupOf m hg) 0 := by
  funext i
  rw [show i = ix2 (i 0) (i 1) from by funext a; fin_cases a <;> rfl]
  exact Ref.refOut_apply _ _ _ _ _ (KernelIdeal.Value.groupOf m hg) (fun _ => rfl) (i 0) (i 1)

end Cert.Proof

end
-- ==== Proof.lean ====
/-
  The proof of `Cert.Claim`: the frames of the kernel, of its idealization and of the reference, the idealization's
  rewrites each an instance of its rule, and the value claim: the idealized kernel and the reference leave equal results.
-/
module

public import proofs.«01_k».proof.Defs
public import proofs.«01_k».proof.Proof.KernelFrame
public import proofs.«01_k».proof.Proof.KernelIdealFrame
public import proofs.«01_k».proof.Proof.Reference
public import proofs.«01_k».proof.Proof.Algebraic
public import Idealize.ShloMosaic.Lib.Bf16Pair
public import Idealize.ShloMosaic.Lib.Bf16PairInverse

@[expose] public section

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_groups_exist.Facts := Cert.Pre_groups_exist.Gen.facts

/-- The kernel runs, its arguments unchanged and every counter zero at the end. -/
theorem frame_p : Cert.quiescent_Kernel := fun m g h =>
  Kernel.quiescent m g (groupsExist_of_pre _ _ _ _ _ (h 0))

/-- The idealized kernel runs, its arguments unchanged and every counter zero at the end. -/
theorem frame_pi : Cert.quiescent_KernelIdeal := fun m g h =>
  KernelIdeal.quiescent m g (groupsExist_of_pre _ _ _ _ _ (h 0))

/-- The reference runs, its arguments unchanged and every counter zero at the end, -/
theorem frame_ri : Cert.quiescent_ReferenceIdeal := fun m g _ =>
  (θ_run _ _ _).mono (fun _ h => ⟨fun c => (h.1 c).2, h.2⟩) (Ref.run_main m g)

/-- and so it does under the precondition. -/
theorem frame_ri_pre : Cert.quiescent_ReferenceIdeal_pre_groups_exist := fun m g _ =>
  (θ_run _ _ _).mono (fun _ h => ⟨fun c => (h.1 c).2, h.2⟩) (Ref.run_main m g)

/-- Each rewrite of the idealization is an instance of its rule. -/
theorem preserves : Cert.preserves_Kernel_KernelIdeal :=
  ⟨IdealRules.bf16_pair.bufferStatement _ _, IdealRules.bf16_pair.bufferStatement _ _, IdealRules.bf16_pair.packStatement _,
    IdealRules.bf16_pair.statement _ _, IdealRules.bf16_pair.statement _ _, IdealRules.bf16_pair.statement _ _,
    IdealRules.bf16_pair.statement _ _⟩

/-- The idealized kernel and the reference, run on equal arguments, leave equal results. -/
theorem algebraic : Cert.algebraic_KernelIdeal_ReferenceIdeal := fun m g m' g' h hargs =>
  have hg := groupsExist_of_pre _ _ _ _ _ (h 0)
  ⟨fun c => KernelIdeal.Value.result m (KernelIdeal.Value.groupOf m hg) c, KernelIdeal.Value.run_value m g hg,
    (θ_run _ _ _).mono (fun r hr c => by
      obtain rfl := Subsingleton.elim c 0
      refine ⟨((hr.1 0).1).trans ?_, (hr.1 0).2⟩
      obtain ⟨e0, e1, e2, e3, e4⟩ := hargs 0
      rw [e0, e1, e2, e3, e4]
      exact refOut_eq_result m hg) (Ref.run_main m' g')⟩

end Cert.Proof

/-- All the claims. -/
theorem Cert.Proof.claim : Cert.Claim :=
  ⟨Cert.Kernel.Gen.facts, Cert.KernelIdeal.Gen.facts, Cert.ReferenceIdeal.Gen.facts, Cert.Pre_groups_exist.Gen.facts,
    Cert.Proof.frame_p, Cert.Proof.frame_pi, Cert.Proof.frame_ri, Cert.Proof.frame_ri_pre, Cert.Proof.preserves, Cert.Proof.algebraic⟩

end
